-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Swiglu [hPre_experts2 : Cert.Pre_experts2.Facts] (m : (ℓ : Loc Cert.Swiglu.nD Cert.Swiglu.τ Cert.Swiglu.sig) → Buf (Elt Bits) ℓ) : Prop :=
  ∀ c : Dev Cert.Swiglu.nD,
    (Cert.Pre_experts2.fn (F := Bits) (m ((c.tc : Thread Cert.Swiglu.nD Cert.Swiglu.τ).loc Cert.Swiglu.main_arg0)) (m ((c.tc : Thread Cert.Swiglu.nD Cert.Swiglu.τ).loc Cert.Swiglu.main_arg1)) (m ((c.tc : Thread Cert.Swiglu.nD Cert.Swiglu.τ).loc Cert.Swiglu.main_arg2)) (m ((c.tc : Thread Cert.Swiglu.nD Cert.Swiglu.τ).loc Cert.Swiglu.main_arg3)) (m ((c.tc : Thread Cert.Swiglu.nD Cert.Swiglu.τ).loc Cert.Swiglu.main_arg4))).1 = (fun _ => 1#1)
    ∧ (Cert.Pre_experts2.fn (F := Bits) (m ((c.tc : Thread Cert.Swiglu.nD Cert.Swiglu.τ).loc Cert.Swiglu.main_arg0)) (m ((c.tc : Thread Cert.Swiglu.nD Cert.Swiglu.τ).loc Cert.Swiglu.main_arg1)) (m ((c.tc : Thread Cert.Swiglu.nD Cert.Swiglu.τ).loc Cert.Swiglu.main_arg2)) (m ((c.tc : Thread Cert.Swiglu.nD Cert.Swiglu.τ).loc Cert.Swiglu.main_arg3)) (m ((c.tc : Thread Cert.Swiglu.nD Cert.Swiglu.τ).loc Cert.Swiglu.main_arg4))).2 = (fun _ => 1#1)

def Pre_SwigluIdeal [hPre_experts2 : Cert.Pre_experts2.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_experts2.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).1 = (fun _ => 1#1)
    ∧ (Cert.Pre_experts2.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_experts2 [hPre_experts2 : Cert.Pre_experts2.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_experts2.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).1 = (fun _ => 1#1)
    ∧ (Cert.Pre_experts2.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2 = (fun _ => 1#1)

def Pre_Down [hPre_experts3 : Cert.Pre_experts3.Facts] (m : (ℓ : Loc Cert.Down.nD Cert.Down.τ Cert.Down.sig) → Buf (Elt Bits) ℓ) : Prop :=
  ∀ c : Dev Cert.Down.nD,
    (Cert.Pre_experts3.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))).1 = (fun _ => 1#1)
    ∧ (Cert.Pre_experts3.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))).2 = (fun _ => 1#1)

def Pre_DownIdeal [hPre_experts3 : Cert.Pre_experts3.Facts] (m : (ℓ : Loc Cert.DownIdeal.nD Cert.DownIdeal.τ Cert.DownIdeal.sig) → Buf (Elt Ideal) ℓ) : Prop :=
  ∀ c : Dev Cert.DownIdeal.nD,
    (Cert.Pre_experts3.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_experts3.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_experts3 [hPre_experts3 : Cert.Pre_experts3.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_experts3.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_experts3.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Swiglu [hSwiglu : Cert.Swiglu.Facts] [hPre_experts2 : Cert.Pre_experts2.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] [hPre_experts2 : Cert.Pre_experts2.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_experts2 [hSwigluRefIdeal : Cert.SwigluRefIdeal.Facts] [hPre_experts2 : Cert.Pre_experts2.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_experts2 m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_Down [hDown : Cert.Down.Facts] [hPre_experts3 : Cert.Pre_experts3.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_experts3 : Cert.Pre_experts3.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_experts3 [hDownRefIdeal : Cert.DownRefIdeal.Facts] [hPre_experts3 : Cert.Pre_experts3.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_experts3 m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Swiglu_SwigluIdeal : Prop :=
  True

def algebraic_SwigluIdeal_SwigluRefIdeal [hSwigluIdeal : Cert.SwigluIdeal.Facts] [hSwigluRefIdeal : Cert.SwigluRefIdeal.Facts] [hPre_experts2 : Cert.Pre_experts2.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v34) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_Down_DownIdeal : Prop :=
  True

def algebraic_DownIdeal_DownRefIdeal [hDownIdeal : Cert.DownIdeal.Facts] [hDownRefIdeal : Cert.DownRefIdeal.Facts] [hPre_experts3 : Cert.Pre_experts3.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v23) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v13) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v4) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v11) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v36)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v36) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v34) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hDense : Cert.Dense.Facts) (hDenseIdeal : Cert.DenseIdeal.Facts) (hDenseRefIdeal : Cert.DenseRefIdeal.Facts) (hGlu : Cert.Glu.Facts) (hGluIdeal : Cert.GluIdeal.Facts) (hGluRefIdeal : Cert.GluRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hRope : Cert.Rope.Facts) (hRopeIdeal : Cert.RopeIdeal.Facts) (hRopeRefIdeal : Cert.RopeRefIdeal.Facts) (hPre_finite : Cert.Pre_finite.Facts) (hPre_experts2 : Cert.Pre_experts2.Facts) (hPre_experts3 : Cert.Pre_experts3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu) (hPre_experts2 := hPre_experts2)
    ∧ quiescent_SwigluIdeal (hSwigluIdeal := hSwigluIdeal) (hPre_experts2 := hPre_experts2)
    ∧ quiescent_SwigluRefIdeal (hSwigluRefIdeal := hSwigluRefIdeal)
    ∧ quiescent_SwigluRefIdeal_pre_experts2 (hSwigluRefIdeal := hSwigluRefIdeal) (hPre_experts2 := hPre_experts2)
    ∧ quiescent_Down (hDown := hDown) (hPre_experts3 := hPre_experts3)
    ∧ quiescent_DownIdeal (hDownIdeal := hDownIdeal) (hPre_experts3 := hPre_experts3)
    ∧ quiescent_DownRefIdeal (hDownRefIdeal := hDownRefIdeal)
    ∧ quiescent_DownRefIdeal_pre_experts3 (hDownRefIdeal := hDownRefIdeal) (hPre_experts3 := hPre_experts3)
    ∧ quiescent_Merge (hMerge := hMerge)
    ∧ quiescent_MergeIdeal (hMergeIdeal := hMergeIdeal)
    ∧ quiescent_MergeRefIdeal (hMergeRefIdeal := hMergeRefIdeal)
    ∧ quiescent_Dense (hDense := hDense)
    ∧ quiescent_DenseIdeal (hDenseIdeal := hDenseIdeal)
    ∧ quiescent_DenseRefIdeal (hDenseRefIdeal := hDenseRefIdeal)
    ∧ quiescent_Glu (hGlu := hGlu)
    ∧ quiescent_GluIdeal (hGluIdeal := hGluIdeal)
    ∧ quiescent_GluRefIdeal (hGluRefIdeal := hGluRefIdeal)
    ∧ quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal (hSwigluIdeal := hSwigluIdeal) (hSwigluRefIdeal := hSwigluRefIdeal) (hPre_experts2 := hPre_experts2)
    ∧ preserves_Down_DownIdeal
    ∧ algebraic_DownIdeal_DownRefIdeal (hDownIdeal := hDownIdeal) (hDownRefIdeal := hDownRefIdeal) (hPre_experts3 := hPre_experts3)
    ∧ preserves_Merge_MergeIdeal
    ∧ algebraic_MergeIdeal_MergeRefIdeal (hMergeIdeal := hMergeIdeal) (hMergeRefIdeal := hMergeRefIdeal)
    ∧ preserves_Dense_DenseIdeal
    ∧ algebraic_DenseIdeal_DenseRefIdeal (hDenseIdeal := hDenseIdeal) (hDenseRefIdeal := hDenseRefIdeal)
    ∧ preserves_Glu_GluIdeal
    ∧ algebraic_GluIdeal_GluRefIdeal (hGluIdeal := hGluIdeal) (hGluRefIdeal := hGluRefIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_Rope_RopeIdeal
    ∧ algebraic_RopeIdeal_RopeRefIdeal (hRopeIdeal := hRopeIdeal) (hRopeRefIdeal := hRopeRefIdeal)
-- ==== Pre_experts2.lean ====
abbrev S72 : Shape := ⟨1, ![72]⟩
abbrev S1 : Shape := ⟨1, ![1]⟩
abbrev S36864x4096 : Shape := ⟨2, ![36864, 4096]⟩
abbrev S1x8x4096x3072 : Shape := ⟨4, ![1, 8, 4096, 3072]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x4096 .bf16) (main_arg3 : FVec F S1x8x4096x3072 .f32) (main_arg4 : FVec F S1x8x4096x3072 .f32) : IVec S72 1 × IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  (main_v1, main_v3)
-- ==== Pre_experts3.lean ====
abbrev S72 : Shape := ⟨1, ![72]⟩
abbrev S1 : Shape := ⟨1, ![1]⟩
abbrev S36864x3072 : Shape := ⟨2, ![36864, 3072]⟩
abbrev S1x8x3072x4096 : Shape := ⟨4, ![1, 8, 3072, 4096]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x3072 .bf16) (main_arg3 : FVec F S1x8x3072x4096 .f32) : IVec S72 1 × IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  (main_v1, main_v3)
-- ==== Pre_finite.lean ====
abbrev S16896x6144 : Shape := ⟨2, ![16896, 6144]⟩
abbrev S4x128 : Shape := ⟨2, ![4, 128]⟩
abbrev S256 : Shape := ⟨1, ![256]⟩
abbrev S_ : Shape := ⟨0, ![]⟩

class Facts : Prop where
  bcast_S_S16896x6144 : S_.BroadcastsInDim S16896x6144 (![] : Fin 0 → Fin S16896x6144.rank)
  bcast_S_S4x128 : S_.BroadcastsInDim S4x128 (![] : Fin 0 → Fin S4x128.rank)

variable [Facts]

def fn {F : FTy → Type} [FloatOps F] (main_arg0 : FVec F S16896x6144 .bf16) (main_arg1 : FVec F S4x128 .f32) (main_arg2 : FVec F S256 .f32) : IVec S16896x6144 1 × IVec S4x128 1 :=
  let main_v0 : FVec F S16896x6144 .bf16 := Host.absf main_arg0
  let main_cst : FVec F S_ .bf16 := constant S_ .bf16 0x7F80#16
  let main_v1 : FVec F S16896x6144 .bf16 := broadcastInDim S16896x6144 ![] bcast_S_S16896x6144 main_cst
  let main_v2 : IVec S16896x6144 1 := cmpf .olt main_v0 main_v1
  let main_v3 : FVec F S4x128 .f32 := Host.absf main_arg1
  let main_cst_0 : FVec F S_ .f32 := constant S_ .f32 0x7F800000#32
  let main_v4 : FVec F S4x128 .f32 := broadcastInDim S4x128 ![] bcast_S_S4x128 main_cst_0
  let main_v5 : IVec S4x128 1 := cmpf .olt main_v3 main_v4
  (main_v2, main_v5)
-- ==== Kernel.lean ====
abbrev S16896x6144 : Shape := ⟨2, ![16896, 6144]⟩
abbrev S4x128 : Shape := ⟨2, ![4, 128]⟩
abbrev S256 : Shape := ⟨1, ![256]⟩
abbrev S1x256 : Shape := ⟨2, ![1, 256]⟩
abbrev S16384x2048 : Shape := ⟨2, ![16384, 2048]⟩
abbrev S512x256 : Shape := ⟨2, ![512, 256]⟩
abbrev S8192x256 : Shape := ⟨2, ![8192, 256]⟩
abbrev S256x256 : Shape := ⟨2, ![256, 256]⟩
abbrev S2x512x128 : Shape := ⟨3, ![2, 512, 128]⟩
abbrev S2x512x256 : Shape := ⟨3, ![2, 512, 256]⟩
abbrev S2x512x2048 : Shape := ⟨3, ![2, 512, 2048]⟩
abbrev S2048x256 : Shape := ⟨2, ![2048, 256]⟩
abbrev S512x128 : Shape := ⟨2, ![512, 128]⟩
abbrev S2048x128 : Shape := ⟨2, ![2048, 128]⟩
abbrev S512x2048 : Shape := ⟨2, ![512, 2048]⟩
abbrev S1x512x2048 : Shape := ⟨3, ![1, 512, 2048]⟩
abbrev S1x64x2048 : Shape := ⟨3, ![1, 64, 2048]⟩
abbrev S64x2048 : Shape := ⟨2, ![64, 2048]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x512x256 : Shape := ⟨3, ![1, 512, 256]⟩
abbrev S1x512x128 : Shape := ⟨3, ![1, 512, 128]⟩
abbrev S256x128 : Shape := ⟨2, ![256, 128]⟩
abbrev S1x64x256 : Shape := ⟨3, ![1, 64, 256]⟩
abbrev S64x256 : Shape := ⟨2, ![64, 256]⟩
abbrev S1x128 : Shape := ⟨2, ![1, 128]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 5
  | .vmem => 22
  | .smem => 0
  | _ => 0

abbrev bufTy : (tb : Table) → Fin (tcTables nBuf tb) → BufTy
  | .hbm, ⟨0, _⟩ => ⟨S16896x6144, .bf16⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S4x128, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x256, .f32⟩
  | .local _ .vmem, ⟨18, _⟩ => ⟨S2x512x2048, .f32⟩
  | .local _ .vmem, ⟨19, _⟩ => ⟨S2x512x2048, .f32⟩
  | .local _ .vmem, ⟨20, _⟩ => ⟨S2x512x2048, .bf16⟩
  | .local _ .vmem, ⟨21, _⟩ => ⟨S2x512x2048, .bf16⟩
  | _, _ => ⟨S16896x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16896x6144 : Shape := ⟨2, ![16896, 6144]⟩
abbrev S4x128 : Shape := ⟨2, ![4, 128]⟩
abbrev S256 : Shape := ⟨1, ![256]⟩
abbrev S16384x6144 : Shape := ⟨2, ![16384, 6144]⟩
abbrev S2x8192x6144 : Shape := ⟨3, ![2, 8192, 6144]⟩
abbrev S512x6144 : Shape := ⟨2, ![512, 6144]⟩
abbrev S2x256x6144 : Shape := ⟨3, ![2, 256, 6144]⟩
abbrev S2x8192x2048 : Shape := ⟨3, ![2, 8192, 2048]⟩
abbrev S2x8192x8x2x128 : Shape := ⟨5, ![2, 8192, 8, 2, 128]⟩
abbrev S2x8192x4096 : Shape := ⟨3, ![2, 8192, 4096]⟩
abbrev S2x256x4096 : Shape := ⟨3, ![2, 256, 4096]⟩
abbrev S2x8448x4096 : Shape := ⟨3, ![2, 8448, 4096]⟩
abbrev S2x8448x2048 : Shape := ⟨3, ![2, 8448, 2048]⟩
abbrev S2x8448x8x2x128 : Shape := ⟨5, ![2, 8448, 8, 2, 128]⟩
abbrev S2x8448x8x256 : Shape := ⟨4, ![2, 8448, 8, 256]⟩
abbrev S1x128 : Shape := ⟨2, ![1, 128]⟩
abbrev S128 : Shape := ⟨1, ![128]⟩
abbrev S_ : Shape := ⟨0, ![]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x256x8192 : Shape := ⟨4, ![2, 8, 256, 8192]⟩
abbrev S2x8192x8x256 : Shape := ⟨4, ![2, 8192, 8, 256]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩
abbrev S16384x2048 : Shape := ⟨2, ![16384, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16896x6144, .bf16⟩
  | .hbm, ⟨1, _⟩ => ⟨S4x128, .f32⟩
  | .hbm, ⟨2, _⟩ => ⟨S256, .f32⟩
  | .hbm, ⟨3, _⟩ => ⟨S16896x6144, .f32⟩
  | .hbm, ⟨4, _⟩ => ⟨S16384x6144, .f32⟩
  | .hbm, ⟨5, _⟩ => ⟨S2x8192x6144, .f32⟩
  | .hbm, ⟨6, _⟩ => ⟨S512x6144, .f32⟩
  | .hbm, ⟨7, _⟩ => ⟨S2x256x6144, .f32⟩
  | .hbm, ⟨8, _⟩ => ⟨S2x8192x2048, .f32⟩
  | .hbm, ⟨9, _⟩ => ⟨S2x8192x8x2x128, .f32⟩
  | .hbm, ⟨10, _⟩ => ⟨S2x8192x4096, .f32⟩
  | .hbm, ⟨11, _⟩ => ⟨S2x256x4096, .f32⟩
  | .hbm, ⟨12, _⟩ => ⟨S2x8448x4096, .f32⟩
  | .hbm, ⟨13, _⟩ => ⟨S2x8448x2048, .f32⟩
  | .hbm, ⟨14, _⟩ => ⟨S2x8448x8x2x128, .f32⟩
  | .hbm, ⟨15, _⟩ => ⟨S2x8448x2048, .f32⟩
  | .hbm, ⟨16, _⟩ => ⟨S2x8448x8x256, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x8x2x8192x8448, .f32⟩
  | .hbm, ⟨37, _⟩ => ⟨S_, .f32⟩
  | .hbm, ⟨38, _⟩ => ⟨S_, .f32⟩
  | .hbm, ⟨39, _⟩ => ⟨S2x8x2x8192x8448, .f32⟩
  | .hbm, ⟨40, _⟩ => ⟨S2x8x2x8192x8448, .f32⟩
  | .hbm, ⟨41, _⟩ => ⟨S_, .f32⟩
  | .hbm, ⟨42, _⟩ => ⟨S2x8x2x8192, .f32⟩
  | .hbm, ⟨43, _⟩ => ⟨S_, .f32⟩
  | .hbm, ⟨44, _⟩ => ⟨S2x8x2x8192, .f32⟩
  | .hbm, ⟨45, _⟩ => ⟨S2x8x2x8192, .f32⟩
  | .hbm, ⟨46, _⟩ => ⟨S2x8x2x8192x1, .f32⟩
  | .hbm, ⟨47, _⟩ => ⟨S2x8x2x8192x8448, .f32⟩
  | .hbm, ⟨48, _⟩ => ⟨S2x8x2x8192x8448, .f32⟩
  | .hbm, ⟨49, _⟩ => ⟨S2x8x2x8192x8448, .f32⟩
  | .hbm, ⟨50, _⟩ => ⟨S_, .f32⟩
  | .hbm, ⟨51, _⟩ => ⟨S2x8x2x8192, .f32⟩
  | .hbm, ⟨52, _⟩ => ⟨S2x8x2x8192x1, .f32⟩
  | .hbm, ⟨53, _⟩ => ⟨S2x8x2x8192x8448, .f32⟩
  | .hbm, ⟨54, _⟩ => ⟨S2x8x2x8192x8448, .f32⟩
  | .hbm, ⟨55, _⟩ => ⟨S2x8x1x8192x8448, .f32⟩
  | .hbm, ⟨56, _⟩ => ⟨S2x8x8192x8448, .f32⟩
  | .hbm, ⟨57, _⟩ => ⟨S2x8x1x8192x8448, .f32⟩
  | .hbm, ⟨58, _⟩ => ⟨S2x8x8192x8448, .f32⟩
  | .hbm, ⟨59, _⟩ => ⟨S2x8x8192x8448, .f32⟩
  | .hbm, ⟨60, _⟩ => ⟨S2x8x8192x8448, .f32⟩
  | .hbm, ⟨61, _⟩ => ⟨S2x8x8192x8448, .f32⟩
  | .hbm, ⟨62, _⟩ => ⟨S2x8x256x8192, .f32⟩
  | .hbm, ⟨63, _⟩ => ⟨S2x8192x8x256, .f32⟩
  | .hbm, ⟨64, _⟩ => ⟨S2x8192x8x256, .f32⟩
  | .hbm, ⟨65, _⟩ => ⟨S_, .f32⟩
  | .hbm, ⟨66, _⟩ => ⟨S2x8192x8, .f32⟩
  | .hbm, ⟨67, _⟩ => ⟨S2x8192x8x1, .f32⟩
  | .hbm, ⟨68, _⟩ => ⟨S_, .f32⟩
  | .hbm, ⟨69, _⟩ => ⟨S2x8192x8x1, .f32⟩
  | .hbm, ⟨70, _⟩ => ⟨S2x8192x8x1, .f32⟩
  | .hbm, ⟨71, _⟩ => ⟨S_, .f32⟩
  | .hbm, ⟨72, _⟩ => ⟨S2x8192x8x1, .f32⟩
  | .hbm, ⟨73, _⟩ => ⟨S2x8192x8x1, .f32⟩
  | .hbm, ⟨74, _⟩ => ⟨S2x8192x8x1, .f32⟩
  | .hbm, ⟨75, _⟩ => ⟨S2x8192x8x256, .f32⟩
  | .hbm, ⟨76, _⟩ => ⟨S2x8192x8x256, .f32⟩
  | .hbm, ⟨77, _⟩ => ⟨S1x1x1x256, .f32⟩
  | .hbm, ⟨78, _⟩ => ⟨S2x8192x8x256, .f32⟩
  | .hbm, ⟨79, _⟩ => ⟨S2x8192x8x256, .f32⟩
  | .hbm, ⟨80, _⟩ => ⟨S_, .f32⟩
  | .hbm, ⟨81, _⟩ => ⟨S2x8192x8x256, .f32⟩
  | .hbm, ⟨82, _⟩ => ⟨S2x8192x8x256, .f32⟩
  | .hbm, ⟨83, _⟩ => ⟨S16384x2048, .f32⟩
  | .hbm, ⟨84, _⟩ => ⟨S16384x2048, .bf16⟩
  | _, _ => ⟨S16896x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Swiglu.lean ====
abbrev S72 : Shape := ⟨1, ![72]⟩
abbrev S1 : Shape := ⟨1, ![1]⟩
abbrev S36864x4096 : Shape := ⟨2, ![36864, 4096]⟩
abbrev S1x8x4096x3072 : Shape := ⟨4, ![1, 8, 4096, 3072]⟩
abbrev S36864x3072 : Shape := ⟨2, ![36864, 3072]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 4
  | .vmem => 10
  | .smem => 2
  | _ => 0

abbrev bufTy : (tb : Table) → Fin (tcTables nBuf tb) → BufTy
  | .hbm, ⟨0, _⟩ => ⟨S36864x4096, .bf16⟩
  | .hbm, ⟨1, _⟩ => ⟨S1x8x4096x3072, .f32⟩
  | .hbm, ⟨2, _⟩ => ⟨S1x8x4096x3072, .f32⟩
  | .hbm, ⟨3, _⟩ => ⟨S36864x3072, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S72, .i32⟩
  | .local _ .smem, ⟨1, _⟩ => ⟨S1, .i32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg1 : BitVec 32 := BitVec.ofNat 32 (i 1).val
  let c1_i32_2 : BitVec 32 := 1#32
  let v11 : BitVec 32 := Scalar.subi arg1 c1_i32_2
  let c0_i32_3 : BitVec 32 := 0#32
  let v12 : BitVec 32 := Scalar.maxsi v11 c0_i32_3
  let v13 : Index := Scalar.indexCast v12
  ![v13.toNat]
def k0_off4 (i : grid0.Coords) : Fin 1 → Nat :=
  let arg1 : BitVec 32 := BitVec.ofNat 32 (i 1).val
  let v16 : Index := Scalar.indexCast arg1
  ![v16.toNat]
def k0_cond3 (i : grid0.Coords) (v22 : BitVec 32) : BitVec 1 :=
  let arg1 : BitVec 32 := BitVec.ofNat 32 (i 1).val
  let v23 : BitVec 1 := Scalar.cmpi .slt arg1 v22
  let v24 : BitVec 32 := Scalar.extui v23
  let c0_i32_6 : BitVec 32 := 0#32
  let v25 : BitVec 1 := Scalar.cmpi .ne v24 c0_i32_6
  v25

def k0_cond4 (i : grid0.Coords) (v22 : BitVec 32) : BitVec 1 :=
  let arg1 : BitVec 32 := BitVec.ofNat 32 (i 1).val
  let v23 : BitVec 1 := Scalar.cmpi .slt arg1 v22
  let v_true : BitVec 1 := 1#1
  let v26 : BitVec 1 := Scalar.xori v23 v_true
  let v27 : BitVec 32 := Scalar.extui v26
  let c0_i32_7 : BitVec 32 := 0#32
  let v28 : BitVec 1 := Scalar.cmpi .ne v27 c0_i32_7
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S72 : Shape := ⟨1, ![72]⟩
abbrev S1 : Shape := ⟨1, ![1]⟩
abbrev S36864x4096 : Shape := ⟨2, ![36864, 4096]⟩
abbrev S1x8x4096x3072 : Shape := ⟨4, ![1, 8, 4096, 3072]⟩
abbrev S8x4096x3072 : Shape := ⟨3, ![8, 4096, 3072]⟩
abbrev S36864x8x3072 : Shape := ⟨3, ![36864, 8, 3072]⟩
abbrev S_ : Shape := ⟨0, ![]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S72x1x8 : Shape := ⟨3, ![72, 1, 8]⟩
abbrev S72x512x8 : Shape := ⟨3, ![72, 512, 8]⟩
abbrev S36864x8 : Shape := ⟨2, ![36864, 8]⟩
abbrev S36864x8x1 : Shape := ⟨3, ![36864, 8, 1]⟩
abbrev S36864x3072 : Shape := ⟨2, ![36864, 3072]⟩

abbrev nBuf : Space → Nat
  | .hbm => 44
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x4096, .bf16⟩
  | .hbm, ⟨3, _⟩ => ⟨S1x8x4096x3072, .f32⟩
  | .hbm, ⟨4, _⟩ => ⟨S1x8x4096x3072, .f32⟩
  | .hbm, ⟨5, _⟩ => ⟨S36864x4096, .f32⟩
  | .hbm, ⟨6, _⟩ => ⟨S8x4096x3072, .f32⟩
  | .hbm, ⟨7, _⟩ => ⟨S36864x8x3072, .f32⟩
  | .hbm, ⟨8, _⟩ => ⟨S8x4096x3072, .f32⟩
  | .hbm, ⟨9, _⟩ => ⟨S36864x8x3072, .f32⟩
  | .hbm, ⟨10, _⟩ => ⟨S36864x8x3072, .f32⟩
  | .hbm, ⟨11, _⟩ => ⟨S36864x8x3072, .f32⟩
  | .hbm, ⟨12, _⟩ => ⟨S_, .f32⟩
  | .hbm, ⟨13, _⟩ => ⟨S36864x8x3072, .f32⟩
  | .hbm, ⟨14, _⟩ => ⟨S36864x8x3072, .f32⟩
  | .hbm, ⟨15, _⟩ => ⟨S_, .f32⟩
  | .hbm, ⟨16, _⟩ => ⟨S36864x8x3072, .f32⟩
  | .hbm, ⟨17, _⟩ => ⟨S36864x8x3072, .f32⟩
  | .hbm, ⟨18, _⟩ => ⟨S36864x8x3072, .f32⟩
  | .hbm, ⟨19, _⟩ => ⟨S36864x8x3072, .f32⟩
  | .hbm, ⟨20, _⟩ => ⟨S72x1, .i32⟩
  | .hbm, ⟨21, _⟩ => ⟨S8, .i32⟩
  | .hbm, ⟨22, _⟩ => ⟨S1x8, .i32⟩
  | .hbm, ⟨23, _⟩ => ⟨S72x8, .i32⟩
  | .hbm, ⟨24, _⟩ => ⟨S72x8, .i32⟩
  | .hbm, ⟨25, _⟩ => ⟨S72x8, .i1⟩
  | .hbm, ⟨26, _⟩ => ⟨S72, .i32⟩
  | .hbm, ⟨27, _⟩ => ⟨S72x1, .i32⟩
  | .hbm, ⟨28, _⟩ => ⟨S_, .i32⟩
  | .hbm, ⟨29, _⟩ => ⟨S72x1, .i32⟩
  | .hbm, ⟨30, _⟩ => ⟨S72x1, .i1⟩
  | .hbm, ⟨31, _⟩ => ⟨S72x8, .i1⟩
  | .hbm, ⟨32, _⟩ => ⟨S72x8, .i1⟩
  | .hbm, ⟨33, _⟩ => ⟨S72x1x8, .i1⟩
  | .hbm, ⟨34, _⟩ => ⟨S72x512x8, .i1⟩
  | .hbm, ⟨35, _⟩ => ⟨S36864x8, .i1⟩
  | .hbm, ⟨36, _⟩ => ⟨S36864x8x1, .i1⟩
  | .hbm, ⟨37, _⟩ => ⟨S36864x8x3072, .i1⟩
  | .hbm, ⟨38, _⟩ => ⟨S_, .f32⟩
  | .hbm, ⟨39, _⟩ => ⟨S36864x8x3072, .f32⟩
  | .hbm, ⟨40, _⟩ => ⟨S36864x8x3072, .f32⟩
  | .hbm, ⟨41, _⟩ => ⟨S_, .f32⟩
  | .hbm, ⟨42, _⟩ => ⟨S36864x3072, .f32⟩
  | .hbm, ⟨43, _⟩ => ⟨S36864x3072, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Down.lean ====
abbrev S72 : Shape := ⟨1, ![72]⟩
abbrev S1 : Shape := ⟨1, ![1]⟩
abbrev S36864x3072 : Shape := ⟨2, ![36864, 3072]⟩
abbrev S1x8x3072x4096 : Shape := ⟨4, ![1, 8, 3072, 4096]⟩
abbrev S36864x4096 : Shape := ⟨2, ![36864, 4096]⟩
abbrev S512x3072 : Shape := ⟨2, ![512, 3072]⟩
abbrev S1x1x3072x1024 : Shape := ⟨4, ![1, 1, 3072, 1024]⟩
abbrev S512x1024 : Shape := ⟨2, ![512, 1024]⟩
abbrev S3072x1024 : Shape := ⟨2, ![3072, 1024]⟩

abbrev nBuf : Space → Nat
  | .hbm => 3
  | .vmem => 7
  | .smem => 2
  | _ => 0

abbrev bufTy : (tb : Table) → Fin (tcTables nBuf tb) → BufTy
  | .hbm, ⟨0, _⟩ => ⟨S36864x3072, .bf16⟩
  | .hbm, ⟨1, _⟩ => ⟨S1x8x3072x4096, .f32⟩
  | .hbm, ⟨2, _⟩ => ⟨S36864x4096, .f32⟩
  | .local _ .vmem, ⟨0, _⟩ => ⟨S512x3072, .bf16⟩
  | .local _ .vmem, ⟨1, _⟩ => ⟨S512x3072, .bf16⟩
  | .local _ .vmem, ⟨2, _⟩ => ⟨S1x1x3072x1024, .f32⟩
  | .local _ .vmem, ⟨3, _⟩ => ⟨S1x1x3072x1024, .f32⟩
  | .local _ .vmem, ⟨4, _⟩ => ⟨S512x1024, .f32⟩
  | .local _ .vmem, ⟨5, _⟩ => ⟨S512x1024, .f32⟩
  | .local _ .vmem, ⟨6, _⟩ => ⟨S3072x1024, .bf16⟩
  | .local _ .smem, ⟨0, _⟩ => ⟨S72, .i32⟩
  | .local _ .smem, ⟨1, _⟩ => ⟨S1, .i32⟩
  | _, _ => ⟨S36864x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v11 : BitVec 32) : BitVec 1 :=
  let arg1 : BitVec 32 := BitVec.ofNat 32 (i 1).val
  let v12 : BitVec 1 := Scalar.cmpi .slt arg1 v11
  let v_true : BitVec 1 := 1#1
  let v15 : BitVec 1 := Scalar.xori v12 v_true
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S72 : Shape := ⟨1, ![72]⟩
abbrev S1 : Shape := ⟨1, ![1]⟩
abbrev S36864x3072 : Shape := ⟨2, ![36864, 3072]⟩
abbrev S1x8x3072x4096 : Shape := ⟨4, ![1, 8, 3072, 4096]⟩
abbrev S8x3072x4096 : Shape := ⟨3, ![8, 3072, 4096]⟩
abbrev S36864x8x4096 : Shape := ⟨3, ![36864, 8, 4096]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S_ : Shape := ⟨0, ![]⟩
abbrev S72x1x8 : Shape := ⟨3, ![72, 1, 8]⟩
abbrev S72x512x8 : Shape := ⟨3, ![72, 512, 8]⟩
abbrev S36864x8 : Shape := ⟨2, ![36864, 8]⟩
abbrev S36864x8x1 : Shape := ⟨3, ![36864, 8, 1]⟩
abbrev S36864x4096 : Shape := ⟨2, ![36864, 4096]⟩

abbrev nBuf : Space → Nat
  | .hbm => 30
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x3072, .bf16⟩
  | .hbm, ⟨3, _⟩ => ⟨S1x8x3072x4096, .f32⟩
  | .hbm, ⟨4, _⟩ => ⟨S36864x3072, .f32⟩
  | .hbm, ⟨5, _⟩ => ⟨S8x3072x4096, .f32⟩
  | .hbm, ⟨6, _⟩ => ⟨S36864x8x4096, .f32⟩
  | .hbm, ⟨7, _⟩ => ⟨S72x1, .i32⟩
  | .hbm, ⟨8, _⟩ => ⟨S8, .i32⟩
  | .hbm, ⟨9, _⟩ => ⟨S1x8, .i32⟩
  | .hbm, ⟨10, _⟩ => ⟨S72x8, .i32⟩
  | .hbm, ⟨11, _⟩ => ⟨S72x8, .i32⟩
  | .hbm, ⟨12, _⟩ => ⟨S72x8, .i1⟩
  | .hbm, ⟨13, _⟩ => ⟨S72, .i32⟩
  | .hbm, ⟨14, _⟩ => ⟨S72x1, .i32⟩
  | .hbm, ⟨15, _⟩ => ⟨S_, .i32⟩
  | .hbm, ⟨16, _⟩ => ⟨S72x1, .i32⟩
  | .hbm, ⟨17, _⟩ => ⟨S72x1, .i1⟩
  | .hbm, ⟨18, _⟩ => ⟨S72x8, .i1⟩
  | .hbm, ⟨19, _⟩ => ⟨S72x8, .i1⟩
  | .hbm, ⟨20, _⟩ => ⟨S72x1x8, .i1⟩
  | .hbm, ⟨21, _⟩ => ⟨S72x512x8, .i1⟩
  | .hbm, ⟨22, _⟩ => ⟨S36864x8, .i1⟩
  | .hbm, ⟨23, _⟩ => ⟨S36864x8x1, .i1⟩
  | .hbm, ⟨24, _⟩ => ⟨S36864x8x4096, .i1⟩
  | .hbm, ⟨25, _⟩ => ⟨S_, .f32⟩
  | .hbm, ⟨26, _⟩ => ⟨S36864x8x4096, .f32⟩
  | .hbm, ⟨27, _⟩ => ⟨S36864x8x4096, .f32⟩
  | .hbm, ⟨28, _⟩ => ⟨S_, .f32⟩
  | .hbm, ⟨29, _⟩ => ⟨S36864x4096, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Merge.lean ====
abbrev S16896x4096 : Shape := ⟨2, ![16896, 4096]⟩
abbrev S16896x1024 : Shape := ⟨2, ![16896, 1024]⟩
abbrev S16896x2048 : Shape := ⟨2, ![16896, 2048]⟩
abbrev S2x4096x12288 : Shape := ⟨3, ![2, 4096, 12288]⟩
abbrev S2x12288 : Shape := ⟨2, ![2, 12288]⟩
abbrev S2x1024x4096 : Shape := ⟨3, ![2, 1024, 4096]⟩
abbrev S2x2048x4096 : Shape := ⟨3, ![2, 2048, 4096]⟩
abbrev S2x1x12288 : Shape := ⟨3, ![2, 1, 12288]⟩
abbrev S1x4096x256 : Shape := ⟨3, ![1, 4096, 256]⟩
abbrev S512x4096 : Shape := ⟨2, ![512, 4096]⟩
abbrev S512x1024 : Shape := ⟨2, ![512, 1024]⟩
abbrev S512x2048 : Shape := ⟨2, ![512, 2048]⟩
abbrev S1x1x256 : Shape := ⟨3, ![1, 1, 256]⟩
abbrev S1x1024x256 : Shape := ⟨3, ![1, 1024, 256]⟩
abbrev S1x2048x256 : Shape := ⟨3, ![1, 2048, 256]⟩
abbrev S512x256 : Shape := ⟨2, ![512, 256]⟩
abbrev S4096x256 : Shape := ⟨2, ![4096, 256]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 11
  | .vmem => 25
  | .smem => 0
  | _ => 0

abbrev bufTy : (tb : Table) → Fin (tcTables nBuf tb) → BufTy
  | .hbm, ⟨0, _⟩ => ⟨S16896x4096, .bf16⟩
  | .hbm, ⟨1, _⟩ => ⟨S16896x1024, .bf16⟩
  | .hbm, ⟨2, _⟩ => ⟨S16896x1024, .bf16⟩
  | .hbm, ⟨3, _⟩ => ⟨S16896x2048, .bf16⟩
  | .hbm, ⟨4, _⟩ => ⟨S2x4096x12288, .f32⟩
  | .hbm, ⟨5, _⟩ => ⟨S2x12288, .f32⟩
  | .hbm, ⟨6, _⟩ => ⟨S2x1024x4096, .f32⟩
  | .hbm, ⟨7, _⟩ => ⟨S2x1024x4096, .f32⟩
  | .hbm, ⟨8, _⟩ => ⟨S2x2048x4096, .f32⟩
  | .hbm, ⟨9, _⟩ => ⟨S2x1x12288, .f32⟩
  | .hbm, ⟨10, _⟩ => ⟨S16896x4096, .bf16⟩
  | .local _ .vmem, ⟨0, _⟩ => ⟨S1x4096x256, .f32⟩
  | .local _ .vmem, ⟨1, _⟩ => ⟨S512x4096, .bf16⟩
  | .local _ .vmem, ⟨2, _⟩ => ⟨S512x4096, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | .local _ .vmem, ⟨9, _⟩ => ⟨S1x4096x256, .f32⟩
  | .local _ .vmem, ⟨10, _⟩ => ⟨S1x4096x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1024x256, .f32⟩
  | .local _ .vmem, ⟨15, _⟩ => ⟨S1x1024x256, .f32⟩
  | .local _ .vmem, ⟨16, _⟩ => ⟨S1x2048x256, .f32⟩
  | .local _ .vmem, ⟨17, _⟩ => ⟨S512x256, .bf16⟩
  | .local _ .vmem, ⟨18, _⟩ => ⟨S512x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S1024x256, .bf16⟩
  | .local _ .vmem, ⟨23, _⟩ => ⟨S1024x256, .bf16⟩
  | .local _ .vmem, ⟨24, _⟩ => ⟨S2048x256, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![16, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x4096x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x2048x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16896x4096 : Shape := ⟨2, ![16896, 4096]⟩
abbrev S16896x1024 : Shape := ⟨2, ![16896, 1024]⟩
abbrev S16896x2048 : Shape := ⟨2, ![16896, 2048]⟩
abbrev S2x4096x12288 : Shape := ⟨3, ![2, 4096, 12288]⟩
abbrev S2x12288 : Shape := ⟨2, ![2, 12288]⟩
abbrev S2x1024x4096 : Shape := ⟨3, ![2, 1024, 4096]⟩
abbrev S2x2048x4096 : Shape := ⟨3, ![2, 2048, 4096]⟩
abbrev S1x4096x12288 : Shape := ⟨3, ![1, 4096, 12288]⟩
abbrev S4096x12288 : Shape := ⟨2, ![4096, 12288]⟩
abbrev S16896x12288 : Shape := ⟨2, ![16896, 12288]⟩
abbrev S1x12288 : Shape := ⟨2, ![1, 12288]⟩
abbrev S12288 : Shape := ⟨1, ![12288]⟩
abbrev S_ : Shape := ⟨0, ![]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S16896x1024, .bf16⟩
  | .hbm, ⟨2, _⟩ => ⟨S16896x1024, .bf16⟩
  | .hbm, ⟨3, _⟩ => ⟨S16896x2048, .bf16⟩
  | .hbm, ⟨4, _⟩ => ⟨S2x4096x12288, .f32⟩
  | .hbm, ⟨5, _⟩ => ⟨S2x12288, .f32⟩
  | .hbm, ⟨6, _⟩ => ⟨S2x1024x4096, .f32⟩
  | .hbm, ⟨7, _⟩ => ⟨S2x1024x4096, .f32⟩
  | .hbm, ⟨8, _⟩ => ⟨S2x2048x4096, .f32⟩
  | .hbm, ⟨9, _⟩ => ⟨S16896x4096, .f32⟩
  | .hbm, ⟨10, _⟩ => ⟨S1x4096x12288, .f32⟩
  | .hbm, ⟨11, _⟩ => ⟨S4096x12288, .f32⟩
  | .hbm, ⟨12, _⟩ => ⟨S16896x12288, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S16896x12288, .f32⟩
  | .hbm, ⟨17, _⟩ => ⟨S16896x12288, .f32⟩
  | .hbm, ⟨18, _⟩ => ⟨S16896x12288, .f32⟩
  | .hbm, ⟨19, _⟩ => ⟨S16896x12288, .f32⟩
  | .hbm, ⟨20, _⟩ => ⟨S_, .f32⟩
  | .hbm, ⟨21, _⟩ => ⟨S16896x12288, .f32⟩
  | .hbm, ⟨22, _⟩ => ⟨S16896x12288, .f32⟩
  | .hbm, ⟨23, _⟩ => ⟨S_, .f32⟩
  | .hbm, ⟨24, _⟩ => ⟨S16896x12288, .f32⟩
  | .hbm, ⟨25, _⟩ => ⟨S16896x12288, .f32⟩
  | .hbm, ⟨26, _⟩ => ⟨S16896x4096, .f32⟩
  | .hbm, ⟨27, _⟩ => ⟨S16896x1024, .f32⟩
  | .hbm, ⟨28, _⟩ => ⟨S1x1024x4096, .f32⟩
  | .hbm, ⟨29, _⟩ => ⟨S1024x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16896x1024, .f32⟩
  | .hbm, ⟨34, _⟩ => ⟨S1x1024x4096, .f32⟩
  | .hbm, ⟨35, _⟩ => ⟨S1024x4096, .f32⟩
  | .hbm, ⟨36, _⟩ => ⟨S16896x4096, .f32⟩
  | .hbm, ⟨37, _⟩ => ⟨S16896x4096, .f32⟩
  | .hbm, ⟨38, _⟩ => ⟨S16896x4096, .f32⟩
  | .hbm, ⟨39, _⟩ => ⟨S16896x4096, .f32⟩
  | .hbm, ⟨40, _⟩ => ⟨S16896x2048, .f32⟩
  | .hbm, ⟨41, _⟩ => ⟨S1x2048x4096, .f32⟩
  | .hbm, ⟨42, _⟩ => ⟨S2048x4096, .f32⟩
  | .hbm, ⟨43, _⟩ => ⟨S16896x4096, .f32⟩
  | .hbm, ⟨44, _⟩ => ⟨S16896x4096, .f32⟩
  | .hbm, ⟨45, _⟩ => ⟨S16896x4096, .f32⟩
  | .hbm, ⟨46, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Dense.lean ====
abbrev S16896x4096 : Shape := ⟨2, ![16896, 4096]⟩
abbrev S1x4096x6144 : Shape := ⟨3, ![1, 4096, 6144]⟩
abbrev S16896x6144 : Shape := ⟨2, ![16896, 6144]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S1x4096x6144, .f32⟩
  | .hbm, ⟨2, _⟩ => ⟨S1x4096x6144, .f32⟩
  | .hbm, ⟨3, _⟩ => ⟨S16896x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseRefIdeal.lean ====
abbrev S16896x4096 : Shape := ⟨2, ![16896, 4096]⟩
abbrev S1x4096x6144 : Shape := ⟨3, ![1, 4096, 6144]⟩
abbrev S4096x6144 : Shape := ⟨2, ![4096, 6144]⟩
abbrev S16896x6144 : Shape := ⟨2, ![16896, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x6144, .f32⟩
  | .hbm, ⟨2, _⟩ => ⟨S1x4096x6144, .f32⟩
  | .hbm, ⟨3, _⟩ => ⟨S16896x4096, .f32⟩
  | .hbm, ⟨4, _⟩ => ⟨S4096x6144, .f32⟩
  | .hbm, ⟨5, _⟩ => ⟨S16896x6144, .f32⟩
  | .hbm, ⟨6, _⟩ => ⟨S16896x6144, .f32⟩
  | .hbm, ⟨7, _⟩ => ⟨S16896x6144, .f32⟩
  | .hbm, ⟨8, _⟩ => ⟨S_, .f32⟩
  | .hbm, ⟨9, _⟩ => ⟨S16896x6144, .f32⟩
  | .hbm, ⟨10, _⟩ => ⟨S16896x6144, .f32⟩
  | .hbm, ⟨11, _⟩ => ⟨S_, .f32⟩
  | .hbm, ⟨12, _⟩ => ⟨S16896x6144, .f32⟩
  | .hbm, ⟨13, _⟩ => ⟨S16896x6144, .f32⟩
  | .hbm, ⟨14, _⟩ => ⟨S16896x6144, .f32⟩
  | .hbm, ⟨15, _⟩ => ⟨S4096x6144, .f32⟩
  | .hbm, ⟨16, _⟩ => ⟨S16896x6144, .f32⟩
  | .hbm, ⟨17, _⟩ => ⟨S16896x6144, .f32⟩
  | .hbm, ⟨18, _⟩ => ⟨S16896x6144, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Glu.lean ====
abbrev S16896x4096 : Shape := ⟨2, ![16896, 4096]⟩
abbrev S2x4096x9216 : Shape := ⟨3, ![2, 4096, 9216]⟩
abbrev S16896x2048 : Shape := ⟨2, ![16896, 2048]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x9216, .f32⟩
  | .hbm, ⟨2, _⟩ => ⟨S16896x2048, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluRefIdeal.lean ====
abbrev S16896x4096 : Shape := ⟨2, ![16896, 4096]⟩
abbrev S2x4096x9216 : Shape := ⟨3, ![2, 4096, 9216]⟩
abbrev S1x4096x2048 : Shape := ⟨3, ![1, 4096, 2048]⟩
abbrev S4096x2048 : Shape := ⟨2, ![4096, 2048]⟩
abbrev S16896x2048 : Shape := ⟨2, ![16896, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x9216, .f32⟩
  | .hbm, ⟨2, _⟩ => ⟨S16896x4096, .f32⟩
  | .hbm, ⟨3, _⟩ => ⟨S1x4096x2048, .f32⟩
  | .hbm, ⟨4, _⟩ => ⟨S4096x2048, .f32⟩
  | .hbm, ⟨5, _⟩ => ⟨S16896x2048, .f32⟩
  | .hbm, ⟨6, _⟩ => ⟨S16896x2048, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix.lean ====
abbrev S16896x4096 : Shape := ⟨2, ![16896, 4096]⟩
abbrev S2x4096x4096 : Shape := ⟨3, ![2, 4096, 4096]⟩
abbrev S16384x4096 : Shape := ⟨2, ![16384, 4096]⟩
abbrev S512x4096 : Shape := ⟨2, ![512, 4096]⟩
abbrev S8x24576 : Shape := ⟨2, ![8, 24576]⟩
abbrev S1x4096x1024 : Shape := ⟨3, ![1, 4096, 1024]⟩
abbrev S512x1024 : Shape := ⟨2, ![512, 1024]⟩
abbrev S8x1024 : Shape := ⟨2, ![8, 1024]⟩
abbrev S4096x1024 : Shape := ⟨2, ![4096, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16384x4096, .f32⟩
  | .hbm, ⟨3, _⟩ => ⟨S512x4096, .f32⟩
  | .hbm, ⟨4, _⟩ => ⟨S8x24576, .f32⟩
  | .hbm, ⟨5, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S4096x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 33], ![false, false]⟩

def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v25 : Index := Scalar.indexCast v17
  let c0_9 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixRefIdeal.lean ====
abbrev S16896x4096 : Shape := ⟨2, ![16896, 4096]⟩
abbrev S2x4096x4096 : Shape := ⟨3, ![2, 4096, 4096]⟩
abbrev S16384x4096 : Shape := ⟨2, ![16384, 4096]⟩
abbrev S512x4096 : Shape := ⟨2, ![512, 4096]⟩
abbrev S8x24576 : Shape := ⟨2, ![8, 24576]⟩
abbrev S1x4096x4096 : Shape := ⟨3, ![1, 4096, 4096]⟩
abbrev S4096x4096 : Shape := ⟨2, ![4096, 4096]⟩
abbrev S8x4096 : Shape := ⟨2, ![8, 4096]⟩
abbrev S3x4096 : Shape := ⟨2, ![3, 4096]⟩
abbrev S3x8192x4096 : Shape := ⟨3, ![3, 8192, 4096]⟩
abbrev S24576x4096 : Shape := ⟨2, ![24576, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16384x4096, .f32⟩
  | .hbm, ⟨3, _⟩ => ⟨S512x4096, .f32⟩
  | .hbm, ⟨4, _⟩ => ⟨S8x24576, .f32⟩
  | .hbm, ⟨5, _⟩ => ⟨S16896x4096, .f32⟩
  | .hbm, ⟨6, _⟩ => ⟨S1x4096x4096, .f32⟩
  | .hbm, ⟨7, _⟩ => ⟨S4096x4096, .f32⟩
  | .hbm, ⟨8, _⟩ => ⟨S8x4096, .f32⟩
  | .hbm, ⟨9, _⟩ => ⟨S3x4096, .f32⟩
  | .hbm, ⟨10, _⟩ => ⟨S3x8192x4096, .f32⟩
  | .hbm, ⟨11, _⟩ => ⟨S24576x4096, .f32⟩
  | .hbm, ⟨12, _⟩ => ⟨S16896x4096, .f32⟩
  | .hbm, ⟨13, _⟩ => ⟨S16896x4096, .f32⟩
  | .hbm, ⟨14, _⟩ => ⟨S16896x4096, .f32⟩
  | .hbm, ⟨15, _⟩ => ⟨S16896x4096, .f32⟩
  | .hbm, ⟨16, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Ffn.lean ====
abbrev S16896x6144 : Shape := ⟨2, ![16896, 6144]⟩
abbrev S1x6144x4096 : Shape := ⟨3, ![1, 6144, 4096]⟩
abbrev S16896x4096 : Shape := ⟨2, ![16896, 4096]⟩
abbrev S8x24576 : Shape := ⟨2, ![8, 24576]⟩
abbrev S512x6144 : Shape := ⟨2, ![512, 6144]⟩
abbrev S1x6144x512 : Shape := ⟨3, ![1, 6144, 512]⟩
abbrev S512x512 : Shape := ⟨2, ![512, 512]⟩
abbrev S8x512 : Shape := ⟨2, ![8, 512]⟩
abbrev S6144x512 : Shape := ⟨2, ![6144, 512]⟩
abbrev S1x512 : Shape := ⟨2, ![1, 512]⟩

abbrev nBuf : Space → Nat
  | .hbm => 5
  | .vmem => 13
  | .smem => 0
  | _ => 0

abbrev bufTy : (tb : Table) → Fin (tcTables nBuf tb) → BufTy
  | .hbm, ⟨0, _⟩ => ⟨S16896x6144, .bf16⟩
  | .hbm, ⟨1, _⟩ => ⟨S1x6144x4096, .f32⟩
  | .hbm, ⟨2, _⟩ => ⟨S16896x4096, .f32⟩
  | .hbm, ⟨3, _⟩ => ⟨S8x24576, .f32⟩
  | .hbm, ⟨4, _⟩ => ⟨S16896x4096, .f32⟩
  | .local _ .vmem, ⟨0, _⟩ => ⟨S512x6144, .bf16⟩
  | .local _ .vmem, ⟨1, _⟩ => ⟨S512x6144, .bf16⟩
  | .local _ .vmem, ⟨2, _⟩ => ⟨S1x6144x512, .f32⟩
  | .local _ .vmem, ⟨3, _⟩ => ⟨S1x6144x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | .local _ .vmem, ⟨12, _⟩ => ⟨S6144x512, .bf16⟩
  | _, _ => ⟨S16896x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 33], ![false, false]⟩

def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v25 : Index := Scalar.indexCast v17
  let c0_9 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c32_i32_0 : BitVec 32 := 32#32
  let v2 : BitVec 32 := Scalar.addi c32_i32_0 v1
  let c0_i32_1 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16896x6144 : Shape := ⟨2, ![16896, 6144]⟩
abbrev S1x6144x4096 : Shape := ⟨3, ![1, 6144, 4096]⟩
abbrev S16896x4096 : Shape := ⟨2, ![16896, 4096]⟩
abbrev S8x24576 : Shape := ⟨2, ![8, 24576]⟩
abbrev S6144x4096 : Shape := ⟨2, ![6144, 4096]⟩
abbrev S8x4096 : Shape := ⟨2, ![8, 4096]⟩
abbrev S3x4096 : Shape := ⟨2, ![3, 4096]⟩
abbrev S3x8192x4096 : Shape := ⟨3, ![3, 8192, 4096]⟩
abbrev S24576x4096 : Shape := ⟨2, ![24576, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16896x6144, .bf16⟩
  | .hbm, ⟨1, _⟩ => ⟨S1x6144x4096, .f32⟩
  | .hbm, ⟨2, _⟩ => ⟨S16896x4096, .f32⟩
  | .hbm, ⟨3, _⟩ => ⟨S8x24576, .f32⟩
  | .hbm, ⟨4, _⟩ => ⟨S6144x4096, .f32⟩
  | .hbm, ⟨5, _⟩ => ⟨S8x4096, .f32⟩
  | .hbm, ⟨6, _⟩ => ⟨S3x4096, .f32⟩
  | .hbm, ⟨7, _⟩ => ⟨S3x8192x4096, .f32⟩
  | .hbm, ⟨8, _⟩ => ⟨S24576x4096, .f32⟩
  | .hbm, ⟨9, _⟩ => ⟨S16896x4096, .f32⟩
  | .hbm, ⟨10, _⟩ => ⟨S16896x6144, .f32⟩
  | .hbm, ⟨11, _⟩ => ⟨S16896x4096, .f32⟩
  | .hbm, ⟨12, _⟩ => ⟨S16896x4096, .f32⟩
  | .hbm, ⟨13, _⟩ => ⟨S16896x4096, .f32⟩
  | _, _ => ⟨S16896x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Rope.lean ====
abbrev S16896x4096 : Shape := ⟨2, ![16896, 4096]⟩
abbrev S2x4096x9216 : Shape := ⟨3, ![2, 4096, 9216]⟩
abbrev S8192x2x32 : Shape := ⟨3, ![8192, 2, 32]⟩
abbrev S_ : Shape := ⟨0, ![]⟩
abbrev S8192x32 : Shape := ⟨2, ![8192, 32]⟩
abbrev S8192x1x32 : Shape := ⟨3, ![8192, 1, 32]⟩
abbrev S8192x128 : Shape := ⟨2, ![8192, 128]⟩
abbrev S512x128 : Shape := ⟨2, ![512, 128]⟩
abbrev S17408x128 : Shape := ⟨2, ![17408, 128]⟩
abbrev S16896x6144 : Shape := ⟨2, ![16896, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 48
  | .vmem => 12
  | .smem => 0
  | _ => 0

abbrev bufTy : (tb : Table) → Fin (tcTables nBuf tb) → BufTy
  | .hbm, ⟨0, _⟩ => ⟨S16896x4096, .bf16⟩
  | .hbm, ⟨1, _⟩ => ⟨S2x4096x9216, .f32⟩
  | .hbm, ⟨2, _⟩ => ⟨S8192x2x32, .f32⟩
  | .hbm, ⟨3, _⟩ => ⟨S8192x2x32, .f32⟩
  | .hbm, ⟨4, _⟩ => ⟨S_, .f32⟩
  | .hbm, ⟨5, _⟩ => ⟨S8192x32, .f32⟩
  | .hbm, ⟨6, _⟩ => ⟨S8192x1x32, .f32⟩
  | .hbm, ⟨7, _⟩ => ⟨S8192x32, .f32⟩
  | .hbm, ⟨8, _⟩ => ⟨S8192x1x32, .f32⟩
  | .hbm, ⟨9, _⟩ => ⟨S8192x32, .f32⟩
  | .hbm, ⟨10, _⟩ => ⟨S8192x1x32, .f32⟩
  | .hbm, ⟨11, _⟩ => ⟨S8192x32, .f32⟩
  | .hbm, ⟨12, _⟩ => ⟨S8192x1x32, .f32⟩
  | .hbm, ⟨13, _⟩ => ⟨S8192x32, .f32⟩
  | .hbm, ⟨14, _⟩ => ⟨S8192x128, .f32⟩
  | .hbm, ⟨15, _⟩ => ⟨S8192x1x32, .f32⟩
  | .hbm, ⟨16, _⟩ => ⟨S8192x32, .f32⟩
  | .hbm, ⟨17, _⟩ => ⟨S8192x1x32, .f32⟩
  | .hbm, ⟨18, _⟩ => ⟨S8192x32, .f32⟩
  | .hbm, ⟨19, _⟩ => ⟨S8192x128, .f32⟩
  | .hbm, ⟨20, _⟩ => ⟨S8192x1x32, .f32⟩
  | .hbm, ⟨21, _⟩ => ⟨S8192x32, .f32⟩
  | .hbm, ⟨22, _⟩ => ⟨S8192x32, .f32⟩
  | .hbm, ⟨23, _⟩ => ⟨S8192x1x32, .f32⟩
  | .hbm, ⟨24, _⟩ => ⟨S8192x32, .f32⟩
  | .hbm, ⟨25, _⟩ => ⟨S8192x32, .f32⟩
  | .hbm, ⟨26, _⟩ => ⟨S8192x128, .f32⟩
  | .hbm, ⟨27, _⟩ => ⟨S_, .f32⟩
  | .hbm, ⟨28, _⟩ => ⟨S512x128, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S17408x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S17408x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S17408x128, .f32⟩
  | .hbm, ⟨47, _⟩ => ⟨S16896x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S4096x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 33], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let c16_i32 : BitVec 32 := 16#32
  let v1 : BitVec 32 := Scalar.select v0 c0_i32 c16_i32
  let c16_i32_0 : BitVec 32 := 16#32
  let c0_i32_1 : BitVec 32 := 0#32
  let v2 : BitVec 1 := Scalar.cmpi .eq c16_i32_0 c0_i32_1
  let c1_i32 : BitVec 32 := 1#32
  let v3 : BitVec 32 := Scalar.select v2 c1_i32 c16_i32_0
  let v4 : BitVec 32 := Scalar.remsi arg1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let c32_i32 : BitVec 32 := 32#32
  let c33_i32 : BitVec 32 := 33#32
  let v13 : BitVec 32 := Scalar.select v0 c32_i32 c33_i32
  let c32_i32_5 : BitVec 32 := 32#32
  let v14 : BitVec 1 := Scalar.cmpi .slt arg1 c32_i32_5
  let v15 : BitVec 32 := Scalar.select v14 v12 v13
  let c0_i32_6 : BitVec 32 := 0#32
  let c0_i32_7 : BitVec 32 := 0#32
  ![v15.toNat, c0_i32_6.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let c16_i32 : BitVec 32 := 16#32
  let v1 : BitVec 32 := Scalar.select v0 c0_i32 c16_i32
  let c16_i32_0 : BitVec 32 := 16#32
  let c0_i32_1 : BitVec 32 := 0#32
  let v2 : BitVec 1 := Scalar.cmpi .eq c16_i32_0 c0_i32_1
  let c1_i32 : BitVec 32 := 1#32
  let v3 : BitVec 32 := Scalar.select v2 c1_i32 c16_i32_0
  let v4 : BitVec 32 := Scalar.remsi arg1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let c32_i32 : BitVec 32 := 32#32
  let c33_i32 : BitVec 32 := 33#32
  let v13 : BitVec 32 := Scalar.select v0 c32_i32 c33_i32
  let c32_i32_5 : BitVec 32 := 32#32
  let v14 : BitVec 1 := Scalar.cmpi .slt arg1 c32_i32_5
  let v15 : BitVec 32 := Scalar.select v14 v12 v13
  let c0_i32_6 : BitVec 32 := 0#32
  let c0_i32_7 : BitVec 32 := 0#32
  ![v15.toNat, c0_i32_6.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let c16_i32 : BitVec 32 := 16#32
  let v1 : BitVec 32 := Scalar.select v0 c0_i32 c16_i32
  let c16_i32_0 : BitVec 32 := 16#32
  let c0_i32_1 : BitVec 32 := 0#32
  let v2 : BitVec 1 := Scalar.cmpi .eq c16_i32_0 c0_i32_1
  let c1_i32 : BitVec 32 := 1#32
  let v3 : BitVec 32 := Scalar.select v2 c1_i32 c16_i32_0
  let v4 : BitVec 32 := Scalar.remsi arg1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.addi v1 v11
  let c32_i32 : BitVec 32 := 32#32
  let c33_i32 : BitVec 32 := 33#32
  let v13 : BitVec 32 := Scalar.select v0 c32_i32 c33_i32
  let c32_i32_5 : BitVec 32 := 32#32
  let v14 : BitVec 1 := Scalar.cmpi .slt arg1 c32_i32_5
  let v15 : BitVec 32 := Scalar.select v14 v12 v13
  let c0_i32_6 : BitVec 32 := 0#32
  let c0_i32_7 : BitVec 32 := 0#32
  ![v15.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S16896x4096 : Shape := ⟨2, ![16896, 4096]⟩
abbrev S2x4096x9216 : Shape := ⟨3, ![2, 4096, 9216]⟩
abbrev S8192x2x32 : Shape := ⟨3, ![8192, 2, 32]⟩
abbrev S1x4096x6144 : Shape := ⟨3, ![1, 4096, 6144]⟩
abbrev S4096x6144 : Shape := ⟨2, ![4096, 6144]⟩
abbrev S16896x6144 : Shape := ⟨2, ![16896, 6144]⟩
abbrev S16384x4096 : Shape := ⟨2, ![16384, 4096]⟩
abbrev S2x8192x32x2x2x32 : Shape := ⟨6, ![2, 8192, 32, 2, 2, 32]⟩
abbrev S2x8192x32x2x1x32 : Shape := ⟨6, ![2, 8192, 32, 2, 1, 32]⟩
abbrev S2x8192x32x2x32 : Shape := ⟨5, ![2, 8192, 32, 2, 32]⟩
abbrev S1x8192x1x2x32 : Shape := ⟨5, ![1, 8192, 1, 2, 32]⟩
abbrev S512x4096 : Shape := ⟨2, ![512, 4096]⟩
abbrev S16896x2048 : Shape := ⟨2, ![16896, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x9216, .f32⟩
  | .hbm, ⟨2, _⟩ => ⟨S8192x2x32, .f32⟩
  | .hbm, ⟨3, _⟩ => ⟨S8192x2x32, .f32⟩
  | .hbm, ⟨4, _⟩ => ⟨S16896x4096, .f32⟩
  | .hbm, ⟨5, _⟩ => ⟨S1x4096x6144, .f32⟩
  | .hbm, ⟨6, _⟩ => ⟨S4096x6144, .f32⟩
  | .hbm, ⟨7, _⟩ => ⟨S16896x6144, .f32⟩
  | .hbm, ⟨8, _⟩ => ⟨S16384x4096, .f32⟩
  | .hbm, ⟨9, _⟩ => ⟨S2x8192x32x2x2x32, .f32⟩
  | .hbm, ⟨10, _⟩ => ⟨S2x8192x32x2x1x32, .f32⟩
  | .hbm, ⟨11, _⟩ => ⟨S2x8192x32x2x32, .f32⟩
  | .hbm, ⟨12, _⟩ => ⟨S2x8192x32x2x1x32, .f32⟩
  | .hbm, ⟨13, _⟩ => ⟨S2x8192x32x2x32, .f32⟩
  | .hbm, ⟨14, _⟩ => ⟨S1x8192x1x2x32, .f32⟩
  | .hbm, ⟨15, _⟩ => ⟨S1x8192x1x2x32, .f32⟩
  | .hbm, ⟨16, _⟩ => ⟨S2x8192x32x2x32, .f32⟩
  | .hbm, ⟨17, _⟩ => ⟨S2x8192x32x2x32, .f32⟩
  | .hbm, ⟨18, _⟩ => ⟨S2x8192x32x2x32, .f32⟩
  | .hbm, ⟨19, _⟩ => ⟨S2x8192x32x2x32, .f32⟩
  | .hbm, ⟨20, _⟩ => ⟨S2x8192x32x2x32, .f32⟩
  | .hbm, ⟨21, _⟩ => ⟨S2x8192x32x2x32, .f32⟩
  | .hbm, ⟨22, _⟩ => ⟨S2x8192x32x2x32, .f32⟩
  | .hbm, ⟨23, _⟩ => ⟨S2x8192x32x2x32, .f32⟩
  | .hbm, ⟨24, _⟩ => ⟨S2x8192x32x2x32, .f32⟩
  | .hbm, ⟨25, _⟩ => ⟨S2x8192x32x2x32, .f32⟩
  | .hbm, ⟨26, _⟩ => ⟨S2x8192x32x2x1x32, .f32⟩
  | .hbm, ⟨27, _⟩ => ⟨S2x8192x32x2x1x32, .f32⟩
  | .hbm, ⟨28, _⟩ => ⟨S2x8192x32x2x2x32, .f32⟩
  | .hbm, ⟨29, _⟩ => ⟨S16384x4096, .f32⟩
  | .hbm, ⟨30, _⟩ => ⟨S512x4096, .f32⟩
  | .hbm, ⟨31, _⟩ => ⟨S16896x4096, .f32⟩
  | .hbm, ⟨32, _⟩ => ⟨S16896x2048, .f32⟩
  | .hbm, ⟨33, _⟩ => ⟨S_, .f32⟩
  | .hbm, ⟨34, _⟩ => ⟨S16896x2048, .f32⟩
  | .hbm, ⟨35, _⟩ => ⟨S16896x2048, .f32⟩
  | .hbm, ⟨36, _⟩ => ⟨S16896x2048, .f32⟩
  | .hbm, ⟨37, _⟩ => ⟨S16896x2048, .f32⟩
  | .hbm, ⟨38, _⟩ => ⟨S16896x6144, .f32⟩
  | .hbm, ⟨39, _⟩ => ⟨S16896x6144, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Proof.RefDefs.lean ====
module

public import proofs.«01_k».proof.Proof.Gen.ReferenceIdeal.Run
public import Idealize.ShloMosaic.Lib.Pointwise

@[expose] public section

set_option maxRecDepth 8192

namespace Attn.Ref

open Idealize Idealize.ShloMosaic Idealize.ShloMosaic.TcCoe Cert.ReferenceIdeal Cert.ReferenceIdeal.Gen

noncomputable section

/-- The activations, widened. -/
def uu (A : FVec Ideal S16896x6144 .bf16) : FVec Ideal S16896x6144 .f32 :=
  extf .f32 A bitsLt_bf16_f32

/-- The latent rows, by batch. -/
def lat (A : FVec Ideal S16896x6144 .bf16) : FVec Ideal S2x8192x6144 .f32 :=
  shapeCast _ (extractStridedSlice S16384x6144 ![0, 0] (uu A) slices_S16896x6144_S16384x6144_0_0) shapeCasts_S16384x6144_S2x8192x6144

/-- The context rows, by batch. -/
def ctx (A : FVec Ideal S16896x6144 .bf16) : FVec Ideal S2x256x6144 .f32 :=
  shapeCast _ (extractStridedSlice S512x6144 ![16384, 0] (uu A) slices_S16896x6144_S512x6144_16384_0) shapeCasts_S512x6144_S2x256x6144

/-- The keys and values of a batch: latent rows, then context rows. -/
def kv (A : FVec Ideal S16896x6144 .bf16) : FVec Ideal S2x8448x4096 .f32 :=
  concatenate S2x8448x4096 1 [⟨S2x8192x4096, (extractStridedSlice S2x8192x4096 ![0, 0, 2048] (lat A) slices_S2x8192x6144_S2x8192x4096_0_0_2048)⟩, ⟨S2x256x4096, (extractStridedSlice S2x256x4096 ![0, 0, 2048] (ctx A) slices_S2x256x6144_S2x256x4096_0_0_2048)⟩] concatenates_S2x8192x4096_S2x256x4096_S2x8448x4096_d1

/-- The queries, by head and map. -/
def qq (A : FVec Ideal S16896x6144 .bf16) : FVec Ideal S2x8192x8x2x128 .f32 :=
  shapeCast _ (extractStridedSlice S2x8192x2048 ![0, 0, 0] (lat A) slices_S2x8192x6144_S2x8192x2048_0_0_0) shapeCasts_S2x8192x2048_S2x8192x8x2x128

/-- The keys, by head and map. -/
def kk (A : FVec Ideal S16896x6144 .bf16) : FVec Ideal S2x8448x8x2x128 .f32 :=
  shapeCast _ (extractStridedSlice S2x8448x2048 ![0, 0, 0] (kv A) slices_S2x8448x4096_S2x8448x2048_0_0_0) shapeCasts_S2x8448x2048_S2x8448x8x2x128

/-- The values, by head. -/
def vv (A : FVec Ideal S16896x6144 .bf16) : FVec Ideal S2x8448x8x256 .f32 :=
  shapeCast _ (extractStridedSlice S2x8448x2048 ![0, 0, 2048] (kv A) slices_S2x8448x4096_S2x8448x2048_0_0_2048) shapeCasts_S2x8448x2048_S2x8448x8x256

/-- The scores, times the logarithm of two. -/
def sc (Q : FVec Ideal S2x8192x8x2x128 .f32) (K : FVec Ideal S2x8448x8x2x128 .f32) : FVec Ideal S2x8x2x8192x8448 .f32 :=
  mulf (Host.dotGeneral dot_S2x8192x8x2x128_S2x8448x8x2x128_S2x8x2x8192x8448_4_4_1_1_023_023 none Q K) (broadcastInDim S2x8x2x8192x8448 ![] bcast_S_S2x8x2x8192x8448 (Host.log (constant S_ .f32 0x40000000#32)))

/-- The largest score of every query. -/
def mxs (s : FVec Ideal S2x8x2x8192x8448 .f32) : FVec Ideal S2x8x2x8192 .f32 :=
  maximumf (broadcastInDim S2x8x2x8192 ![] bcast_S_S2x8x2x8192 (constant S_ .f32 0xFF800000#32)) (Host.reduce FloatOps.maximumf s (constant S_ .f32 0xFF800000#32) reducesTo_S2x8x2x8192x8448_S2x8x2x8192_d4 h_S_)

/-- The weights, before they are divided by their sum. -/
def ex (s : FVec Ideal S2x8x2x8192x8448 .f32) (μ : FVec Ideal S2x8x2x8192 .f32) : FVec Ideal S2x8x2x8192x8448 .f32 :=
  Host.exp (subf s (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 μ)))

/-- The two softmax maps. -/
def pm (w : FVec Ideal S2x8x2x8192x8448 .f32) : FVec Ideal S2x8x2x8192x8448 .f32 :=
  Host.divf w (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 (Host.reduceAdd w (constant S_ .f32 0x00000000#32) reducesTo_S2x8x2x8192x8448_S2x8x2x8192_d4 h_S_)))

/-- The weight of the second map. -/
def lamv (L : FVec Ideal S4x128 .f32) : FVec Ideal S_ .f32 :=
  addf (subf (Host.exp (Host.reduceAdd (mulf (shapeCast _ (extractStridedSlice S1x128 ![0, 0] L slices_S4x128_S1x128_0_0) shapeCasts_S1x128_S128) (shapeCast _ (extractStridedSlice S1x128 ![1, 0] L slices_S4x128_S1x128_1_0) shapeCasts_S1x128_S128)) (constant S_ .f32 0x00000000#32) reducesTo_S128_S_d0 h_S_)) (Host.exp (Host.reduceAdd (mulf (shapeCast _ (extractStridedSlice S1x128 ![2, 0] L slices_S4x128_S1x128_2_0) shapeCasts_S1x128_S128) (shapeCast _ (extractStridedSlice S1x128 ![3, 0] L slices_S4x128_S1x128_3_0) shapeCasts_S1x128_S128)) (constant S_ .f32 0x00000000#32) reducesTo_S128_S_d0 h_S_))) (constant S_ .f32 0x3E4CCCCD#32)

/-- The first map. -/
def p0 (p : FVec Ideal S2x8x2x8192x8448 .f32) : FVec Ideal S2x8x8192x8448 .f32 :=
  shapeCast _ (extractStridedSlice S2x8x1x8192x8448 ![0, 0, 0, 0, 0] p slices_S2x8x2x8192x8448_S2x8x1x8192x8448_0_0_0_0_0) shapeCasts_S2x8x1x8192x8448_S2x8x8192x8448

/-- The second map. -/
def p1 (p : FVec Ideal S2x8x2x8192x8448 .f32) : FVec Ideal S2x8x8192x8448 .f32 :=
  shapeCast _ (extractStridedSlice S2x8x1x8192x8448 ![0, 0, 1, 0, 0] p slices_S2x8x2x8192x8448_S2x8x1x8192x8448_0_0_1_0_0) shapeCasts_S2x8x1x8192x8448_S2x8x8192x8448

/-- The first map less the weighted second. -/
def aa (a b : FVec Ideal S2x8x8192x8448 .f32) (w : FVec Ideal S_ .f32) : FVec Ideal S2x8x8192x8448 .f32 :=
  subf a (mulf (broadcastInDim S2x8x8192x8448 ![] bcast_S_S2x8x8192x8448 w) b)

/-- The values summed with the weights of a map. -/
def dg (V : FVec Ideal S2x8448x8x256 .f32) (a : FVec Ideal S2x8x8192x8448 .f32) : FVec Ideal S2x8x256x8192 .f32 :=
  Host.dotGeneral dot_S2x8448x8x256_S2x8x8192x8448_S2x8x256x8192_1_3_3_2_02_01 none V a

/-- The heads' outputs, by query. -/
def oo (d : FVec Ideal S2x8x256x8192 .f32) : FVec Ideal S2x8192x8x256 .f32 :=
  transpose S2x8192x8x256 [0, 3, 1, 2] d transposes_S2x8x256x8192_S2x8192x8x256_0_3_1_2

/-- The inverse root mean square of a head. -/
def ms (o : FVec Ideal S2x8192x8x256 .f32) : FVec Ideal S2x8192x8x1 .f32 :=
  Host.rsqrt (addf (Host.divf (broadcastInDim S2x8192x8x1 ![0, 1, 2] bcast_S2x8192x8_S2x8192x8x1_0_1_2 (Host.reduceAdd (mulf o o) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32)))

/-- The normalised heads. -/
def nn (o : FVec Ideal S2x8192x8x256 .f32) (σ : FVec Ideal S2x8192x8x1 .f32) (G : FVec Ideal S256 .f32) : FVec Ideal S2x8192x8x256 .f32 :=
  mulf (mulf (mulf o (broadcastInDim S2x8192x8x256 ![0, 1, 2, 3] bcast_S2x8192x8x1_S2x8192x8x256_0_1_2_3 σ)) (broadcastInDim S2x8192x8x256 ![0, 1, 2, 3] bcast_S1x1x1x256_S2x8192x8x256_0_1_2_3 (broadcastInDim S1x1x1x256 ![3] bcast_S256_S1x1x1x256_3 G))) (broadcastInDim S2x8192x8x256 ![] bcast_S_S2x8192x8x256 (constant S_ .f32 0x3F4CCCCD#32))

/-- The heads side by side, narrowed. -/
def fl (n : FVec Ideal S2x8192x8x256 .f32) : FVec Ideal S16384x2048 .bf16 :=
  truncf .bf16 (shapeCast _ n shapeCasts_S2x8192x8x256_S16384x2048) bitsLt_bf16_f32

/-- The scores of the arguments. -/
def scA (A : FVec Ideal S16896x6144 .bf16) := sc (qq A) (kk A)

/-- The two maps of the arguments. -/
def pmA (A : FVec Ideal S16896x6144 .bf16) := pm (ex (scA A) (mxs (scA A)))

/-- The heads' outputs of the arguments. -/
def ooA (A : FVec Ideal S16896x6144 .bf16) (L : FVec Ideal S4x128 .f32) := oo (dg (vv A) (aa (p0 (pmA A)) (p1 (pmA A)) (lamv L)))

/-- The whole attention of the arguments. -/
def out (A : FVec Ideal S16896x6144 .bf16) (L : FVec Ideal S4x128 .f32) (G : FVec Ideal S256 .f32) := fl (nn (ooA A L) (ms (ooA A L)) G)

/-- The reference's result is the attention of its arguments. -/
theorem res_eq (m : (ℓ : Loc nD τ sig) → Buf (Elt Ideal) ℓ) (c : Dev nD) :
    Cert.ReferenceIdeal.Value.res_out0 m c = out (m ((c.tc : Thread nD τ).loc main_arg0)) (m ((c.tc : Thread nD τ).loc main_arg1)) (m ((c.tc : Thread nD τ).loc main_arg2)) := by
  unfold Cert.ReferenceIdeal.Value.res_out0 Cert.ReferenceIdeal.Value.res_main_v70
  rfl

end
end Attn.Ref
-- ==== Proof.Online.lean ====
module

public import Idealize.ShloMosaic.Lib.Pointwise

@[expose] public section

namespace Attn

open Idealize.ShloMosaic

noncomputable section

/-- The running maximum after one more chunk `S` of scores. -/
def mx {n : ℕ} (m : EReal) (S : Fin n → EReal) : EReal := max m (Finset.univ.sup S)

/-- The factor by which the former sums shrink when the running maximum moves to `mx m S`. -/
def al {n : ℕ} (m : EReal) (S : Fin n → EReal) : EReal := Ideal.exp2 (m - mx m S)

/-- The weight of one score of the chunk, relative to the new maximum. -/
def pr {n : ℕ} (m : EReal) (S : Fin n → EReal) (c : Fin n) : EReal := Ideal.exp2 (S c - mx m S)

/-- The running sum of weights after the chunk. -/
def ls {n : ℕ} (m l : EReal) (S : Fin n → EReal) : EReal := al m S * l + ∑ c, pr m S c

/-- The running weighted sum of values after the chunk. -/
def ac {n : ℕ} (m a : EReal) (S V : Fin n → EReal) : EReal := a * al m S + ∑ c, pr m S c * V c

/-- The running values of one query row: maximum, sum of weights, weighted sums of the 256 value lanes. -/
structure Row where
  m : EReal
  l : EReal
  a : Fin 256 → EReal

/-- The running values before the first chunk. -/
def Row.zero : Row := ⟨⊥, 0, fun _ => 0⟩

/-- The running values after one more chunk, of scores `S` and value rows `V`. -/
def Row.next {n : ℕ} (R : Row) (S : Fin n → EReal) (V : Fin n → Fin 256 → EReal) : Row :=
  ⟨mx R.m S, ls R.m R.l S, fun e => ac R.m (R.a e) S fun c => V c e⟩

end
end Attn
-- ==== Proof.Ops.lean ====
module

public import proofs.«01_k».proof.Proof.Gen.KernelIdeal.Skeleton
public import proofs.«01_k».proof.Proof.Online
public import Idealize.ShloMosaic.Lib.Pointwise
public import Idealize.ShloMosaic.Lib.Pipeline.Value

@[expose] public section

namespace Attn

open Idealize Idealize.ShloMosaic Cert.KernelIdeal Cert.KernelIdeal.Gen

noncomputable section

/-- The fold a printed maximum reduction leaves is the supremum. -/
theorem fold_sup {n : ℕ} (f : Fin n → EReal) :
    Finset.fold max (Ideal.ofBits FTy.f32 0xFF800000#32) f Finset.univ = Finset.univ.sup f := by
  rw [show Ideal.ofBits FTy.f32 0xFF800000#32 = (⊥ : EReal) by simp [Ideal.ofBits, Ideal.ieee]]
  rfl

/-- Copies of a vector that is constant along its lanes, joined along the lanes, are constant too. -/
theorem concat_const {N W : ℕ} (x : Vec Ideal S64x128 .f32) (f : Fin 64 → EReal)
    (hx : ∀ r c, x (ix2 r c) = f r)
    (h : Shape.Concatenates ((List.replicate N (⟨S64x128, x⟩ : (s : Shape) × (s.Idx → EReal))).map (·.1)) ⟨2, ![64, W]⟩ 1)
    (r : Fin 64) (c : Fin W) :
    concatenate ⟨2, ![64, W]⟩ 1 (List.replicate N (⟨S64x128, x⟩ : (s : Shape) × (s.Idx → EReal))) h (ix2 r c) = f r := by
  rw [concatenate_replicate_apply 1 N x h rfl (ix2 r c) (ix2 r ⟨c.val % 128, Nat.mod_lt _ (by norm_num)⟩)]
  · exact hx _ _
  · rfl
  · intro b hb
    fin_cases b
    · rfl
    · exact absurd rfl hb

/-- What the four stores of a row group are to hold, for scores `s` of width `W`, a running maximum `m` and a running sum `l`. -/
structure Spec (W : ℕ)
    (gM : Vec Ideal ⟨3, ![1, 64, W]⟩ .f32 → Vec Ideal S1x64x128 .f32 → Vec Ideal S1x64x128 .f32)
    (gL : Vec Ideal ⟨3, ![1, 64, W]⟩ .f32 → Vec Ideal S1x64x128 .f32 → Vec Ideal S1x64x128 .f32 → Vec Ideal S1x64x128 .f32)
    (gA : Vec Ideal ⟨3, ![1, 64, W]⟩ .f32 → Vec Ideal S1x64x128 .f32 → Vec Ideal S1x64x128 .f32)
    (gP : Vec Ideal ⟨3, ![1, 64, W]⟩ .f32 → Vec Ideal S1x64x128 .f32 → Vec Ideal ⟨3, ![1, 64, W]⟩ .bf16) : Prop where
  hM : ∀ s m (f : Fin 64 → EReal), (∀ r c, m (ix3 0 r c) = f r) → ∀ r c,
    gM s m (ix3 0 r c) = mx (f r) fun k => s (ix3 0 r k)
  hL : ∀ s m l (f : Fin 64 → EReal) (g : Fin 64 → EReal), (∀ r c, m (ix3 0 r c) = f r) → (∀ r c, l (ix3 0 r c) = g r) →
    ∀ r c, gL s m l (ix3 0 r c) = ls (f r) (g r) fun k => s (ix3 0 r k)
  hA : ∀ s m (f : Fin 64 → EReal), (∀ r c, m (ix3 0 r c) = f r) → ∀ r c,
    gA s m (ix3 0 r c) = al (f r) fun k => s (ix3 0 r k)
  hP : ∀ s m (f : Fin 64 → EReal), (∀ r c, m (ix3 0 r c) = f r) → ∀ r c,
    gP s m (ix3 0 r c) = pr (f r) (fun k => s (ix3 0 r k)) c

section
variable (s : Vec Ideal S1x64x2048 .f32) (m l : Vec Ideal S1x64x128 .f32) (f g : Fin 64 → EReal)

theorem maxA_at (hm : ∀ r c, m (ix3 0 r c) = f r) (r : Fin 64) (c : Fin 128) :
    k0_pay99 s m (ix2 r c) = mx (f r) fun k => s (ix3 0 r k) := by
  pointwise [k0_pay99, k0_pay97, k0_pay98]
  rw [hm, fold_sup]; rfl

theorem alphaA_at (hm : ∀ r c, m (ix3 0 r c) = f r) (r : Fin 64) (c : Fin 128) :
    k0_pay100 s m (ix2 r c) = al (f r) fun k => s (ix3 0 r k) := by
  show Ideal.exp2 (k0_pay98 m (ix2 r c) - k0_pay99 s m (ix2 r c)) = _
  rw [maxA_at s m f hm]
  pointwise [k0_pay98]
  rw [hm]; rfl

theorem probA_at (hm : ∀ r c, m (ix3 0 r c) = f r) (r : Fin 64) (c : Fin 2048) :
    k0_pay101 s m (ix2 r c) = pr (f r) (fun k => s (ix3 0 r k)) c := by
  show Ideal.exp2 (k0_pay97 s (ix2 r c) - concatenate S64x2048 1
    (List.replicate 16 (⟨S64x128, k0_pay99 s m⟩ : (s : Shape) × (s.Idx → EReal))) concatenates_S64x128_S64x128_S64x128_S64x128_S64x128_S64x128_S64x128_S64x128_S64x128_S64x128_S64x128_S64x128_S64x128_S64x128_S64x128_S64x128_S64x2048_d1 (ix2 r c)) = _
  rw [concat_const (k0_pay99 s m) _ (maxA_at s m f hm)]
  pointwise [k0_pay97]
  rfl

/-- The four stores of a row group of a chunk of width 2048. -/
theorem specA : Spec 2048 k0_pay103 k0_pay102 k0_pay104 k0_pay105 where
  hM s m f hm r c := by
    rw [← maxA_at s m f hm r c]
    pointwise [k0_pay103]
  hL s m l f g hm hl r c := by
    pointwise [k0_pay102]
    rw [hl, alphaA_at s m f hm, Finset.sum_congr rfl fun k _ => probA_at s m f hm r k]
    rfl
  hA s m f hm r c := by
    rw [← alphaA_at s m f hm r c]
    pointwise [k0_pay104]
  hP s m f hm r c := by
    rw [← probA_at s m f hm r c]
    pointwise [k0_pay105]

end

section
variable (s : Vec Ideal S1x64x256 .f32) (m l : Vec Ideal S1x64x128 .f32) (f g : Fin 64 → EReal)

theorem maxB_at (hm : ∀ r c, m (ix3 0 r c) = f r) (r : Fin 64) (c : Fin 128) :
    k0_pay711 s m (ix2 r c) = mx (f r) fun k => s (ix3 0 r k) := by
  pointwise [k0_pay711, k0_pay709, k0_pay710]
  rw [hm, fold_sup]; rfl

theorem alphaB_at (hm : ∀ r c, m (ix3 0 r c) = f r) (r : Fin 64) (c : Fin 128) :
    k0_pay712 s m (ix2 r c) = al (f r) fun k => s (ix3 0 r k) := by
  show Ideal.exp2 (k0_pay710 m (ix2 r c) - k0_pay711 s m (ix2 r c)) = _
  rw [maxB_at s m f hm]
  pointwise [k0_pay710]
  rw [hm]; rfl

theorem probB_at (hm : ∀ r c, m (ix3 0 r c) = f r) (r : Fin 64) (c : Fin 256) :
    k0_pay713 s m (ix2 r c) = pr (f r) (fun k => s (ix3 0 r k)) c := by
  show Ideal.exp2 (k0_pay709 s (ix2 r c) - concatenate S64x256 1
    (List.replicate 2 (⟨S64x128, k0_pay711 s m⟩ : (s : Shape) × (s.Idx → EReal))) concatenates_S64x128_S64x128_S64x256_d1 (ix2 r c)) = _
  rw [concat_const (k0_pay711 s m) _ (maxB_at s m f hm)]
  pointwise [k0_pay709]
  rfl

/-- The shrinking factor and the weights of a row group of the context chunk, as stored. -/
def alphaB (s : Vec Ideal S1x64x256 .f32) (m : Vec Ideal S1x64x128 .f32) : Vec Ideal S1x64x128 .f32 := k0_pay716 (k0_pay712 s m)
def probB (s : Vec Ideal S1x64x256 .f32) (m : Vec Ideal S1x64x128 .f32) : Vec Ideal S1x64x256 .bf16 := k0_pay717 (k0_pay713 s m)

/-- The four stores of a row group of a chunk of width 256. -/
theorem specB : Spec 256 k0_pay715 k0_pay714 alphaB probB where
  hM s m f hm r c := by
    rw [← maxB_at s m f hm r c]
    pointwise [k0_pay715]
  hL s m l f g hm hl r c := by
    pointwise [k0_pay714]
    rw [hl, alphaB_at s m f hm, Finset.sum_congr rfl fun k _ => probB_at s m f hm r k]
    rfl
  hA s m f hm r c := by
    rw [← alphaB_at s m f hm r c]
    pointwise [alphaB, k0_pay716]
  hP s m f hm r c := by
    rw [← probB_at s m f hm r c]
    pointwise [probB, k0_pay717]

end

end
end Attn
-- ==== Proof.Lists.lean ====
module

public import proofs.«01_k».proof.Proof.Ops
public import Idealize.ShloMosaic.Lib.Pipeline.FrameBody

@[expose] public section

namespace Attn

open Idealize Idealize.ShloMosaic Idealize.ShloMosaic.View Cert.KernelIdeal Cert.KernelIdeal.Gen

noncomputable section

/-- Pieces written to a buffer of two maps, 512 rows and `D` lanes. -/
abbrev PL (D : ℕ) (e : EltTy) := List (View.Piece (Elt Ideal) ⟨3, ![2, 512, D]⟩ e)

section
variable {D H W a o : ℕ} {e : EltTy}

/-- The place of a box's own index inside the buffer. -/
theorem box_idx (inb : ∀ x, (![a, o, 0] : Fin 3 → ℕ) x + (⟨3, ![1, H, W]⟩ : Shape).size x ≤ (⟨3, ![2, 512, D]⟩ : Shape).size x)
    (r : Fin H) (c : Fin W) (i : Fin 2) (r' : Fin 512) (c' : Fin D) (hi : i.val = a) (hr : r'.val = o + r.val) (hc : c'.val = c.val) :
    (Rect.unit (s := ⟨3, ![2, 512, D]⟩) ![a, o, 0] (⟨3, ![1, H, W]⟩ : Shape).size inb).toLoadRect.idx (ix3 0 r c) = ix3 i r' c' := by
  funext x
  apply Fin.ext
  fin_cases x
  · show a + 1 * 0 = i.val
    omega
  · show o + 1 * r.val = r'.val
    omega
  · show 0 + 1 * c.val = c'.val
    omega

/-- Inside the newest piece the buffer holds the piece. -/
theorem canon_in (inb : ∀ x, (![a, o, 0] : Fin 3 → ℕ) x + (⟨3, ![1, H, W]⟩ : Shape).size x ≤ (⟨3, ![2, 512, D]⟩ : Shape).size x)
    (w : (⟨3, ![1, H, W]⟩ : Shape).Idx → Elt Ideal e) (L : PL D e)
    (r : Fin H) (c : Fin W) (i : Fin 2) (r' : Fin 512) (c' : Fin D) (hi : i.val = a) (hr : r'.val = o + r.val) (hc : c'.val = c.val) :
    canon (⟨Rect.unit (s := ⟨3, ![2, 512, D]⟩) ![a, o, 0] (⟨3, ![1, H, W]⟩ : Shape).size inb, w⟩ :: L) (ix3 i r' c') = w (ix3 0 r c) := by
  rw [← box_idx inb r c i r' c' hi hr hc]
  exact canon_cons_emb (Rect.unit (s := ⟨3, ![2, 512, D]⟩) ![a, o, 0] (⟨3, ![1, H, W]⟩ : Shape).size inb) w L (ix3 0 r c)

/-- Outside the newest piece the buffer holds what it held. -/
theorem canon_out (inb : ∀ x, (![a, o, 0] : Fin 3 → ℕ) x + (⟨3, ![1, H, W]⟩ : Shape).size x ≤ (⟨3, ![2, 512, D]⟩ : Shape).size x)
    (w : (⟨3, ![1, H, W]⟩ : Shape).Idx → Elt Ideal e) (L : PL D e)
    (i : Fin 2) (r' : Fin 512) (c' : Fin D) (h : i.val ≠ a ∨ r'.val < o ∨ o + H ≤ r'.val) :
    canon (⟨Rect.unit (s := ⟨3, ![2, 512, D]⟩) ![a, o, 0] (⟨3, ![1, H, W]⟩ : Shape).size inb, w⟩ :: L) (ix3 i r' c') = canon L (ix3 i r' c') := by
  apply canon_cons_of_not_mem
  intro hm
  have hm := (Rect.mem_set_unit (inb := inb)).mp hm
  have h0 : a ≤ i.val ∧ i.val < a + 1 := hm 0
  have h1 : o ≤ r'.val ∧ r'.val < o + H := hm 1
  omega

/-- A load of a box reads the buffer there. -/
theorem load_at (v : Memref sig .tc .vmem ⟨3, ![2, 512, D]⟩ e)
    (inb : ∀ x, (![a, o, 0] : Fin 3 → ℕ) x + (⟨3, ![1, H, W]⟩ : Shape).size x ≤ (⟨3, ![2, 512, D]⟩ : Shape).size x) (L : PL D e)
    (r : Fin H) (c : Fin W) (i : Fin 2) (r' : Fin 512) (c' : Fin D) (hi : i.val = a) (hr : r'.val = o + r.val) (hc : c'.val = c.val) :
    v.view.readCov L (Rect.unit (s := ⟨3, ![2, 512, D]⟩) ![a, o, 0] (⟨3, ![1, H, W]⟩ : Shape).size inb).toLoadRect (ix3 0 r c)
      = canon L (ix3 i r' c') := by
  rw [readCov_eq_canon', ← box_idx inb r c i r' c' hi hr hc]

end

/-- A buffer of running values holds `f` at every lane. -/
def Holds (L : PL 128 .f32) (f : Fin 2 → Fin 512 → EReal) : Prop := ∀ i r c, canon L (ix3 i r c) = f i r

/-- The first `W` lanes of a buffer of `2048` hold `S`. -/
def HoldsW {e : EltTy} (W : ℕ) (hW : W ≤ 2048) (L : PL 2048 e) (S : Fin 2 → Fin 512 → Fin W → Elt Ideal e) : Prop :=
  ∀ i r (c : Fin W), canon L (ix3 i r ⟨c.val, c.isLt.trans_le hW⟩) = S i r c

/-- After `k` row groups of a chunk: the running maximum and sum of the rows of those groups are the new ones, of the others
    still the old ones; the shrinking factors and the weights of the rows done are stored. -/
structure St (W : ℕ) (hW : W ≤ 2048) (S : Fin 2 → Fin 512 → Fin W → EReal) (m l : Fin 2 → Fin 512 → EReal) (k : ℕ)
    (Hm Hl Ha : PL 128 .f32) (Hp : PL 2048 .bf16) : Prop where
  hm : Holds Hm fun i r => if i.val * 8 + r.val / 64 < k then mx (m i r) (S i r) else m i r
  hl : Holds Hl fun i r => if i.val * 8 + r.val / 64 < k then ls (m i r) (l i r) (S i r) else l i r
  ha : ∀ i r c, i.val * 8 + r.val / 64 < k → canon Ha (ix3 i r c) = al (m i r) (S i r)
  hp : ∀ i r (c : Fin W), i.val * 8 + r.val / 64 < k →
    canon Hp (ix3 i r ⟨c.val, c.isLt.trans_le hW⟩) = pr (m i r) (S i r) c

theorem St.start (W : ℕ) (hW : W ≤ 2048) (S : Fin 2 → Fin 512 → Fin W → EReal) {m l : Fin 2 → Fin 512 → EReal}
    {Hm Hl Ha : PL 128 .f32} {Hp : PL 2048 .bf16} (hm : Holds Hm m) (hl : Holds Hl l) : St W hW S m l 0 Hm Hl Ha Hp where
  hm i r c := hm i r c
  hl i r c := hl i r c
  ha i r c h := absurd h (Nat.not_lt_zero _)
  hp i r c h := absurd h (Nat.not_lt_zero _)

/-- One row group more. -/
theorem St.step {W : ℕ} {hW : W ≤ 2048} {gM gL gA gP} (sp : Spec W gM gL gA gP) {S : Fin 2 → Fin 512 → Fin W → EReal}
    {m l : Fin 2 → Fin 512 → EReal} {Hm Hl Ha : PL 128 .f32} {Hp : PL 2048 .bf16} {Hs : PL 2048 .f32}
    (hS : HoldsW W hW Hs S)
    (vs : Memref sig .tc .vmem S2x512x2048 .f32) (vm vl : Memref sig .tc .vmem S2x512x128 .f32) (a o k k' : ℕ)
    (hk : k' = k + 1) (hk' : k = a * 8 + o / 64) (ho : o % 64 = 0) (ho' : o + 64 ≤ 512)
    (i1 i2 i3 i4 i5)
    (i6 : ∀ x, (![a, o, 0] : Fin 3 → ℕ) x + (⟨3, ![1, 64, W]⟩ : Shape).size x ≤ (⟨3, ![2, 512, 2048]⟩ : Shape).size x)
    (i7 : ∀ x, (![a, o, 0] : Fin 3 → ℕ) x + (⟨3, ![1, 64, W]⟩ : Shape).size x ≤ (⟨3, ![2, 512, 2048]⟩ : Shape).size x)
    (h : St W hW S m l k Hm Hl Ha Hp) :
    St W hW S m l k'
      (⟨Rect.unit ![a, o, 0] S1x64x128.size i3, gM (vs.view.readCov Hs (Rect.unit (s := S2x512x2048) ![a, o, 0] (⟨3, ![1, 64, W]⟩ : Shape).size i6).toLoadRect)
        (vm.view.readCov Hm (Rect.unit (s := S2x512x128) ![a, o, 0] S1x64x128.size i1).toLoadRect)⟩ :: Hm)
      (⟨Rect.unit ![a, o, 0] S1x64x128.size i4, gL (vs.view.readCov Hs (Rect.unit (s := S2x512x2048) ![a, o, 0] (⟨3, ![1, 64, W]⟩ : Shape).size i6).toLoadRect)
        (vm.view.readCov Hm (Rect.unit (s := S2x512x128) ![a, o, 0] S1x64x128.size i1).toLoadRect)
        (vl.view.readCov Hl (Rect.unit (s := S2x512x128) ![a, o, 0] S1x64x128.size i2).toLoadRect)⟩ :: Hl)
      (⟨Rect.unit ![a, o, 0] S1x64x128.size i5, gA (vs.view.readCov Hs (Rect.unit (s := S2x512x2048) ![a, o, 0] (⟨3, ![1, 64, W]⟩ : Shape).size i6).toLoadRect)
        (vm.view.readCov Hm (Rect.unit (s := S2x512x128) ![a, o, 0] S1x64x128.size i1).toLoadRect)⟩ :: Ha)
      (⟨Rect.unit ![a, o, 0] (⟨3, ![1, 64, W]⟩ : Shape).size i7, gP (vs.view.readCov Hs (Rect.unit (s := S2x512x2048) ![a, o, 0] (⟨3, ![1, 64, W]⟩ : Shape).size i6).toLoadRect)
        (vm.view.readCov Hm (Rect.unit (s := S2x512x128) ![a, o, 0] S1x64x128.size i1).toLoadRect)⟩ :: Hp) := by
  let s : Vec Ideal ⟨3, ![1, 64, W]⟩ .f32 := vs.view.readCov Hs (Rect.unit (s := S2x512x2048) ![a, o, 0] (⟨3, ![1, 64, W]⟩ : Shape).size i6).toLoadRect
  let mm : Vec Ideal S1x64x128 .f32 := vm.view.readCov Hm (Rect.unit (s := S2x512x128) ![a, o, 0] S1x64x128.size i1).toLoadRect
  let ll : Vec Ideal S1x64x128 .f32 := vl.view.readCov Hl (Rect.unit (s := S2x512x128) ![a, o, 0] S1x64x128.size i2).toLoadRect
  have ha2 : a < 2 := by have := i1 0; exact Nat.lt_of_succ_le this
  let A : Fin 2 := ⟨a, ha2⟩
  let R : Fin 64 → Fin 512 := fun r => ⟨o + r.val, by omega⟩
  have hg : ∀ r : Fin 64, ¬ (A.val * 8 + (R r).val / 64 < k) := by
    intro r; show ¬ (a * 8 + (o + r.val) / 64 < k); omega
  have hmm : ∀ r c, mm (ix3 0 r c) = m A (R r) := fun r c => by
    refine (load_at vm i1 Hm r c A (R r) c rfl rfl rfl).trans ?_
    rw [h.hm]
    exact if_neg (hg r)
  have hll : ∀ r c, ll (ix3 0 r c) = l A (R r) := fun r c => by
    refine (load_at vl i2 Hl r c A (R r) c rfl rfl rfl).trans ?_
    rw [h.hl]
    exact if_neg (hg r)
  have hss : ∀ r : Fin 64, (fun c : Fin W => s (ix3 0 r c)) = S A (R r) := fun r => by
    funext c
    exact (load_at vs i6 Hs r c A (R r) ⟨c.val, c.isLt.trans_le hW⟩ rfl rfl rfl).trans (hS A (R r) c)
  -- a row of the buffer lies in this group or outside it
  have split : ∀ (i : Fin 2) (r : Fin 512), (∃ q, i = A ∧ r = R q ∧ i.val * 8 + r.val / 64 < k' ) ∨
      ((i.val ≠ a ∨ r.val < o ∨ o + 64 ≤ r.val) ∧ (i.val * 8 + r.val / 64 < k' ↔ i.val * 8 + r.val / 64 < k)) := by
    intro i r
    by_cases hh : i.val = a ∧ o ≤ r.val ∧ r.val < o + 64
    · refine .inl ⟨⟨r.val - o, by omega⟩, Fin.ext hh.1, Fin.ext ?_, by omega⟩
      show r.val = o + (r.val - o); omega
    · exact .inr ⟨by omega, by omega⟩
  refine ⟨fun i r c => ?_, fun i r c => ?_, fun i r c hlt => ?_, fun i r c hlt => ?_⟩
  · obtain ⟨q, rfl, rfl, hlt'⟩ | ⟨hout, hiff⟩ := split i r
    · beta_reduce
      rw [if_pos hlt', ← hss]
      exact (canon_in i3 _ Hm q c A (R q) c rfl rfl rfl).trans (sp.hM s mm _ hmm q c)
    · beta_reduce
      simp only [hiff]
      exact (canon_out i3 _ Hm i r c hout).trans (h.hm i r c)
  · obtain ⟨q, rfl, rfl, hlt'⟩ | ⟨hout, hiff⟩ := split i r
    · beta_reduce
      rw [if_pos hlt', ← hss]
      exact (canon_in i4 _ Hl q c A (R q) c rfl rfl rfl).trans (sp.hL s mm ll _ _ hmm hll q c)
    · beta_reduce
      simp only [hiff]
      exact (canon_out i4 _ Hl i r c hout).trans (h.hl i r c)
  · obtain ⟨q, rfl, rfl, hlt'⟩ | ⟨hout, hiff⟩ := split i r
    · rw [← hss]
      exact (canon_in i5 _ Ha q c A (R q) c rfl rfl rfl).trans (sp.hA s mm _ hmm q c)
    · exact (canon_out i5 _ Ha i r c hout).trans (h.ha i r c (hiff.mp hlt))
  · obtain ⟨q, rfl, rfl, hlt'⟩ | ⟨hout, hiff⟩ := split i r
    · rw [← hss]
      exact (canon_in i7 _ Hp q c A (R q) ⟨c.val, c.isLt.trans_le hW⟩ rfl rfl rfl).trans (sp.hP s mm _ hmm q c)
    · exact (canon_out i7 _ Hp i r _ hout).trans (h.hp i r c (hiff.mp hlt))

end
end Attn
-- ==== Proof.Acc.lean ====
module

public import proofs.«01_k».proof.Proof.Lists
public import Idealize.ShloMosaic.Lib.WholeRead

@[expose] public section

namespace Attn

open Idealize Idealize.ShloMosaic Idealize.ShloMosaic.View Cert.KernelIdeal Cert.KernelIdeal.Gen

noncomputable section

/-- What the update of the weighted sum of values is to hold, for a chunk of `W` keys. -/
def AccSpec (W : ℕ)
    (g : Vec Ideal ⟨2, ![W, 256]⟩ .bf16 → Vec Ideal S1x512x256 .f32 → Vec Ideal S1x512x128 .f32 →
      Vec Ideal ⟨3, ![1, 512, W]⟩ .bf16 → Vec Ideal S1x512x256 .f32) : Prop :=
  ∀ v A x p (f : Fin 512 → EReal), (∀ r c, x (ix3 0 r c) = f r) → ∀ r e,
    g v A x p (ix3 0 r e) = A (ix3 0 r e) * f r + ∑ k : Fin W, p (ix3 0 r k) * v (ix2 k e)

theorem accA : AccSpec 2048 k0_pay96 := by
  intro v A x p f hx r e
  pointwise [k0_pay96]
  refine congrArg (fun z => A (ix3 0 r e) * z + _) ?_
  split <;> exact hx _ _

theorem accB : AccSpec 256 k0_pay781 := by
  intro v A x p f hx r e
  pointwise [k0_pay781]
  refine congrArg (fun z => A (ix3 0 r e) * z + _) ?_
  split <;> exact hx _ _

/-- The weighted sums of values are held by a buffer. -/
def HoldsA (L : PL 256 .f32) (A : Fin 2 → Fin 512 → Fin 256 → EReal) : Prop := ∀ i r e, canon L (ix3 i r e) = A i r e

/-- The update of one map's weighted sums. -/
theorem acc_step {W : ℕ} {hW : W ≤ 2048} {g} (sp : AccSpec W g) {S : Fin 2 → Fin 512 → Fin W → EReal}
    {m l : Fin 2 → Fin 512 → EReal} {A : Fin 2 → Fin 512 → Fin 256 → EReal} {V : Fin W → Fin 256 → EReal} {k : ℕ}
    {Hm Hl Ha : PL 128 .f32} {Hp : PL 2048 .bf16} {H : PL 256 .f32} {v : Vec Ideal ⟨2, ![W, 256]⟩ .bf16}
    (h : St W hW S m l k Hm Hl Ha Hp) (hv : ∀ k e, v (ix2 k e) = V k e)
    (va : Memref sig .tc .vmem S2x512x256 .f32) (vx : Memref sig .tc .vmem S2x512x128 .f32) (vp : Memref sig .tc .vmem S2x512x2048 .bf16)
    (a : ℕ) (hk : (a + 1) * 8 = k) (i1 i2 i3)
    (i4 : ∀ x, (![a, 0, 0] : Fin 3 → ℕ) x + (⟨3, ![1, 512, W]⟩ : Shape).size x ≤ (⟨3, ![2, 512, 2048]⟩ : Shape).size x)
    (hA : HoldsA H fun i r e => if i.val < a then ac (m i r) (A i r e) (S i r) (fun k => V k e) else A i r e) :
    HoldsA (⟨Rect.unit ![a, 0, 0] S1x512x256.size i1,
        g v (va.view.readCov H (Rect.unit (s := S2x512x256) ![a, 0, 0] S1x512x256.size i2).toLoadRect)
          (vx.view.readCov Ha (Rect.unit (s := S2x512x128) ![a, 0, 0] S1x512x128.size i3).toLoadRect)
          (vp.view.readCov Hp (Rect.unit (s := S2x512x2048) ![a, 0, 0] (⟨3, ![1, 512, W]⟩ : Shape).size i4).toLoadRect)⟩ :: H)
      fun i r e => if i.val < a + 1 then ac (m i r) (A i r e) (S i r) (fun k => V k e) else A i r e := by
  intro i r e
  have ha2 : a < 2 := by have := i1 0; exact Nat.lt_of_succ_le this
  by_cases hi : i.val = a
  · have hlt : i.val * 8 + r.val / 64 < k := by omega
    refine (canon_in i1 _ H r e i r e hi (Nat.zero_add _).symm rfl).trans ?_
    beta_reduce
    rw [if_pos (by omega : i.val < a + 1), ac]
    have hx : ∀ r (c : Fin 128), vx.view.readCov Ha (Rect.unit (s := S2x512x128) ![a, 0, 0] S1x512x128.size i3).toLoadRect (ix3 0 r c)
        = al (m i r) (S i r) := fun r c =>
      (load_at vx i3 Ha r c i r c hi (Nat.zero_add _).symm rfl).trans (h.ha i r c (by omega))
    refine (sp v _ _ _ _ hx r e).trans ?_
    have e1 : va.view.readCov H (Rect.unit (s := S2x512x256) ![a, 0, 0] S1x512x256.size i2).toLoadRect (ix3 0 r e) = A i r e :=
      (load_at va i2 H r e i r e hi (Nat.zero_add _).symm rfl).trans ((hA i r e).trans (if_neg (by omega)))
    have e2 : ∀ c : Fin W, vp.view.readCov Hp (Rect.unit (s := S2x512x2048) ![a, 0, 0] (⟨3, ![1, 512, W]⟩ : Shape).size i4).toLoadRect (ix3 0 r c)
        = pr (m i r) (S i r) c := fun c =>
      (load_at vp i4 Hp r c i r ⟨c.val, c.isLt.trans_le hW⟩ hi (Nat.zero_add _).symm rfl).trans (h.hp i r c hlt)
    refine congrArg₂ (· + ·) (congrArg (· * _) e1) (Finset.sum_congr rfl fun c _ => congrArg₂ (· * ·) (e2 c) (hv c e))
  · refine (canon_out i1 _ H i r e (.inl hi)).trans ((hA i r e).trans ?_)
    have hiff : i.val < a ↔ i.val < a + 1 := by omega
    simp only [hiff]

/-- The three running buffers hold the running values `ρ` of every row of both maps. -/
structure Done (ρ : Fin 2 → Fin 512 → Row) (Hm Hl : PL 128 .f32) (HA : PL 256 .f32) : Prop where
  hm : Holds Hm fun i r => (ρ i r).m
  hl : Holds Hl fun i r => (ρ i r).l
  hA : HoldsA HA fun i r => (ρ i r).a

/-- All row groups of a chunk and both updates done: the buffers hold the next running values. -/
theorem Done.next {W : ℕ} {hW : W ≤ 2048} {S : Fin 2 → Fin 512 → Fin W → EReal} {V : Fin W → Fin 256 → EReal}
    {ρ : Fin 2 → Fin 512 → Row} {Hm Hl Ha : PL 128 .f32} {Hp : PL 2048 .bf16} {HA : PL 256 .f32}
    (h : St W hW S (fun i r => (ρ i r).m) (fun i r => (ρ i r).l) 16 Hm Hl Ha Hp)
    (hA : HoldsA HA fun i r e => if i.val < 1 + 1 then ac (ρ i r).m ((ρ i r).a e) (S i r) (fun k => V k e) else (ρ i r).a e) :
    Done (fun i r => (ρ i r).next (S i r) V) Hm Hl HA where
  hm i r c := (h.hm i r c).trans (if_pos (by omega))
  hl i r c := (h.hl i r c).trans (if_pos (by omega))
  hA i r e := (hA i r e).trans (if_pos (by omega))

/-- The lane of map `i`'s coordinate `d`. -/
def ln (i : Fin 2) (d : Fin 128) : Fin 256 := ⟨i.val * 128 + d.val, by omega⟩

/-- The score of key row `K` against a query row, for map `i`. -/
def dotm (q K : Fin 256 → EReal) (i : Fin 2) : EReal := ∑ d : Fin 128, q (ln i d) * K (ln i d)

/-- What the two stores of a chunk's scores are to hold. -/
def ScoreSpec (W : ℕ) (g : Vec Ideal ⟨2, ![W, 256]⟩ .bf16 → Vec Ideal S512x128 .bf16 → Vec Ideal ⟨3, ![1, 512, W]⟩ .f32) (i : Fin 2) : Prop :=
  ∀ k q r c, g k q (ix3 0 r c) = ∑ d : Fin 128, q (ix2 r d) * k (ix2 c (ln i d))

theorem scoreA0 : ScoreSpec 2048 k0_pay4 0 := by
  intro k q r c
  pointwise [k0_pay4]
  exact Finset.sum_congr rfl fun d _ => congrArg (fun z => _ * k (ix2 c z)) (Fin.ext (by simp [ln]))

theorem scoreA1 : ScoreSpec 2048 k0_pay5 1 := by
  intro k q r c
  pointwise [k0_pay5]
  exact Finset.sum_congr rfl fun d _ => congrArg (fun z => _ * k (ix2 c z)) (Fin.ext (by simp [ln]))

theorem scoreB0 : ScoreSpec 256 k0_pay477 0 := by
  intro k q r c
  pointwise [k0_pay477]
  exact Finset.sum_congr rfl fun d _ => congrArg (fun z => _ * k (ix2 c z)) (Fin.ext (by simp [ln]))

theorem scoreB1 : ScoreSpec 256 k0_pay478 1 := by
  intro k q r c
  pointwise [k0_pay478]
  exact Finset.sum_congr rfl fun d _ => congrArg (fun z => _ * k (ix2 c z)) (Fin.ext (by simp [ln]))

/-- The two stores of a chunk's scores, read back. -/
theorem scores_hold {W : ℕ} {hW : W ≤ 2048} {g0 g1} (sp0 : ScoreSpec W g0 0) (sp1 : ScoreSpec W g1 1)
    (x0 : Vec Ideal S512x256 .bf16) {K : Fin W → Fin 256 → EReal} {k k' : Vec Ideal ⟨2, ![W, 256]⟩ .bf16}
    {q0 q1 : Vec Ideal S512x128 .bf16} (L : PL 2048 .f32)
    (hk : ∀ c e, k (ix2 c e) = K c e) (hk' : ∀ c e, k' (ix2 c e) = K c e)
    (h0 : ∀ r d, q0 (ix2 r d) = x0 (ix2 r (ln 0 d))) (h1 : ∀ r d, q1 (ix2 r d) = x0 (ix2 r (ln 1 d)))
    (i1 : ∀ x, (![1, 0, 0] : Fin 3 → ℕ) x + (⟨3, ![1, 512, W]⟩ : Shape).size x ≤ (⟨3, ![2, 512, 2048]⟩ : Shape).size x)
    (i2 : ∀ x, (![0, 0, 0] : Fin 3 → ℕ) x + (⟨3, ![1, 512, W]⟩ : Shape).size x ≤ (⟨3, ![2, 512, 2048]⟩ : Shape).size x) :
    HoldsW W hW (⟨Rect.unit ![1, 0, 0] (⟨3, ![1, 512, W]⟩ : Shape).size i1, g1 k' q1⟩ ::
        ⟨Rect.unit ![0, 0, 0] (⟨3, ![1, 512, W]⟩ : Shape).size i2, g0 k q0⟩ :: L)
      fun i r c => dotm (fun e => x0 (ix2 r e)) (K c) i := by
  intro i r c
  obtain rfl | rfl : i = 0 ∨ i = 1 := by omega
  · refine (canon_out i1 _ _ 0 r _ (.inl (by decide))).trans ?_
    refine (canon_in i2 _ L r c 0 r _ rfl (Nat.zero_add _).symm rfl).trans ((sp0 k q0 r c).trans ?_)
    exact Finset.sum_congr rfl fun d _ => congrArg₂ (· * ·) (h0 r d) (hk c _)
  · refine (canon_in i1 _ _ r c 1 r _ rfl (Nat.zero_add _).symm rfl).trans ((sp1 k' q1 r c).trans ?_)
    exact Finset.sum_congr rfl fun d _ => congrArg₂ (· * ·) (h1 r d) (hk' c _)

/-- A load of a box of a whole input block, read at an index. -/
theorem block_at {n D H W o p : ℕ} {v : Memref sig .tc .vmem ⟨2, ![n, D]⟩ .bf16} (hv : v.IsWhole) (X : Vec Ideal ⟨2, ![n, D]⟩ .bf16)
    (inb : ∀ x, (![o, p] : Fin 2 → ℕ) x + (⟨2, ![H, W]⟩ : Shape).size x ≤ (⟨2, ![n, D]⟩ : Shape).size x)
    (r : Fin H) (c : Fin W) (r' : Fin n) (c' : Fin D) (hr : r'.val = o + r.val) (hc : c'.val = p + c.val) :
    View.readAt (Elt Ideal) v.view (Rect.unit (s := ⟨2, ![n, D]⟩) ![o, p] (⟨2, ![H, W]⟩ : Shape).size inb).toLoadRect (hv.unread X) (ix2 r c)
      = X (ix2 r' c') := by
  rw [hv.readAt_unread]
  congr 1
  funext x
  apply Fin.ext
  fin_cases x
  · show o + 1 * r.val = r'.val
    omega
  · show p + 1 * c.val = c'.val
    omega

end
end Attn
-- ==== Proof.Body.lean ====
module

public import proofs.«01_k».proof.Proof.Acc
public import proofs.«01_k».proof.Proof.Gen.KernelIdeal.Frame.RunA

@[expose] public section

set_option maxRecDepth 4096

namespace Attn

open Idealize Idealize.ShloMosaic Idealize.ShloMosaic.View Cert.KernelIdeal Cert.KernelIdeal.Gen

noncomputable section

variable (c : Dev nD) (arg3 : Memref sig .tc .vmem S512x256 .bf16) (harg3 : arg3.IsWhole) (arg4 : Memref sig .tc .vmem S8192x256 .bf16) (harg4 : arg4.IsWhole)
  (arg5 : Memref sig .tc .vmem S8192x256 .bf16) (harg5 : arg5.IsWhole) (arg6 : Memref sig .tc .vmem S256x256 .bf16) (harg6 : arg6.IsWhole)
  (arg7 : Memref sig .tc .vmem S256x256 .bf16) (harg7 : arg7.IsWhole)
  (arg11 arg12 arg13 : Memref sig .tc .vmem S2x512x128 .f32) (arg14 : Memref sig .tc .vmem S2x512x256 .f32)
  (arg15 arg16 : Memref sig .tc .vmem S2x512x2048 .f32) (arg17 arg18 : Memref sig .tc .vmem S2x512x2048 .bf16)
  (x0 : Vec Ideal S512x256 .bf16) (x1 x2 : Vec Ideal S8192x256 .bf16) (x3 x4 : Vec Ideal S256x256 .bf16)

/-- The first chunk: its row groups, and the updates of both maps. -/
theorem chunk0 {hW : 2048 ≤ 2048} {ρ : Fin 2 → Fin 512 → Row} {S : Fin 2 → Fin 512 → Fin 2048 → EReal} {V : Fin 2048 → Fin 256 → EReal}
    (hS : HoldsW 2048 hW (kernelRun0_A.sl.HS4_2 c arg3 harg3 arg4 harg4 x0 x1) S)
    (hV : ∀ k e, (kernelRun0_A.sl.r c arg5 harg5 x2) (ix2 k e) = V k e)
    (h : Done ρ (kernelRun0_A.sl.HS0_1) (kernelRun0_A.sl.HS1_1) (kernelRun0_A.sl.HS3_1)) :
    Done (fun i r => (ρ i r).next (S i r) V) (kernelRun0_A.sl.HS0_17 c arg3 harg3 arg4 harg4 arg11 arg15 x0 x1) (kernelRun0_A.sl.HS1_17 c arg3 harg3 arg4 harg4 arg11 arg12 arg15 x0 x1) (kernelRun0_A.sl.HS3_3 c arg3 harg3 arg4 harg4 arg5 harg5 arg11 arg13 arg14 arg15 arg17 x0 x1 x2) := by
  have h8 : St 2048 hW S (fun i r => (ρ i r).m) (fun i r => (ρ i r).l) 8 (kernelRun0_A.sl.HS0_9 c arg3 harg3 arg4 harg4 arg11 arg15 x0 x1)
      (kernelRun0_A.sl.HS1_9 c arg3 harg3 arg4 harg4 arg11 arg12 arg15 x0 x1) (kernelRun0_A.sl.HS2_8 c arg3 harg3 arg4 harg4 arg11 arg15 x0 x1) (kernelRun0_A.sl.HS6_8 c arg3 harg3 arg4 harg4 arg11 arg15 x0 x1) := by
    iterate 8 refine St.step specA hS arg15 arg11 arg12 _ _ _ _ (by rfl) (by rfl) (by rfl) (by norm_num) _ _ _ _ _ _ _ ?_
    exact St.start _ _ _ h.hm h.hl
  have a8 : HoldsA (kernelRun0_A.sl.HS3_2 c arg3 harg3 arg4 harg4 arg5 harg5 arg11 arg13 arg14 arg15 arg17 x0 x1 x2) _ :=
    acc_step accA h8 hV arg14 arg13 arg17 0 rfl _ _ _ _ (fun i r e => (h.hA i r e).trans (if_neg (by omega)).symm)
  have h16 : St 2048 hW S (fun i r => (ρ i r).m) (fun i r => (ρ i r).l) 16 (kernelRun0_A.sl.HS0_17 c arg3 harg3 arg4 harg4 arg11 arg15 x0 x1)
      (kernelRun0_A.sl.HS1_17 c arg3 harg3 arg4 harg4 arg11 arg12 arg15 x0 x1) (kernelRun0_A.sl.HS2_16 c arg3 harg3 arg4 harg4 arg11 arg15 x0 x1) (kernelRun0_A.sl.HS6_16 c arg3 harg3 arg4 harg4 arg11 arg15 x0 x1) := by
    iterate 8 refine St.step specA hS arg15 arg11 arg12 _ _ _ _ (by rfl) (by rfl) (by rfl) (by norm_num) _ _ _ _ _ _ _ ?_
    exact h8
  exact Done.next h16 (acc_step accA h16 hV arg14 arg13 arg17 1 rfl _ _ _ _ a8)

/-- The second chunk: its row groups, and the updates of both maps. -/
theorem chunk1 {hW : 2048 ≤ 2048} {ρ : Fin 2 → Fin 512 → Row} {S : Fin 2 → Fin 512 → Fin 2048 → EReal} {V : Fin 2048 → Fin 256 → EReal}
    (hS : HoldsW 2048 hW (kernelRun0_A.sl.HS5_2 c arg3 harg3 arg4 harg4 x0 x1) S)
    (hV : ∀ k e, (kernelRun0_A.sl.r_41 c arg5 harg5 x2) (ix2 k e) = V k e)
    (h : Done ρ (kernelRun0_A.sl.HS0_17 c arg3 harg3 arg4 harg4 arg11 arg15 x0 x1) (kernelRun0_A.sl.HS1_17 c arg3 harg3 arg4 harg4 arg11 arg12 arg15 x0 x1) (kernelRun0_A.sl.HS3_3 c arg3 harg3 arg4 harg4 arg5 harg5 arg11 arg13 arg14 arg15 arg17 x0 x1 x2)) :
    Done (fun i r => (ρ i r).next (S i r) V) (kernelRun0_A.sl.HS0_33 c arg3 harg3 arg4 harg4 arg11 arg15 arg16 x0 x1) (kernelRun0_A.sl.HS1_33 c arg3 harg3 arg4 harg4 arg11 arg12 arg15 arg16 x0 x1) (kernelRun0_A.sl.HS3_5 c arg3 harg3 arg4 harg4 arg5 harg5 arg11 arg13 arg14 arg15 arg16 arg17 arg18 x0 x1 x2) := by
  have h8 : St 2048 hW S (fun i r => (ρ i r).m) (fun i r => (ρ i r).l) 8 (kernelRun0_A.sl.HS0_25 c arg3 harg3 arg4 harg4 arg11 arg15 arg16 x0 x1)
      (kernelRun0_A.sl.HS1_25 c arg3 harg3 arg4 harg4 arg11 arg12 arg15 arg16 x0 x1) (kernelRun0_A.sl.HS2_24 c arg3 harg3 arg4 harg4 arg11 arg15 arg16 x0 x1) (kernelRun0_A.sl.HS7_8 c arg3 harg3 arg4 harg4 arg11 arg15 arg16 x0 x1) := by
    iterate 8 refine St.step specA hS arg16 arg11 arg12 _ _ _ _ (by rfl) (by rfl) (by rfl) (by norm_num) _ _ _ _ _ _ _ ?_
    exact St.start _ _ _ h.hm h.hl
  have a8 : HoldsA (kernelRun0_A.sl.HS3_4 c arg3 harg3 arg4 harg4 arg5 harg5 arg11 arg13 arg14 arg15 arg16 arg17 arg18 x0 x1 x2) _ :=
    acc_step accA h8 hV arg14 arg13 arg18 0 rfl _ _ _ _ (fun i r e => (h.hA i r e).trans (if_neg (by omega)).symm)
  have h16 : St 2048 hW S (fun i r => (ρ i r).m) (fun i r => (ρ i r).l) 16 (kernelRun0_A.sl.HS0_33 c arg3 harg3 arg4 harg4 arg11 arg15 arg16 x0 x1)
      (kernelRun0_A.sl.HS1_33 c arg3 harg3 arg4 harg4 arg11 arg12 arg15 arg16 x0 x1) (kernelRun0_A.sl.HS2_32 c arg3 harg3 arg4 harg4 arg11 arg15 arg16 x0 x1) (kernelRun0_A.sl.HS7_16 c arg3 harg3 arg4 harg4 arg11 arg15 arg16 x0 x1) := by
    iterate 8 refine St.step specA hS arg16 arg11 arg12 _ _ _ _ (by rfl) (by rfl) (by rfl) (by norm_num) _ _ _ _ _ _ _ ?_
    exact h8
  exact Done.next h16 (acc_step accA h16 hV arg14 arg13 arg18 1 rfl _ _ _ _ a8)

/-- The third chunk: its row groups, and the updates of both maps. -/
theorem chunk2 {hW : 2048 ≤ 2048} {ρ : Fin 2 → Fin 512 → Row} {S : Fin 2 → Fin 512 → Fin 2048 → EReal} {V : Fin 2048 → Fin 256 → EReal}
    (hS : HoldsW 2048 hW (kernelRun0_A.sl.HS4_4 c arg3 harg3 arg4 harg4 x0 x1) S)
    (hV : ∀ k e, (kernelRun0_A.sl.r_76 c arg5 harg5 x2) (ix2 k e) = V k e)
    (h : Done ρ (kernelRun0_A.sl.HS0_33 c arg3 harg3 arg4 harg4 arg11 arg15 arg16 x0 x1) (kernelRun0_A.sl.HS1_33 c arg3 harg3 arg4 harg4 arg11 arg12 arg15 arg16 x0 x1) (kernelRun0_A.sl.HS3_5 c arg3 harg3 arg4 harg4 arg5 harg5 arg11 arg13 arg14 arg15 arg16 arg17 arg18 x0 x1 x2)) :
    Done (fun i r => (ρ i r).next (S i r) V) (kernelRun0_A.sl.HS0_49 c arg3 harg3 arg4 harg4 arg11 arg15 arg16 x0 x1) (kernelRun0_A.sl.HS1_49 c arg3 harg3 arg4 harg4 arg11 arg12 arg15 arg16 x0 x1) (kernelRun0_A.sl.HS3_7 c arg3 harg3 arg4 harg4 arg5 harg5 arg11 arg13 arg14 arg15 arg16 arg17 arg18 x0 x1 x2) := by
  have h8 : St 2048 hW S (fun i r => (ρ i r).m) (fun i r => (ρ i r).l) 8 (kernelRun0_A.sl.HS0_41 c arg3 harg3 arg4 harg4 arg11 arg15 arg16 x0 x1)
      (kernelRun0_A.sl.HS1_41 c arg3 harg3 arg4 harg4 arg11 arg12 arg15 arg16 x0 x1) (kernelRun0_A.sl.HS2_40 c arg3 harg3 arg4 harg4 arg11 arg15 arg16 x0 x1) (kernelRun0_A.sl.HS6_24 c arg3 harg3 arg4 harg4 arg11 arg15 arg16 x0 x1) := by
    iterate 8 refine St.step specA hS arg15 arg11 arg12 _ _ _ _ (by rfl) (by rfl) (by rfl) (by norm_num) _ _ _ _ _ _ _ ?_
    exact St.start _ _ _ h.hm h.hl
  have a8 : HoldsA (kernelRun0_A.sl.HS3_6 c arg3 harg3 arg4 harg4 arg5 harg5 arg11 arg13 arg14 arg15 arg16 arg17 arg18 x0 x1 x2) _ :=
    acc_step accA h8 hV arg14 arg13 arg17 0 rfl _ _ _ _ (fun i r e => (h.hA i r e).trans (if_neg (by omega)).symm)
  have h16 : St 2048 hW S (fun i r => (ρ i r).m) (fun i r => (ρ i r).l) 16 (kernelRun0_A.sl.HS0_49 c arg3 harg3 arg4 harg4 arg11 arg15 arg16 x0 x1)
      (kernelRun0_A.sl.HS1_49 c arg3 harg3 arg4 harg4 arg11 arg12 arg15 arg16 x0 x1) (kernelRun0_A.sl.HS2_48 c arg3 harg3 arg4 harg4 arg11 arg15 arg16 x0 x1) (kernelRun0_A.sl.HS6_32 c arg3 harg3 arg4 harg4 arg11 arg15 arg16 x0 x1) := by
    iterate 8 refine St.step specA hS arg15 arg11 arg12 _ _ _ _ (by rfl) (by rfl) (by rfl) (by norm_num) _ _ _ _ _ _ _ ?_
    exact h8
  exact Done.next h16 (acc_step accA h16 hV arg14 arg13 arg17 1 rfl _ _ _ _ a8)

/-- The fourth chunk: its row groups, and the updates of both maps. -/
theorem chunk3 {hW : 2048 ≤ 2048} {ρ : Fin 2 → Fin 512 → Row} {S : Fin 2 → Fin 512 → Fin 2048 → EReal} {V : Fin 2048 → Fin 256 → EReal}
    (hS : HoldsW 2048 hW (kernelRun0_A.sl.HS5_4 c arg3 harg3 arg4 harg4 x0 x1) S)
    (hV : ∀ k e, (kernelRun0_A.sl.r_127 c arg5 harg5 x2) (ix2 k e) = V k e)
    (h : Done ρ (kernelRun0_A.sl.HS0_49 c arg3 harg3 arg4 harg4 arg11 arg15 arg16 x0 x1) (kernelRun0_A.sl.HS1_49 c arg3 harg3 arg4 harg4 arg11 arg12 arg15 arg16 x0 x1) (kernelRun0_A.sl.HS3_7 c arg3 harg3 arg4 harg4 arg5 harg5 arg11 arg13 arg14 arg15 arg16 arg17 arg18 x0 x1 x2)) :
    Done (fun i r => (ρ i r).next (S i r) V) (kernelRun0_A.sl.HS0_65 c arg3 harg3 arg4 harg4 arg11 arg15 arg16 x0 x1) (kernelRun0_A.sl.HS1_65 c arg3 harg3 arg4 harg4 arg11 arg12 arg15 arg16 x0 x1) (kernelRun0_A.sl.HS3_9 c arg3 harg3 arg4 harg4 arg5 harg5 arg11 arg13 arg14 arg15 arg16 arg17 arg18 x0 x1 x2) := by
  have h8 : St 2048 hW S (fun i r => (ρ i r).m) (fun i r => (ρ i r).l) 8 (kernelRun0_A.sl.HS0_57 c arg3 harg3 arg4 harg4 arg11 arg15 arg16 x0 x1)
      (kernelRun0_A.sl.HS1_57 c arg3 harg3 arg4 harg4 arg11 arg12 arg15 arg16 x0 x1) (kernelRun0_A.sl.HS2_56 c arg3 harg3 arg4 harg4 arg11 arg15 arg16 x0 x1) (kernelRun0_A.sl.HS7_24 c arg3 harg3 arg4 harg4 arg11 arg15 arg16 x0 x1) := by
    iterate 8 refine St.step specA hS arg16 arg11 arg12 _ _ _ _ (by rfl) (by rfl) (by rfl) (by norm_num) _ _ _ _ _ _ _ ?_
    exact St.start _ _ _ h.hm h.hl
  have a8 : HoldsA (kernelRun0_A.sl.HS3_8 c arg3 harg3 arg4 harg4 arg5 harg5 arg11 arg13 arg14 arg15 arg16 arg17 arg18 x0 x1 x2) _ :=
    acc_step accA h8 hV arg14 arg13 arg18 0 rfl _ _ _ _ (fun i r e => (h.hA i r e).trans (if_neg (by omega)).symm)
  have h16 : St 2048 hW S (fun i r => (ρ i r).m) (fun i r => (ρ i r).l) 16 (kernelRun0_A.sl.HS0_65 c arg3 harg3 arg4 harg4 arg11 arg15 arg16 x0 x1)
      (kernelRun0_A.sl.HS1_65 c arg3 harg3 arg4 harg4 arg11 arg12 arg15 arg16 x0 x1) (kernelRun0_A.sl.HS2_64 c arg3 harg3 arg4 harg4 arg11 arg15 arg16 x0 x1) (kernelRun0_A.sl.HS7_32 c arg3 harg3 arg4 harg4 arg11 arg15 arg16 x0 x1) := by
    iterate 8 refine St.step specA hS arg16 arg11 arg12 _ _ _ _ (by rfl) (by rfl) (by rfl) (by norm_num) _ _ _ _ _ _ _ ?_
    exact h8
  exact Done.next h16 (acc_step accA h16 hV arg14 arg13 arg18 1 rfl _ _ _ _ a8)

/-- The context chunk: its row groups, and the updates of both maps. -/
theorem chunk4 {hW : 256 ≤ 2048} {ρ : Fin 2 → Fin 512 → Row} {S : Fin 2 → Fin 512 → Fin 256 → EReal} {V : Fin 256 → Fin 256 → EReal}
    (hS : HoldsW 256 hW (kernelRun0_A.sl.HS4_6 c arg3 harg3 arg4 harg4 arg6 harg6 x0 x1 x3) S)
    (hV : ∀ k e, (kernelRun0_A.sl.r_170 c arg7 harg7 x4) (ix2 k e) = V k e)
    (h : Done ρ (kernelRun0_A.sl.HS0_65 c arg3 harg3 arg4 harg4 arg11 arg15 arg16 x0 x1) (kernelRun0_A.sl.HS1_65 c arg3 harg3 arg4 harg4 arg11 arg12 arg15 arg16 x0 x1) (kernelRun0_A.sl.HS3_9 c arg3 harg3 arg4 harg4 arg5 harg5 arg11 arg13 arg14 arg15 arg16 arg17 arg18 x0 x1 x2)) :
    ∃ H, Done (fun i r => (ρ i r).next (S i r) V) H (kernelRun0_A.sl.HS1_81 c arg3 harg3 arg4 harg4 arg6 harg6 arg11 arg12 arg15 arg16 x0 x1 x3) (kernelRun0_A.sl.HS3_11 c arg3 harg3 arg4 harg4 arg5 harg5 arg6 harg6 arg7 harg7 arg11 arg13 arg14 arg15 arg16 arg17 arg18 x0 x1 x2 x3 x4) := by
  have h8 : St 256 hW S (fun i r => (ρ i r).m) (fun i r => (ρ i r).l) 8 (kernelRun0_A.sl.HS0_73 c arg3 harg3 arg4 harg4 arg6 harg6 arg11 arg15 arg16 x0 x1 x3)
      (kernelRun0_A.sl.HS1_73 c arg3 harg3 arg4 harg4 arg6 harg6 arg11 arg12 arg15 arg16 x0 x1 x3) (kernelRun0_A.sl.HS2_72 c arg3 harg3 arg4 harg4 arg6 harg6 arg11 arg15 arg16 x0 x1 x3) (kernelRun0_A.sl.HS6_40 c arg3 harg3 arg4 harg4 arg6 harg6 arg11 arg15 arg16 x0 x1 x3) := by
    have g0 := St.start 256 hW S h.hm h.hl (Ha := kernelRun0_A.sl.HS2_64 c arg3 harg3 arg4 harg4 arg11 arg15 arg16 x0 x1)
      (Hp := kernelRun0_A.sl.HS6_32 c arg3 harg3 arg4 harg4 arg11 arg15 arg16 x0 x1)
    have s1 := St.step specB hS arg15 arg11 arg12 0 0 0 1 rfl rfl rfl (by norm_num) (by decide) (by decide) (by decide) (by decide) (by decide) (by decide) (by decide) g0
    have g1 : St 256 hW S _ _ 1 (kernelRun0_A.sl.HS0_66 c arg3 harg3 arg4 harg4 arg6 harg6 arg11 arg15 arg16 x0 x1 x3) (kernelRun0_A.sl.HS1_66 c arg3 harg3 arg4 harg4 arg6 harg6 arg11 arg12 arg15 arg16 x0 x1 x3) _ _ := ⟨s1.hm, s1.hl, s1.ha, s1.hp⟩
    have s2 := St.step specB hS arg15 arg11 arg12 0 64 1 2 rfl rfl rfl (by norm_num) (by decide) (by decide) (by decide) (by decide) (by decide) (by decide) (by decide) g1
    have g2 : St 256 hW S _ _ 2 (kernelRun0_A.sl.HS0_67 c arg3 harg3 arg4 harg4 arg6 harg6 arg11 arg15 arg16 x0 x1 x3) (kernelRun0_A.sl.HS1_67 c arg3 harg3 arg4 harg4 arg6 harg6 arg11 arg12 arg15 arg16 x0 x1 x3) _ _ := ⟨s2.hm, s2.hl, s2.ha, s2.hp⟩
    have s3 := St.step specB hS arg15 arg11 arg12 0 128 2 3 rfl rfl rfl (by norm_num) (by decide) (by decide) (by decide) (by decide) (by decide) (by decide) (by decide) g2
    have g3 : St 256 hW S _ _ 3 (kernelRun0_A.sl.HS0_68 c arg3 harg3 arg4 harg4 arg6 harg6 arg11 arg15 arg16 x0 x1 x3) (kernelRun0_A.sl.HS1_68 c arg3 harg3 arg4 harg4 arg6 harg6 arg11 arg12 arg15 arg16 x0 x1 x3) _ _ := ⟨s3.hm, s3.hl, s3.ha, s3.hp⟩
    have s4 := St.step specB hS arg15 arg11 arg12 0 192 3 4 rfl rfl rfl (by norm_num) (by decide) (by decide) (by decide) (by decide) (by decide) (by decide) (by decide) g3
    have g4 : St 256 hW S _ _ 4 (kernelRun0_A.sl.HS0_69 c arg3 harg3 arg4 harg4 arg6 harg6 arg11 arg15 arg16 x0 x1 x3) (kernelRun0_A.sl.HS1_69 c arg3 harg3 arg4 harg4 arg6 harg6 arg11 arg12 arg15 arg16 x0 x1 x3) _ _ := ⟨s4.hm, s4.hl, s4.ha, s4.hp⟩
    have s5 := St.step specB hS arg15 arg11 arg12 0 256 4 5 rfl rfl rfl (by norm_num) (by decide) (by decide) (by decide) (by decide) (by decide) (by decide) (by decide) g4
    have g5 : St 256 hW S _ _ 5 (kernelRun0_A.sl.HS0_70 c arg3 harg3 arg4 harg4 arg6 harg6 arg11 arg15 arg16 x0 x1 x3) (kernelRun0_A.sl.HS1_70 c arg3 harg3 arg4 harg4 arg6 harg6 arg11 arg12 arg15 arg16 x0 x1 x3) _ _ := ⟨s5.hm, s5.hl, s5.ha, s5.hp⟩
    have s6 := St.step specB hS arg15 arg11 arg12 0 320 5 6 rfl rfl rfl (by norm_num) (by decide) (by decide) (by decide) (by decide) (by decide) (by decide) (by decide) g5
    have g6 : St 256 hW S _ _ 6 (kernelRun0_A.sl.HS0_71 c arg3 harg3 arg4 harg4 arg6 harg6 arg11 arg15 arg16 x0 x1 x3) (kernelRun0_A.sl.HS1_71 c arg3 harg3 arg4 harg4 arg6 harg6 arg11 arg12 arg15 arg16 x0 x1 x3) _ _ := ⟨s6.hm, s6.hl, s6.ha, s6.hp⟩
    have s7 := St.step specB hS arg15 arg11 arg12 0 384 6 7 rfl rfl rfl (by norm_num) (by decide) (by decide) (by decide) (by decide) (by decide) (by decide) (by decide) g6
    have g7 : St 256 hW S _ _ 7 (kernelRun0_A.sl.HS0_72 c arg3 harg3 arg4 harg4 arg6 harg6 arg11 arg15 arg16 x0 x1 x3) (kernelRun0_A.sl.HS1_72 c arg3 harg3 arg4 harg4 arg6 harg6 arg11 arg12 arg15 arg16 x0 x1 x3) _ _ := ⟨s7.hm, s7.hl, s7.ha, s7.hp⟩
    have s8 := St.step specB hS arg15 arg11 arg12 0 448 7 8 rfl rfl rfl (by norm_num) (by decide) (by decide) (by decide) (by decide) (by decide) (by decide) (by decide) g7
    exact ⟨s8.hm, s8.hl, s8.ha, s8.hp⟩
  have a8 : HoldsA (kernelRun0_A.sl.HS3_10 c arg3 harg3 arg4 harg4 arg5 harg5 arg6 harg6 arg7 harg7 arg11 arg13 arg14 arg15 arg16 arg17 arg18 x0 x1 x2 x3 x4) _ :=
    acc_step accB h8 hV arg14 arg13 arg17 0 rfl _ _ _ _ (fun i r e => (h.hA i r e).trans (if_neg (by omega)).symm)
  have h16 : ∃ H, St 256 hW S (fun i r => (ρ i r).m) (fun i r => (ρ i r).l) 16 H
      (kernelRun0_A.sl.HS1_81 c arg3 harg3 arg4 harg4 arg6 harg6 arg11 arg12 arg15 arg16 x0 x1 x3) (kernelRun0_A.sl.HS2_80 c arg3 harg3 arg4 harg4 arg6 harg6 arg11 arg15 arg16 x0 x1 x3) (kernelRun0_A.sl.HS6_48 c arg3 harg3 arg4 harg4 arg6 harg6 arg11 arg15 arg16 x0 x1 x3) := by
    refine ⟨_, St.step specB hS arg15 arg11 arg12 1 448 15 16 rfl rfl rfl (by norm_num) (by decide) (by decide) (by decide) (by decide) (by decide) (by decide) (by decide) ?_⟩
    iterate 7 refine St.step specB hS arg15 arg11 arg12 _ _ _ _ (by rfl) (by rfl) (by rfl) (by norm_num) (by decide) (by decide) (by decide) (by decide) (by decide) (by decide) (by decide) ?_
    exact h8
  obtain ⟨H, h16⟩ := h16
  exact ⟨H, Done.next h16 (acc_step accB h16 hV arg14 arg13 arg17 1 rfl _ _ _ _ a8)⟩

end
end Attn
-- ==== Proof.Block.lean ====
module

public import proofs.«01_k».proof.Proof.Body
public import Idealize.ShloMosaic.Lib.Pipeline.Value
public import proofs.«01_k».proof.Proof.Gen.KernelIdeal.Frame.RunA

@[expose] public section

namespace Attn

open Idealize Idealize.ShloMosaic Idealize.ShloMosaic.View Cert.KernelIdeal Cert.KernelIdeal.Gen

noncomputable section

/-- The weight of the second map: from the four rows of `L`. -/
def lam (L : Fin 4 → Fin 128 → EReal) : EReal :=
  Ideal.exp (∑ x, L 0 x * L 1 x) - Ideal.exp (∑ x, L 2 x * L 3 x) + Ideal.ofBits .f32 0x3E4CCCCD#32

/-- The difference of the two maps' outputs, from their running values. -/
def diff (R : Fin 2 → Row) (w : EReal) (e : Fin 256) : EReal :=
  (R 0).a e * Ideal.div 1 (R 0).l - w * ((R 1).a e * Ideal.div 1 (R 1).l)

/-- The normalisation of a head's row `O` by its root mean square, scaled by `g` and by the closing constant. -/
def rms (O g : Fin 256 → EReal) (e : Fin 256) : EReal :=
  O e * Ideal.rsqrt (Ideal.div (∑ x, O x * O x) (Ideal.ofBits .f32 0x43800000#32) + Ideal.ofBits .f32 0x358637BD#32)
    * g e * Ideal.ofBits .f32 0x3F4CCCCD#32

/-- A sum over 256 lanes, as two sums over 128. -/
theorem sum_halves (f : Fin 256 → EReal) :
    ∑ x : Fin 256, f x = ∑ x : Fin 128, f ⟨x.val, by omega⟩ + ∑ x : Fin 128, f ⟨128 + x.val, by omega⟩ :=
  Fin.sum_univ_add (a := 128) (b := 128) f

/-- The closing payload at an index. -/
theorem fin_at (x5 : Vec Ideal S4x128 .f32) (A0 A1 : Vec Ideal S1x512x256 .f32) (L0 L1 : Vec Ideal S1x512x128 .f32)
    (g : Vec Ideal S1x256 .f32) (r : Fin 512) (e : Fin 256) (R : Fin 2 → Row)
    (h0 : ∀ e, A0 (ix3 0 r e) = (R 0).a e) (h1 : ∀ e, A1 (ix3 0 r e) = (R 1).a e)
    (g0 : ∀ c, L0 (ix3 0 r c) = (R 0).l) (g1 : ∀ c, L1 (ix3 0 r c) = (R 1).l) :
    k0_pay784 (k0_pay782 x5) k0_pay783 A0 L0 A1 L1 g (ix2 r e)
      = rms (diff R (lam fun i d => x5 (ix2 i d))) (fun e => g (ix2 0 e)) e := by
  pointwise [k0_pay784, k0_pay782, k0_pay783]
  simp only [h0, h1, g0, g1, dite_eq_ite, ite_self, rms, sum_halves, diff, lam]

/-- A load of a whole block. -/
theorem harg_at {n D : ℕ} {v : Memref sig .tc .vmem ⟨2, ![n, D]⟩ .f32} (hv : v.IsWhole) (X : Vec Ideal ⟨2, ![n, D]⟩ .f32)
    (inb : ∀ x, (![0, 0] : Fin 2 → ℕ) x + (⟨2, ![n, D]⟩ : Shape).size x ≤ (⟨2, ![n, D]⟩ : Shape).size x) (r : Fin n) (c : Fin D) :
    View.readAt (Elt Ideal) v.view (Rect.unit (s := ⟨2, ![n, D]⟩) ![0, 0] (⟨2, ![n, D]⟩ : Shape).size inb).toLoadRect (hv.unread X) (ix2 r c)
      = X (ix2 r c) := by
  rw [hv.readAt_unread]
  congr 1
  funext x
  apply Fin.ext
  fin_cases x
  · show 0 + 1 * r.val = r.val
    omega
  · show 0 + 1 * c.val = c.val
    omega

/-- The key rows of chunk `j`. -/
def rows (x : Vec Ideal S8192x256 .bf16) (j : Fin 4) (k : Fin 2048) (e : Fin 256) : EReal := x (ix2 ⟨2048 * j.val + k.val, by omega⟩ e)

/-- The running values of a query row `q`, for map `i`, after the four chunks of latent keys and the context keys. -/
def run5 (q : Fin 256 → EReal) (K V : Fin 4 → Fin 2048 → Fin 256 → EReal) (K' V' : Fin 256 → Fin 256 → EReal) (i : Fin 2) : Row :=
  ((((Row.zero.next (fun c => dotm q (K 0 c) i) (V 0)).next (fun c => dotm q (K 1 c) i) (V 1)).next
    (fun c => dotm q (K 2 c) i) (V 2)).next (fun c => dotm q (K 3 c) i) (V 3)).next (fun c => dotm q (K' c) i) V'

variable (c : Dev nD) (arg3 : Memref sig .tc .vmem S512x256 .bf16) (harg3 : arg3.IsWhole) (arg4 : Memref sig .tc .vmem S8192x256 .bf16) (harg4 : arg4.IsWhole)
  (arg5 : Memref sig .tc .vmem S8192x256 .bf16) (harg5 : arg5.IsWhole) (arg6 : Memref sig .tc .vmem S256x256 .bf16) (harg6 : arg6.IsWhole)
  (arg7 : Memref sig .tc .vmem S256x256 .bf16) (harg7 : arg7.IsWhole)
  (arg11 arg12 arg13 : Memref sig .tc .vmem S2x512x128 .f32) (arg14 : Memref sig .tc .vmem S2x512x256 .f32)
  (arg15 arg16 : Memref sig .tc .vmem S2x512x2048 .f32) (arg17 arg18 : Memref sig .tc .vmem S2x512x2048 .bf16)
  (x0 : Vec Ideal S512x256 .bf16) (x1 x2 : Vec Ideal S8192x256 .bf16) (x3 x4 : Vec Ideal S256x256 .bf16)

/-- The buffers before the first chunk. -/
theorem start : Done (fun _ _ => Row.zero) (kernelRun0_A.sl.HS0_1 (F := Ideal) ) (kernelRun0_A.sl.HS1_1 (F := Ideal) )
    (kernelRun0_A.sl.HS3_1 (F := Ideal) ) where
  hm i r c := by
    refine (congrFun (View.canon_cons_unit_zero (S := S2x512x128) (Val := Elt Ideal) (e := .f32) (off := ![0, 0, 0])
      (by funext x; fin_cases x <;> rfl) _ (k0_pay1 (F := Ideal)) []) _).trans ?_
    pointwise [k0_pay1]
    simp [Ideal.ofBits, Ideal.ieee, Row.zero]
  hl i r c := by
    refine (congrFun (View.canon_cons_unit_zero (S := S2x512x128) (Val := Elt Ideal) (e := .f32) (off := ![0, 0, 0])
      (by funext x; fin_cases x <;> rfl) _ (k0_pay2 (F := Ideal)) []) _).trans ?_
    pointwise [k0_pay2]
    simp [Row.zero]
  hA i r e := by
    refine (congrFun (View.canon_cons_unit_zero (S := S2x512x256) (Val := Elt Ideal) (e := .f32) (off := ![0, 0, 0])
      (by funext x; fin_cases x <;> rfl) _ (k0_pay3 (F := Ideal)) []) _).trans ?_
    pointwise [k0_pay3]
    simp [Row.zero]

/-- The scores of chunk 0. -/
theorem scores0 (hW : 2048 ≤ 2048) : HoldsW 2048 hW (kernelRun0_A.sl.HS4_2 c arg3 harg3 arg4 harg4 x0 x1)
    fun i r c => dotm (fun e => x0 (ix2 r e)) ((rows x1 0) c) i :=
  scores_hold scoreA0 scoreA1 x0 _ (fun k e => block_at harg4 x1 _ k e _ _ rfl (Nat.zero_add _).symm) (fun k e => block_at harg4 x1 _ k e _ _ rfl (Nat.zero_add _).symm)
    (fun r d => block_at harg3 x0 _ r d _ _ (Nat.zero_add _).symm (by simp [ln])) (fun r d => block_at harg3 x0 _ r d _ _ (Nat.zero_add _).symm (by simp [ln])) _ _

/-- The scores of chunk 1. -/
theorem scores1 (hW : 2048 ≤ 2048) : HoldsW 2048 hW (kernelRun0_A.sl.HS5_2 c arg3 harg3 arg4 harg4 x0 x1)
    fun i r c => dotm (fun e => x0 (ix2 r e)) ((rows x1 1) c) i :=
  scores_hold scoreA0 scoreA1 x0 _ (fun k e => block_at harg4 x1 _ k e _ _ rfl (Nat.zero_add _).symm) (fun k e => block_at harg4 x1 _ k e _ _ rfl (Nat.zero_add _).symm)
    (fun r d => block_at harg3 x0 _ r d _ _ (Nat.zero_add _).symm (by simp [ln])) (fun r d => block_at harg3 x0 _ r d _ _ (Nat.zero_add _).symm (by simp [ln])) _ _

/-- The scores of chunk 2. -/
theorem scores2 (hW : 2048 ≤ 2048) : HoldsW 2048 hW (kernelRun0_A.sl.HS4_4 c arg3 harg3 arg4 harg4 x0 x1)
    fun i r c => dotm (fun e => x0 (ix2 r e)) ((rows x1 2) c) i :=
  scores_hold scoreA0 scoreA1 x0 _ (fun k e => block_at harg4 x1 _ k e _ _ rfl (Nat.zero_add _).symm) (fun k e => block_at harg4 x1 _ k e _ _ rfl (Nat.zero_add _).symm)
    (fun r d => block_at harg3 x0 _ r d _ _ (Nat.zero_add _).symm (by simp [ln])) (fun r d => block_at harg3 x0 _ r d _ _ (Nat.zero_add _).symm (by simp [ln])) _ _

/-- The scores of chunk 3. -/
theorem scores3 (hW : 2048 ≤ 2048) : HoldsW 2048 hW (kernelRun0_A.sl.HS5_4 c arg3 harg3 arg4 harg4 x0 x1)
    fun i r c => dotm (fun e => x0 (ix2 r e)) ((rows x1 3) c) i :=
  scores_hold scoreA0 scoreA1 x0 _ (fun k e => block_at harg4 x1 _ k e _ _ rfl (Nat.zero_add _).symm) (fun k e => block_at harg4 x1 _ k e _ _ rfl (Nat.zero_add _).symm)
    (fun r d => block_at harg3 x0 _ r d _ _ (Nat.zero_add _).symm (by simp [ln])) (fun r d => block_at harg3 x0 _ r d _ _ (Nat.zero_add _).symm (by simp [ln])) _ _

/-- The scores of chunk 4. -/
theorem scores4 (hW : 256 ≤ 2048) : HoldsW 256 hW (kernelRun0_A.sl.HS4_6 c arg3 harg3 arg4 harg4 arg6 harg6 x0 x1 x3)
    fun i r c => dotm (fun e => x0 (ix2 r e)) ((fun k e => x3 (ix2 k e)) c) i :=
  scores_hold scoreB0 scoreB1 x0 _ (fun k e => block_at harg6 x3 _ k e _ _ (Nat.zero_add _).symm (Nat.zero_add _).symm) (fun k e => block_at harg6 x3 _ k e _ _ (Nat.zero_add _).symm (Nat.zero_add _).symm)
    (fun r d => block_at harg3 x0 _ r d _ _ (Nat.zero_add _).symm (by simp [ln])) (fun r d => block_at harg3 x0 _ r d _ _ (Nat.zero_add _).symm (by simp [ln])) _ _

variable (arg8 : Memref sig .tc .vmem S4x128 .f32) (harg8 : arg8.IsWhole) (arg9 : Memref sig .tc .vmem S1x256 .f32) (harg9 : arg9.IsWhole)
  (x5 : Vec Ideal S4x128 .f32) (x6 : Vec Ideal S1x256 .f32)

/-- What the kernel stores at row `r` and lane `e` of its output block, from its input blocks. -/
theorem block_out (r : Fin 512) (e : Fin 256) :
    (kernelRun0_A.sl.r_213 c arg3 harg3 arg4 harg4 arg5 harg5 arg6 harg6 arg7 harg7 arg8 harg8 arg9 harg9 arg11 arg12 arg13 arg14 arg15 arg16 arg17 arg18 x0 x1 x2 x3 x4 x5 x6) (ix2 r e)
      = rms (diff (run5 (fun e => x0 (ix2 r e)) (rows x1) (rows x2) (fun k e => x3 (ix2 k e)) (fun k e => x4 (ix2 k e)))
          (lam fun i d => x5 (ix2 i d))) (fun e => x6 (ix2 0 e)) e := by
  have hV : ∀ (j : Fin 4) (o : ℕ) (inb), o = 2048 * j.val → ∀ k e,
      View.readAt (Elt Ideal) arg5.view (Rect.unit (s := S8192x256) ![o, 0] S2048x256.size inb).toLoadRect (harg5.unread x2) (ix2 k e) = rows x2 j k e :=
    fun j o inb ho k e => block_at harg5 x2 inb k e _ e (by rw [ho]) (Nat.zero_add _).symm
  have d1 := chunk0 c arg3 harg3 arg4 harg4 arg5 harg5 arg11 arg12 arg13 arg14 arg15 arg17 x0 x1 x2 (scores0 c arg3 harg3 arg4 harg4 x0 x1 (by decide)) (hV 0 0 _ rfl) start
  have d2 := chunk1 c arg3 harg3 arg4 harg4 arg5 harg5 arg11 arg12 arg13 arg14 arg15 arg16 arg17 arg18 x0 x1 x2 (scores1 c arg3 harg3 arg4 harg4 x0 x1 (by decide)) (hV 1 2048 _ rfl) d1
  have d3 := chunk2 c arg3 harg3 arg4 harg4 arg5 harg5 arg11 arg12 arg13 arg14 arg15 arg16 arg17 arg18 x0 x1 x2 (scores2 c arg3 harg3 arg4 harg4 x0 x1 (by decide)) (hV 2 4096 _ rfl) d2
  have d4 := chunk3 c arg3 harg3 arg4 harg4 arg5 harg5 arg11 arg12 arg13 arg14 arg15 arg16 arg17 arg18 x0 x1 x2 (scores3 c arg3 harg3 arg4 harg4 x0 x1 (by decide)) (hV 3 6144 _ rfl) d3
  obtain ⟨H, d5⟩ := chunk4 c arg3 harg3 arg4 harg4 arg5 harg5 arg6 harg6 arg7 harg7 arg11 arg12 arg13 arg14 arg15 arg16 arg17 arg18 x0 x1 x2 x3 x4 (scores4 c arg3 harg3 arg4 harg4 arg6 harg6 x0 x1 x3 (by decide)) (fun k e => block_at harg7 x4 _ k e k e (Nat.zero_add _).symm (Nat.zero_add _).symm) d4
  refine (fin_at _ _ _ _ _ _ r e (fun i => run5 (fun e => x0 (ix2 r e)) (rows x1) (rows x2) (fun k e => x3 (ix2 k e)) (fun k e => x4 (ix2 k e)) i) (fun e => ?_) (fun e => ?_) (fun c => ?_) (fun c => ?_)).trans ?_
  · exact (load_at arg14 _ _ r e 0 r e rfl (Nat.zero_add _).symm rfl).trans (d5.hA 0 r e)
  · exact (load_at arg14 _ _ r e 1 r e rfl (Nat.zero_add _).symm rfl).trans (d5.hA 1 r e)
  · exact (load_at arg12 _ _ r c 0 r c rfl (Nat.zero_add _).symm rfl).trans (d5.hl 0 r c)
  · exact (load_at arg12 _ _ r c 1 r c rfl (Nat.zero_add _).symm rfl).trans (d5.hl 1 r c)
  · congr 2
    · exact congrArg lam (funext fun i => funext fun d => harg_at harg8 x5 _ i d)
    · exact funext fun e => harg_at harg9 x6 _ 0 e

end
end Attn
-- ==== Proof.Ref.lean ====
module

public import proofs.«01_k».proof.Proof.RefDefs
public import proofs.«01_k».proof.Proof.Block

@[expose] public section

namespace Attn.Ref

open Idealize Idealize.ShloMosaic Idealize.ShloMosaic.TcCoe Cert.ReferenceIdeal Cert.ReferenceIdeal.Gen

noncomputable section

/-- The least value, as its bits are read. -/
theorem neg_inf : Ideal.ofBits .f32 0xFF800000#32 = ⊥ := by simp [Ideal.ofBits, Ideal.ieee]

/-- A fold of maxima from the least value is the greatest of the family. -/
theorem fold_bot {n : ℕ} (f : Fin n → EReal) : Finset.univ.fold max ⊥ f = Finset.univ.sup f := rfl

/-- The row of the array that holds key `k` of batch `b`. -/
def krow (b : Fin 2) (k : Fin 8448) : Fin 16896 :=
  if h : k.val < 8192 then ⟨b.val * 8192 + k.val, by omega⟩ else ⟨16384 + b.val * 256 + (k.val - 8192), by omega⟩

/-- The value of this stage at an index. -/
theorem kv_at (A : FVec Ideal S16896x6144 .bf16) (b : Fin 2) (k : Fin 8448) (x : Fin 4096) :
    kv A (ix3 b k x) = A (ix2 (krow b k) ⟨2048 + x.val, by omega⟩) := by
  pointwise [kv, lat, ctx, uu]
  unfold krow
  split <;> rename_i h
  · rfl
  · refine congrArg (fun z => A (ix2 z _)) ?_
    exact Fin.ext (by show 16384 + (b.val * 256 + (k.val - 8192)) = 16384 + b.val * 256 + (k.val - 8192); omega)

/-- The value of this stage at an index. -/
theorem qq_at (A : FVec Ideal S16896x6144 .bf16) (b : Fin 2) (q : Fin 8192) (h : Fin 8) (i : Fin 2) (d : Fin 128) :
    qq A (ix5 b q h i d) = A (ix2 ⟨b.val * 8192 + q.val, by omega⟩ ⟨h.val * 256 + (ln i d).val, by omega⟩) := by
  pointwise [qq, lat, ctx, uu]
  refine congrArg (fun z => A (ix2 _ z)) ?_
  exact Fin.ext (by show h.val * 256 + i.val * 128 + d.val = h.val * 256 + (i.val * 128 + d.val); omega)

/-- The value of this stage at an index. -/
theorem kk_at (A : FVec Ideal S16896x6144 .bf16) (b : Fin 2) (k : Fin 8448) (h : Fin 8) (i : Fin 2) (d : Fin 128) :
    kk A (ix5 b k h i d) = A (ix2 (krow b k) ⟨2048 + h.val * 256 + (ln i d).val, by omega⟩) := by
  pointwise [kk]
  refine (kv_at A b k _).trans (congrArg (fun z => A (ix2 (krow b k) z)) (Fin.ext ?_))
  show 2048 + (h.val * 256 + i.val * 128 + d.val) = 2048 + h.val * 256 + (i.val * 128 + d.val)
  omega

/-- The value of this stage at an index. -/
theorem vv_at (A : FVec Ideal S16896x6144 .bf16) (b : Fin 2) (k : Fin 8448) (h : Fin 8) (e : Fin 256) :
    vv A (ix4 b k h e) = A (ix2 (krow b k) ⟨4096 + h.val * 256 + e.val, by omega⟩) := by
  pointwise [vv]
  refine (kv_at A b k _).trans (congrArg (fun z => A (ix2 (krow b k) z)) (Fin.ext ?_))
  show 2048 + (2048 + (h.val * 256 + e.val)) = 4096 + h.val * 256 + e.val
  omega

/-- The value of this stage at an index. -/
theorem sc_at (Q : FVec Ideal S2x8192x8x2x128 .f32) (K : FVec Ideal S2x8448x8x2x128 .f32) (b : Fin 2) (h : Fin 8) (i : Fin 2) (q : Fin 8192) (k : Fin 8448) :
    sc Q K (ix5 b h i q k) =
      (∑ x : Fin 128, Q (ix5 b q h i x) * K (ix5 b k h i x)) * Ideal.log (Ideal.ofBits .f32 0x40000000#32) := by
  pointwise [sc]

/-- A maximum over the last of five axes, at an index. -/
theorem max_at {n0 n1 n2 n3 n4 : ℕ} {u : Shape} (s : FVec Ideal ⟨5, ![n0, n1, n2, n3, n4]⟩ .f32) (init : FVec Ideal u .f32)
    (h : (⟨5, ![n0, n1, n2, n3, n4]⟩ : Shape).ReducesTo [4] (⟨4, ![n0, n1, n2, n3]⟩ : Shape)) (hu : 0 < u.numel)
    (hb : (⟨0, ![]⟩ : Shape).BroadcastsInDim (⟨4, ![n0, n1, n2, n3]⟩ : Shape) (![] : Fin 0 → Fin 4)) (z : FVec Ideal ⟨0, ![]⟩ .f32)
    (b : Fin n0) (c : Fin n1) (d : Fin n2) (e : Fin n3) :
    maximumf (broadcastInDim ⟨4, ![n0, n1, n2, n3]⟩ ![] hb z) (Host.reduce FloatOps.maximumf s init h hu) (ix4 b c d e)
      = max (z ix0) (Finset.univ.fold max (init (Shape.Idx.first hu)) fun k : Fin n4 => s (ix5 b c d e k)) := by
  pointwise

/-- The value of this stage at an index. -/
theorem mxs_at (s : FVec Ideal S2x8x2x8192x8448 .f32) (b : Fin 2) (h : Fin 8) (i : Fin 2) (q : Fin 8192) :
    mxs s (ix4 b h i q) = max ⊥ (Finset.univ.sup fun k : Fin 8448 => s (ix5 b h i q k)) := by
  refine (max_at s _ _ _ _ _ b h i q).trans ?_
  refine congrArg₂ max ?_ ?_
  · exact neg_inf
  · exact (congrArg (fun z => Finset.univ.fold max z _) neg_inf).trans (fold_bot _)

/-- The value of this stage at an index. -/
theorem ex_at (s : FVec Ideal S2x8x2x8192x8448 .f32) (μ : FVec Ideal S2x8x2x8192 .f32) (b : Fin 2) (h : Fin 8) (i : Fin 2) (q : Fin 8192) (k : Fin 8448) :
    ex s μ (ix5 b h i q k) =
      Ideal.exp (s (ix5 b h i q k) - μ (ix4 b h i q)) := by
  pointwise [ex]

/-- The value of this stage at an index. -/
theorem pm_at (w : FVec Ideal S2x8x2x8192x8448 .f32) (b : Fin 2) (h : Fin 8) (i : Fin 2) (q : Fin 8192) (k : Fin 8448) :
    pm w (ix5 b h i q k) =
      Ideal.div (w (ix5 b h i q k)) (∑ k : Fin 8448, w (ix5 b h i q k)) := by
  pointwise [pm]

/-- The value of this stage at an index. -/
theorem lamv_at (L : FVec Ideal S4x128 .f32) :
    lamv L ix0 =
      Ideal.exp (∑ x : Fin 128, L (ix2 0 x) * L (ix2 1 x)) - Ideal.exp (∑ x : Fin 128, L (ix2 2 x) * L (ix2 3 x)) + Ideal.ofBits .f32 0x3E4CCCCD#32 := by
  pointwise [lamv]

/-- The value of this stage at an index. -/
theorem p0_at (p : FVec Ideal S2x8x2x8192x8448 .f32) (b : Fin 2) (h : Fin 8) (q : Fin 8192) (k : Fin 8448) :
    p0 p (ix4 b h q k) =
      p (ix5 b h 0 q k) := by
  pointwise [p0]

/-- The value of this stage at an index. -/
theorem p1_at (p : FVec Ideal S2x8x2x8192x8448 .f32) (b : Fin 2) (h : Fin 8) (q : Fin 8192) (k : Fin 8448) :
    p1 p (ix4 b h q k) =
      p (ix5 b h 1 q k) := by
  pointwise [p1]

/-- The value of this stage at an index. -/
theorem aa_at (u v : FVec Ideal S2x8x8192x8448 .f32) (w : FVec Ideal S_ .f32) (b : Fin 2) (h : Fin 8) (q : Fin 8192) (k : Fin 8448) :
    aa u v w (ix4 b h q k) =
      u (ix4 b h q k) - w ix0 * v (ix4 b h q k) := by
  pointwise [aa]

/-- The value of this stage at an index. -/
theorem dg_at (V : FVec Ideal S2x8448x8x256 .f32) (a : FVec Ideal S2x8x8192x8448 .f32) (b : Fin 2) (h : Fin 8) (e : Fin 256) (q : Fin 8192) :
    dg V a (ix4 b h e q) =
      ∑ k : Fin 8448, V (ix4 b k h e) * a (ix4 b h q k) := by
  pointwise [dg]

/-- The value of this stage at an index. -/
theorem oo_at (d : FVec Ideal S2x8x256x8192 .f32) (b : Fin 2) (q : Fin 8192) (h : Fin 8) (e : Fin 256) :
    oo d (ix4 b q h e) =
      d (ix4 b h e q) := by
  pointwise [oo]

/-- The value of this stage at an index. -/
theorem ms_at (o : FVec Ideal S2x8192x8x256 .f32) (b : Fin 2) (q : Fin 8192) (h : Fin 8) :
    ms o (ix4 b q h 0) =
      Ideal.rsqrt (Ideal.div (∑ x : Fin 256, o (ix4 b q h x) * o (ix4 b q h x)) (Ideal.ofBits .f32 0x43800000#32) + Ideal.ofBits .f32 0x358637BD#32) := by
  pointwise [ms]

/-- The value of this stage at an index. -/
theorem nn_at (o : FVec Ideal S2x8192x8x256 .f32) (σ : FVec Ideal S2x8192x8x1 .f32) (G : FVec Ideal S256 .f32) (b : Fin 2) (q : Fin 8192) (h : Fin 8) (e : Fin 256) :
    nn o σ G (ix4 b q h e) =
      o (ix4 b q h e) * σ (ix4 b q h 0) * G (ix1 e) * Ideal.ofBits .f32 0x3F4CCCCD#32 := by
  pointwise [nn]

/-- The value of this stage at an index. -/
theorem fl_at (n : FVec Ideal S2x8192x8x256 .f32) (r : Fin 16384) (x : Fin 2048) :
    fl n (ix2 r x) =
      n (ix4 ⟨r.val / 8192, by omega⟩ ⟨r.val % 8192, by omega⟩ ⟨x.val / 256, by omega⟩ ⟨x.val % 256, by omega⟩) := by
  pointwise [fl]

/-- The softmax of a family of scores. -/
def smx {n : ℕ} (s : Fin n → EReal) (k : Fin n) : EReal :=
  Ideal.div (Ideal.exp (s k - max ⊥ (Finset.univ.sup s))) (∑ k, Ideal.exp (s k - max ⊥ (Finset.univ.sup s)))

/-- The query row of batch `b`, position `q` and head `h`. -/
def qrow (A : FVec Ideal S16896x6144 .bf16) (r : Fin 16384) (h : Fin 8) (x : Fin 256) : EReal :=
  A (ix2 ⟨r.val, by omega⟩ ⟨h.val * 256 + x.val, by omega⟩)

/-- The key rows of batch `b` and head `h`. -/
def keys (A : FVec Ideal S16896x6144 .bf16) (b : Fin 2) (h : Fin 8) (k : Fin 8448) (x : Fin 256) : EReal :=
  A (ix2 (krow b k) ⟨2048 + h.val * 256 + x.val, by omega⟩)

/-- The value rows of batch `b` and head `h`. -/
def vals (A : FVec Ideal S16896x6144 .bf16) (b : Fin 2) (h : Fin 8) (k : Fin 8448) (x : Fin 256) : EReal :=
  A (ix2 (krow b k) ⟨4096 + h.val * 256 + x.val, by omega⟩)

/-- The attention of one query row `q` over keys `K` and values `V`, with the second map weighted by `w`. -/
def attend {n : ℕ} (q : Fin 256 → EReal) (K V : Fin n → Fin 256 → EReal) (w : EReal) (e : Fin 256) : EReal :=
  ∑ k, V k e * (smx (fun k => dotm q (K k) 0 * Ideal.log (Ideal.ofBits .f32 0x40000000#32)) k
    - w * smx (fun k => dotm q (K k) 1 * Ideal.log (Ideal.ofBits .f32 0x40000000#32)) k)

/-- The two maps of the arguments, at an index. -/
theorem pmA_at (A : FVec Ideal S16896x6144 .bf16) (b : Fin 2) (h : Fin 8) (i : Fin 2) (q : Fin 8192) (k : Fin 8448) :
    pmA A (ix5 b h i q k) = smx (fun k => dotm (qrow A ⟨b.val * 8192 + q.val, by omega⟩ h) (keys A b h k) i * Ideal.log (Ideal.ofBits .f32 0x40000000#32)) k := by
  have hs : ∀ k, scA A (ix5 b h i q k)
      = dotm (qrow A ⟨b.val * 8192 + q.val, by omega⟩ h) (keys A b h k) i * Ideal.log (Ideal.ofBits .f32 0x40000000#32) := fun k => by
    refine (sc_at _ _ b h i q k).trans (congrArg (· * _) (Finset.sum_congr rfl fun d _ => ?_))
    exact congrArg₂ (· * ·) (qq_at A b q h i d) (kk_at A b k h i d)
  have he : ∀ k, ex (scA A) (mxs (scA A)) (ix5 b h i q k) = Ideal.exp (scA A (ix5 b h i q k) - max ⊥ (Finset.univ.sup fun k => scA A (ix5 b h i q k))) :=
    fun k => by rw [ex_at, mxs_at]
  refine (pm_at _ b h i q k).trans ?_
  simp only [he, hs]
  rfl

/-- A head's output, at an index. -/
theorem ooA_at (A : FVec Ideal S16896x6144 .bf16) (L : FVec Ideal S4x128 .f32) (b : Fin 2) (q : Fin 8192) (h : Fin 8) (e : Fin 256) :
    ooA A L (ix4 b q h e)
      = attend (qrow A ⟨b.val * 8192 + q.val, by omega⟩ h) (keys A b h) (vals A b h) (lam fun i d => L (ix2 i d)) e := by
  refine (oo_at _ b q h e).trans ((dg_at _ _ b h e q).trans (Finset.sum_congr rfl fun k _ => ?_))
  refine congrArg₂ (· * ·) (vv_at A b k h e) ((aa_at _ _ _ b h q k).trans ?_)
  exact congrArg₂ (· - ·) ((p0_at _ b h q k).trans (pmA_at A b h 0 q k))
    (congrArg₂ (· * ·) (lamv_at L) ((p1_at _ b h q k).trans (pmA_at A b h 1 q k)))

/-- The reference, at an index. -/
theorem out_at (A : FVec Ideal S16896x6144 .bf16) (L : FVec Ideal S4x128 .f32) (G : FVec Ideal S256 .f32)
    (b : Fin 2) (q : Fin 8192) (h : Fin 8) (e : Fin 256) (r : Fin 16384) (x : Fin 2048) (hr : r.val = b.val * 8192 + q.val) (hx : x.val = h.val * 256 + e.val) :
    out A L G (ix2 r x) = rms (attend (qrow A r h) (keys A b h) (vals A b h) (lam fun i d => L (ix2 i d))) (fun e => G (ix1 e)) e := by
  have hr' : (⟨b.val * 8192 + q.val, by omega⟩ : Fin 16384) = r := Fin.ext hr.symm
  have i0 : (⟨r.val / 8192, by omega⟩ : Fin 2) = b := Fin.ext (by show r.val / 8192 = b.val; omega)
  have i1 : (⟨r.val % 8192, by omega⟩ : Fin 8192) = q := Fin.ext (by show r.val % 8192 = q.val; omega)
  have i2 : (⟨x.val / 256, by omega⟩ : Fin 8) = h := Fin.ext (by show x.val / 256 = h.val; omega)
  have i3 : (⟨x.val % 256, by omega⟩ : Fin 256) = e := Fin.ext (by show x.val % 256 = e.val; omega)
  refine (fl_at _ r x).trans ?_
  rw [i0, i1, i2, i3]
  refine (nn_at _ _ _ b q h e).trans ?_
  rw [ms_at]
  simp only [ooA_at, hr']
  rfl

end
end Attn.Ref
-- ==== Proof.Math.lean ====
module

public import proofs.«01_k».proof.Proof.Ref

@[expose] public section

namespace Attn

open Idealize.ShloMosaic

noncomputable section

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two of a score. -/
def p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

theorem exp2_real (x : ℝ) : Ideal.exp2 (x : EReal) = ((p2 x : ℝ) : EReal) := rfl

/-- The power of two as an exponential. -/
theorem exp_ln2 (x : ℝ) : Real.exp (x * Real.log 2) = p2 x := by
  rw [p2, Real.rpow_eq_pow, Real.rpow_def_of_pos (by norm_num), mul_comm]

/-- The greatest of finitely many reals, at least one, is a real. -/
theorem sup_real {n : ℕ} [NeZero n] (s : Fin n → ℝ) : ∃ M : ℝ, (Finset.univ.sup fun c => (s c : EReal)) = M := by
  obtain ⟨c, -, hc⟩ := Finset.exists_mem_eq_sup (Finset.univ : Finset (Fin n)) ⟨0, Finset.mem_univ _⟩ fun c => (s c : EReal)
  exact ⟨s c, hc⟩

/-- The running values `R` of a row stand for the sum of weights `Z` and the weighted sums of values `N`:
    both divided by the power of two of the running maximum. -/
def Inv (R : Row) (Z : ℝ) (N : Fin 256 → ℝ) : Prop :=
  ∃ M : ℝ, R.m = M ∧ R.l = ((p2 (-M) * Z : ℝ) : EReal) ∧ ∀ e, R.a e = ((p2 (-M) * N e : ℝ) : EReal)

/-- The running values after a chunk of real scores and values, from a former maximum `m` for which the factor is the
    real `f`. -/
theorem next_of {n : ℕ} [NeZero n] (R : Row) (S : Fin n → EReal) (V : Fin n → Fin 256 → EReal) (s : Fin n → ℝ) (v : Fin n → Fin 256 → ℝ)
    (hS : ∀ c, S c = s c) (hV : ∀ c e, V c e = v c e) (Z : ℝ) (N : Fin 256 → ℝ) (M' : ℝ) (hm : mx R.m S = M')
    (hl : al R.m S * R.l = ((p2 (-M') * Z : ℝ) : EReal)) (ha : ∀ e, R.a e * al R.m S = ((p2 (-M') * N e : ℝ) : EReal)) :
    Inv (R.next S V) (Z + ∑ c, p2 (s c)) (fun e => N e + ∑ c, p2 (s c) * v c e) := by
  have hp : ∀ c, pr R.m S c = ((p2 (-M') * p2 (s c) : ℝ) : EReal) := fun c => by
    rw [pr, hm, hS, ← EReal.coe_sub, exp2_real, ← p2_add]
    congr 2; ring
  refine ⟨M', hm, ?_, fun e => ?_⟩
  · show ls R.m R.l S = _
    rw [ls, hl, Finset.sum_congr rfl fun c _ => hp c, ← coe_sum, ← EReal.coe_add, ← Finset.mul_sum, ← mul_add]
  · show ac R.m (R.a e) S (fun c => V c e) = _
    rw [ac, ha, Finset.sum_congr rfl fun c _ => congrArg₂ (· * ·) (hp c) (hV c e)]
    simp only [← EReal.coe_mul]
    rw [← coe_sum, ← EReal.coe_add]
    congr 1
    rw [mul_add, Finset.mul_sum]
    congr 1
    exact Finset.sum_congr rfl fun c _ => mul_assoc _ _ _

/-- The first chunk. -/
theorem first {n : ℕ} [NeZero n] (S : Fin n → EReal) (V : Fin n → Fin 256 → EReal) (s : Fin n → ℝ) (v : Fin n → Fin 256 → ℝ)
    (hS : ∀ c, S c = s c) (hV : ∀ c e, V c e = v c e) :
    Inv (Row.zero.next S V) (∑ c, p2 (s c)) (fun e => ∑ c, p2 (s c) * v c e) := by
  obtain ⟨M, hM⟩ := sup_real s
  have hm : mx Row.zero.m S = M := by
    rw [mx, show S = fun c => (s c : EReal) from funext hS, hM]
    exact max_eq_right bot_le
  have h := next_of Row.zero S V s v hS hV 0 (fun _ => 0) M hm (by simp [Row.zero]) (fun e => by simp [Row.zero])
  simpa only [zero_add] using h

/-- Every later chunk. -/
theorem Inv.next {n : ℕ} [NeZero n] {R : Row} {Z : ℝ} {N : Fin 256 → ℝ} (h : Inv R Z N) (S : Fin n → EReal) (V : Fin n → Fin 256 → EReal)
    (s : Fin n → ℝ) (v : Fin n → Fin 256 → ℝ) (hS : ∀ c, S c = s c) (hV : ∀ c e, V c e = v c e) :
    Inv (R.next S V) (Z + ∑ c, p2 (s c)) (fun e => N e + ∑ c, p2 (s c) * v c e) := by
  obtain ⟨m, h1, h2, h3⟩ := h
  obtain ⟨M, hM⟩ := sup_real s
  have hm : mx R.m S = ((max m M : ℝ) : EReal) := by
    rw [mx, show S = fun c => (s c : EReal) from funext hS, hM, h1]
    exact (EReal.coe_strictMono.monotone.map_max).symm
  have ha : al R.m S = ((p2 (m - max m M) : ℝ) : EReal) := by
    rw [al, hm, h1, ← EReal.coe_sub, exp2_real]
  have hk : p2 (m - max m M) * p2 (-m) = p2 (-max m M) := by rw [← p2_add]; congr 1; ring
  refine next_of R S V s v hS hV Z N _ hm ?_ fun e => ?_
  · rw [ha, h2, ← EReal.coe_mul, ← mul_assoc, hk]
  · rw [ha, h3, ← EReal.coe_mul, mul_comm, ← mul_assoc, hk]

/-- The quotient of the weighted sums by the sum of weights. -/
theorem Inv.quot {R : Row} {Z : ℝ} {N : Fin 256 → ℝ} (h : Inv R Z N) (hZ : 0 < Z) (e : Fin 256) :
    R.a e * Ideal.div 1 R.l = ((N e / Z : ℝ) : EReal) := by
  obtain ⟨M, -, h2, h3⟩ := h
  have hp := p2_pos (-M)
  have hne : p2 (-M) * Z ≠ 0 := (mul_pos hp hZ).ne'
  rw [h2, h3, Ideal.div, if_neg (by exact_mod_cast hne), one_mul, ← EReal.coe_inv, ← EReal.coe_mul]
  congr 1
  rw [mul_inv, ← mul_assoc, mul_comm (p2 (-M)) (N e), mul_assoc (N e), mul_inv_cancel₀ hp.ne', mul_one, div_eq_mul_inv]

/-- The logarithm of two, as the reference takes it. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  show (if (2 : ℝ) ≤ 0 then ⊥ else ((Real.log 2 : ℝ) : EReal)) = _
  rw [if_neg (by norm_num)]

/-- The softmax of real scores times the logarithm of two: powers of two over their sum. -/
theorem smx_real {n : ℕ} [NeZero n] (S : Fin n → EReal) (s : Fin n → ℝ) (hS : ∀ k, S k = s k) (k : Fin n) :
    Ref.smx (fun k => S k * Ideal.log (Ideal.ofBits .f32 0x40000000#32)) k = ((p2 (s k) / ∑ k, p2 (s k) : ℝ) : EReal) := by
  have hT : (fun k => S k * Ideal.log (Ideal.ofBits .f32 0x40000000#32)) = fun k => ((s k * Real.log 2 : ℝ) : EReal) := by
    funext k; rw [hS, log_two, ← EReal.coe_mul]
  rw [hT]
  obtain ⟨M, hM⟩ := sup_real fun k => s k * Real.log 2
  have he : ∀ k, Ideal.exp (((s k * Real.log 2 : ℝ) : EReal) - max ⊥ (Finset.univ.sup fun k => ((s k * Real.log 2 : ℝ) : EReal)))
      = ((Real.exp (-M) * p2 (s k) : ℝ) : EReal) := fun k => by
    rw [hM, max_eq_right bot_le, ← EReal.coe_sub]
    show ((Real.exp (s k * Real.log 2 - M) : ℝ) : EReal) = _
    rw [sub_eq_add_neg, add_comm, Real.exp_add, exp_ln2]
  have hpos : 0 < ∑ k, p2 (s k) := Finset.sum_pos (fun k _ => p2_pos _) ⟨0, Finset.mem_univ _⟩
  have hE := Real.exp_pos (-M)
  rw [Ref.smx]
  simp only [he]
  rw [← coe_sum, ← Finset.mul_sum, Ideal.div, if_neg (by exact_mod_cast (mul_pos hE hpos).ne'), ← EReal.coe_inv, ← EReal.coe_mul]
  congr 1
  field_simp

/-- A product of two rows of reals. -/
theorem dotm_real (q K : Fin 256 → EReal) (q' K' : Fin 256 → ℝ) (hq : ∀ e, q e = q' e) (hK : ∀ e, K e = K' e) (i : Fin 2) :
    dotm q K i = ((∑ d, q' (ln i d) * K' (ln i d) : ℝ) : EReal) := by
  rw [dotm, coe_sum]
  exact Finset.sum_congr rfl fun d _ => by rw [hq, hK, EReal.coe_mul]

/-- The key of chunk `j` at place `c`, among all keys. -/
def kj (j : Fin 4) (c : Fin 2048) : Fin 8448 := ⟨2048 * j.val + c.val, by omega⟩

/-- The context key at place `c`, among all keys. -/
def kc (c : Fin 256) : Fin 8448 := ⟨8192 + c.val, by omega⟩

/-- A sum over all keys, chunk by chunk. -/
theorem sum_keys (f : Fin 8448 → ℝ) :
    ∑ k, f k = (((∑ c, f (kj 0 c)) + ∑ c, f (kj 1 c)) + ∑ c, f (kj 2 c)) + (∑ c, f (kj 3 c)) + ∑ c, f (kc c) := by
  have h1 : ∑ k, f k = (∑ c : Fin 8192, f ⟨c.val, by omega⟩) + ∑ c : Fin 256, f ⟨8192 + c.val, by omega⟩ :=
    Fin.sum_univ_add (a := 8192) (b := 256) f
  have h2 : (∑ c : Fin 8192, f ⟨c.val, by omega⟩) = (∑ c : Fin 6144, f ⟨c.val, by omega⟩) + ∑ c : Fin 2048, f ⟨6144 + c.val, by omega⟩ :=
    Fin.sum_univ_add (a := 6144) (b := 2048) fun c => f ⟨c.val, by omega⟩
  have h3 : (∑ c : Fin 6144, f ⟨c.val, by omega⟩) = (∑ c : Fin 4096, f ⟨c.val, by omega⟩) + ∑ c : Fin 2048, f ⟨4096 + c.val, by omega⟩ :=
    Fin.sum_univ_add (a := 4096) (b := 2048) fun c => f ⟨c.val, by omega⟩
  have h4 : (∑ c : Fin 4096, f ⟨c.val, by omega⟩) = (∑ c : Fin 2048, f ⟨c.val, by omega⟩) + ∑ c : Fin 2048, f ⟨2048 + c.val, by omega⟩ :=
    Fin.sum_univ_add (a := 2048) (b := 2048) fun c => f ⟨c.val, by omega⟩
  rw [h1, h2, h3, h4]
  have h0 : (∑ c : Fin 2048, f ⟨c.val, by omega⟩) = ∑ c, f (kj 0 c) :=
    Finset.sum_congr rfl fun c _ => congrArg f (Fin.ext (by show c.val = 2048 * 0 + c.val; omega))
  rw [h0]
  rfl

/-- **The running computation is the attention**: over finite queries, keys, values and a finite weight, the difference
    of the two maps' quotients after the five chunks is the reference's sum over all keys. -/
theorem diff_eq (q : Fin 256 → EReal) (K V : Fin 8448 → Fin 256 → EReal) (w : EReal) (q' : Fin 256 → ℝ) (K' V' : Fin 8448 → Fin 256 → ℝ) (w' : ℝ)
    (hq : ∀ e, q e = q' e) (hK : ∀ k e, K k e = K' k e) (hV : ∀ k e, V k e = V' k e) (hw : w = w') :
    diff (run5 q (fun j c => K (kj j c)) (fun j c => V (kj j c)) (fun c => K (kc c)) (fun c => V (kc c))) w = Ref.attend q K V w := by
  let s : Fin 2 → Fin 8448 → ℝ := fun i k => ∑ d, q' (ln i d) * K' k (ln i d)
  have hs : ∀ i k, dotm q (K k) i = s i k := fun i k => dotm_real q (K k) q' (K' k) hq (hK k) i
  have hI : ∀ i, Inv (run5 q (fun j c => K (kj j c)) (fun j c => V (kj j c)) (fun c => K (kc c)) (fun c => V (kc c)) i)
      (∑ k, p2 (s i k)) (fun e => ∑ k, p2 (s i k) * V' k e) := fun i => by
    have h := ((((first (fun c => dotm q (K (kj 0 c)) i) (fun c => V (kj 0 c)) (fun c => s i (kj 0 c)) (fun c => V' (kj 0 c)) (fun c => hs i _) (fun c => hV _)).next
      (fun c => dotm q (K (kj 1 c)) i) (fun c => V (kj 1 c)) (fun c => s i (kj 1 c)) (fun c => V' (kj 1 c)) (fun c => hs i _) (fun c => hV _)).next
      (fun c => dotm q (K (kj 2 c)) i) (fun c => V (kj 2 c)) (fun c => s i (kj 2 c)) (fun c => V' (kj 2 c)) (fun c => hs i _) (fun c => hV _)).next
      (fun c => dotm q (K (kj 3 c)) i) (fun c => V (kj 3 c)) (fun c => s i (kj 3 c)) (fun c => V' (kj 3 c)) (fun c => hs i _) (fun c => hV _)).next
      (fun c => dotm q (K (kc c)) i) (fun c => V (kc c)) (fun c => s i (kc c)) (fun c => V' (kc c)) (fun c => hs i _) (fun c => hV _)
    rw [sum_keys fun k => p2 (s i k), funext fun e => sum_keys fun k => p2 (s i k) * V' k e]
    exact h
  have hpos : ∀ i, 0 < ∑ k, p2 (s i k) := fun i => Finset.sum_pos (fun k _ => p2_pos _) ⟨0, Finset.mem_univ _⟩
  funext e
  rw [diff, (hI 0).quot (hpos 0), (hI 1).quot (hpos 1), hw, ← EReal.coe_mul, ← EReal.coe_sub, Ref.attend]
  have ht : ∀ k, V k e * (Ref.smx (fun k => dotm q (K k) 0 * Ideal.log (Ideal.ofBits .f32 0x40000000#32)) k
      - w' * Ref.smx (fun k => dotm q (K k) 1 * Ideal.log (Ideal.ofBits .f32 0x40000000#32)) k)
      = ((V' k e * (p2 (s 0 k) / (∑ k, p2 (s 0 k)) - w' * (p2 (s 1 k) / ∑ k, p2 (s 1 k))) : ℝ) : EReal) := fun k => by
    rw [smx_real _ (s 0) (hs 0), smx_real _ (s 1) (hs 1), hV, ← EReal.coe_mul, ← EReal.coe_sub, ← EReal.coe_mul]
  rw [Finset.sum_congr rfl fun k _ => ht k, ← coe_sum]
  refine congrArg (fun z : ℝ => (z : EReal)) ?_
  rw [Finset.sum_div, Finset.sum_div, Finset.mul_sum, ← Finset.sum_sub_distrib]
  exact Finset.sum_congr rfl fun k _ => by ring

end
end Attn
-- ==== Proof.Array.lean ====
module

public import proofs.«01_k».proof.Proof.Math
public import proofs.«01_k».proof.Proof.Ref
public import proofs.«01_k».proof.Proof.Block
public import proofs.«01_k».proof.Proof.Gen.KernelIdeal.Frame
public import proofs.«01_k».proof.Proof.Gen.Pre_finite
public import proofs.«01_k».proof.Defs
public import Idealize.ShloMosaic.Lib.Pipeline.ValueKit

@[expose] public section

set_option maxRecDepth 16384

namespace Attn

open Idealize Idealize.ShloMosaic Idealize.ShloMosaic.TcCoe Idealize.ShloMosaic.View Cert.KernelIdeal Cert.KernelIdeal.Gen
open Idealize.ShloMosaic.Pipeline (Dat)

noncomputable section

variable (m : (ℓ : Loc nD τ sig) → Buf (Elt Ideal) ℓ) (c : Dev nD)

/-- The block of each window at grid point `t`: batch `t / 128`, head `t / 16 % 8`, row block `t % 16`. -/
theorem idx : ∀ t : Fin cfg0.N, win0_0.index t = ![t.val / 128 * 16 + t.val % 16, t.val / 16 % 8]
    ∧ win0_1.index t = ![t.val / 128, 8 + t.val / 16 % 8] ∧ win0_2.index t = ![t.val / 128, 16 + t.val / 16 % 8]
    ∧ win0_3.index t = ![64 + t.val / 128, 8 + t.val / 16 % 8] ∧ win0_4.index t = ![64 + t.val / 128, 16 + t.val / 16 % 8]
    ∧ win0_5.index t = ![0, 0] ∧ win0_6.index t = ![0, 0]
    ∧ win0_7.index t = ![t.val / 128 * 16 + t.val % 16, t.val / 16 % 8] ∧ t.val < 256 :=
  (by decide +kernel : ∀ t : Fin grid0.N, _)

/-- The query block at row `r`, lane `e`. -/
theorem blk0 (t : Fin cfg0.N) (r : Fin 512) (e : Fin 256) (R : Fin 16896) (E : Fin 6144)
    (hR : R.val = (t.val / 128 * 16 + t.val % 16) * 512 + r.val) (hE : E.val = t.val / 16 % 8 * 256 + e.val) :
    (iblk m c 0 t) (ix2 r e) = m ((c : Thread nD τ).loc main_arg0) (ix2 R E) := by
  blk_ext [iblk, V, idx t]

/-- The key block at row `r`, lane `e`. -/
theorem blk1 (t : Fin cfg0.N) (r : Fin 8192) (e : Fin 256) (R : Fin 16896) (E : Fin 6144)
    (hR : R.val = t.val / 128 * 8192 + r.val) (hE : E.val = (8 + t.val / 16 % 8) * 256 + e.val) :
    (X0_1 m c t) (ix2 r e) = m ((c : Thread nD τ).loc main_arg0) (ix2 R E) := by
  unfold X0_1 Pipeline.Window.fill
  rw [dif_pos (moved0_1 t _)]
  blk_ext [iblk, V, idx t]

/-- The value block at row `r`, lane `e`. -/
theorem blk2 (t : Fin cfg0.N) (r : Fin 8192) (e : Fin 256) (R : Fin 16896) (E : Fin 6144)
    (hR : R.val = t.val / 128 * 8192 + r.val) (hE : E.val = (16 + t.val / 16 % 8) * 256 + e.val) :
    (X0_2 m c t) (ix2 r e) = m ((c : Thread nD τ).loc main_arg0) (ix2 R E) := by
  unfold X0_2 Pipeline.Window.fill
  rw [dif_pos (moved0_2 t _)]
  blk_ext [iblk, V, idx t]

/-- The context key block at row `r`, lane `e`. -/
theorem blk3 (t : Fin cfg0.N) (r : Fin 256) (e : Fin 256) (R : Fin 16896) (E : Fin 6144)
    (hR : R.val = (64 + t.val / 128) * 256 + r.val) (hE : E.val = (8 + t.val / 16 % 8) * 256 + e.val) :
    (iblk m c 3 t) (ix2 r e) = m ((c : Thread nD τ).loc main_arg0) (ix2 R E) := by
  blk_ext [iblk, V, idx t]

/-- The context value block at row `r`, lane `e`. -/
theorem blk4 (t : Fin cfg0.N) (r : Fin 256) (e : Fin 256) (R : Fin 16896) (E : Fin 6144)
    (hR : R.val = (64 + t.val / 128) * 256 + r.val) (hE : E.val = (16 + t.val / 16 % 8) * 256 + e.val) :
    (iblk m c 4 t) (ix2 r e) = m ((c : Thread nD τ).loc main_arg0) (ix2 R E) := by
  blk_ext [iblk, V, idx t]

/-- The vectors of the map weight. -/
theorem blk5 (t : Fin cfg0.N) (i : Fin 4) (d : Fin 128) :
    (iblk m c 5 t) (ix2 i d) = m ((c : Thread nD τ).loc main_arg1) (ix2 i d) := by
  blk_ext [iblk, V, idx t]

/-- The gains. -/
theorem blk6 (t : Fin cfg0.N) (e : Fin 256) :
    (iblk m c 6 t) (ix2 0 e) = m ((c : Thread nD τ).loc main_arg2) (ix1 e) := by
  blk_simp [iblk, idx t]
  entry_read
  pointwise
  blk_ext [idx t]

/-- The body leaves at grid point `t` the block `block_out` describes. -/
theorem outs_at (t : Fin cfg0.N) (r : Fin 512) (e : Fin 256) :
    (outsAt0 m c t) (ix2 r e)
      = rms (diff (run5 (fun e => (iblk m c 0 t) (ix2 r e)) (rows (X0_1 m c t)) (rows (X0_2 m c t)) (fun k e => (iblk m c 3 t) (ix2 k e))
            (fun k e => (iblk m c 4 t) (ix2 k e)))
          (lam fun i d => (iblk m c 5 t) (ix2 i d))) (fun e => (iblk m c 6 t) (ix2 0 e)) e := by
  unfold outsAt0 out0_A_7
  rw [read_writes_junk_eq_canon]
  refine (congrFun (View.canon_cons_unit_zero (S := S512x256) (Val := Elt Ideal) (e := .bf16) (off := ![0, 0]) (by funext x; fin_cases x <;> rfl) _ _ []) _).trans ?_
  exact block_out c _ _ _ _ _ _ _ _ _ _ _ _ _ _ _ _ _ _ _ _ _ _ _ _ _ _ _ _ _ r e

/-- Every element is a real number. -/
def AllReal {S : Shape} (X : S.Idx → EReal) : Prop := ∀ i, ∃ x : ℝ, X i = x

/-- The weight of real vectors is real. -/
theorem lam_real (L : Fin 4 → Fin 128 → EReal) (h : ∀ i d, ∃ x : ℝ, L i d = x) : ∃ w : ℝ, lam L = w := by
  choose f hf using h
  refine ⟨Real.exp (∑ x, f 0 x * f 1 x) - Real.exp (∑ x, f 2 x * f 3 x) + (13421773 / 67108864 : ℝ), ?_⟩
  unfold lam
  have hc : Ideal.ofBits .f32 0x3E4CCCCD#32 = ((13421773 / 67108864 : ℝ) : EReal) := by
    simp [Ideal.ofBits, Ideal.ieee, -EReal.coe_mul]
    norm_num
  have hp : ∀ i j, Ideal.exp (∑ x, L i x * L j x) = ((Real.exp (∑ x, f i x * f j x) : ℝ) : EReal) := fun i j => by
    rw [Finset.sum_congr rfl fun x _ => (congrArg₂ (· * ·) (hf i x) (hf j x)).trans (EReal.coe_mul _ _).symm, ← coe_sum]
    rfl
  rw [hp, hp, hc, ← EReal.coe_sub, ← EReal.coe_add]

/-- One element of the result. -/
theorem point (hA : AllReal (S := S16896x6144) (m ((c : Thread nD τ).loc main_arg0))) (hL : AllReal (S := S4x128) (m ((c : Thread nD τ).loc main_arg1)))
    (t : Fin cfg0.N) (r : Fin 512) (e : Fin 256) (R : Fin 16384) (E : Fin 2048)
    (hR : R.val = (t.val / 128 * 16 + t.val % 16) * 512 + r.val) (hE : E.val = t.val / 16 % 8 * 256 + e.val) :
    (outsAt0 m c t) (ix2 r e)
      = Ref.out (m ((c : Thread nD τ).loc main_arg0)) (m ((c : Thread nD τ).loc main_arg1)) (m ((c : Thread nD τ).loc main_arg2)) (ix2 R E) := by
  have ht : t.val < 256 := (idx t).2.2.2.2.2.2.2.2
  let b : Fin 2 := ⟨t.val / 128, by omega⟩
  let h : Fin 8 := ⟨t.val / 16 % 8, by omega⟩
  let q : Fin 8192 := ⟨t.val % 16 * 512 + r.val, by omega⟩
  refine (outs_at m c t r e).trans ?_
  refine Eq.trans ?_ (Ref.out_at _ _ _ b q h e R E (by show R.val = t.val / 128 * 8192 + (t.val % 16 * 512 + r.val); omega) hE).symm
  have e0 : (fun e => (iblk m c 0 t) (ix2 r e)) = Ref.qrow (m ((c : Thread nD τ).loc main_arg0)) R h := funext fun e => blk0 m c t r e _ _ hR rfl
  have e1 : rows (X0_1 m c t) = fun j k => Ref.keys (m ((c : Thread nD τ).loc main_arg0)) b h (kj j k) := funext fun j => funext fun k => funext fun e => by
    refine blk1 m c t _ e _ _ ?_ ?_
    · unfold Ref.krow kj
      rw [dif_pos (by show 2048 * j.val + k.val < 8192; omega)]
    · show 2048 + t.val / 16 % 8 * 256 + e.val = _; omega
  have e2 : rows (X0_2 m c t) = fun j k => Ref.vals (m ((c : Thread nD τ).loc main_arg0)) b h (kj j k) := funext fun j => funext fun k => funext fun e => by
    refine blk2 m c t _ e _ _ ?_ ?_
    · unfold Ref.krow kj
      rw [dif_pos (by show 2048 * j.val + k.val < 8192; omega)]
    · show 4096 + t.val / 16 % 8 * 256 + e.val = _; omega
  have e3 : (fun k e => (iblk m c 3 t) (ix2 k e)) = fun k => Ref.keys (m ((c : Thread nD τ).loc main_arg0)) b h (kc k) := funext fun k => funext fun e => by
    refine blk3 m c t k e _ _ ?_ ?_
    · unfold Ref.krow kc
      rw [dif_neg (by show ¬ 8192 + k.val < 8192; omega)]
      show 16384 + t.val / 128 * 256 + (8192 + k.val - 8192) = _; omega
    · show 2048 + t.val / 16 % 8 * 256 + e.val = _; omega
  have e4 : (fun k e => (iblk m c 4 t) (ix2 k e)) = fun k => Ref.vals (m ((c : Thread nD τ).loc main_arg0)) b h (kc k) := funext fun k => funext fun e => by
    refine blk4 m c t k e _ _ ?_ ?_
    · unfold Ref.krow kc
      rw [dif_neg (by show ¬ 8192 + k.val < 8192; omega)]
      show 16384 + t.val / 128 * 256 + (8192 + k.val - 8192) = _; omega
    · show 4096 + t.val / 16 % 8 * 256 + e.val = _; omega
  have e5 : (fun i d => (iblk m c 5 t) (ix2 i d)) = fun i d => (m ((c : Thread nD τ).loc main_arg1)) (ix2 i d) := funext fun i => funext fun d => blk5 m c t i d
  have e6 : (fun e => (iblk m c 6 t) (ix2 0 e)) = fun e => (m ((c : Thread nD τ).loc main_arg2)) (ix1 e) := funext fun e => blk6 m c t e
  rw [e0, e1, e2, e3, e4, e5, e6]
  obtain ⟨w, hw⟩ := lam_real (fun i d => m ((c : Thread nD τ).loc main_arg1) (ix2 i d)) fun i d => hL _
  choose a ha using hA
  exact congrArg (fun z => rms z _ e) (diff_eq _ _ _ _ _ _ _ w (fun e => ha _) (fun k e => ha _) (fun k e => ha _) hw)

/-- The result array after the run. -/
theorem final (hA : AllReal (S := S16896x6144) (m ((c : Thread nD τ).loc main_arg0))) (hL : AllReal (S := S4x128) (m ((c : Thread nD τ).loc main_arg1))) :
    (dats m 0 c).arrAt 7 cfg0.N
      = Ref.out (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have hy : y = ix2 (y 0) (y 1) := funext fun a => by fin_cases a <;> rfl
  have ht : t.val < 256 := (idx t).2.2.2.2.2.2.2.2
  have h0 : (y 0).val < 512 := (y 0).isLt
  have h1 : (y 1).val < 256 := (y 1).isLt
  refine ((congrArg (outsAt0 m c t) hy).trans (point m c hA hL t (y 0) (y 1) ⟨(t.val / 128 * 16 + t.val % 16) * 512 + (y 0).val, ?_⟩ ⟨t.val / 16 % 8 * 256 + (y 1).val, ?_⟩ rfl rfl)).trans ?_
  · omega
  · omega
  · blk_ext [idx t]

/-- A value whose absolute value compares below infinity is a real number. -/
theorem real_of_cmp (x : EReal) (h : Ideal.cmp .olt (max x (-x)) (⊤ : EReal) = 1#1) : ∃ r : ℝ, x = r := by
  have hx : max x (-x) < ⊤ := by
    by_contra hn
    have h' : BitVec.ofBool (decide (max x (-x) < ⊤)) = 1#1 := h
    rw [decide_eq_false hn] at h'
    exact absurd h' (by decide)
  induction x using EReal.rec with
  | bot => simp at hx
  | coe r => exact ⟨r, rfl⟩
  | top => simp at hx

/-- The precondition says that the first two arguments hold real numbers. -/
theorem pre_real (h : Cert.Pre_KernelIdeal_finite (hPre_finite := Cert.Pre_finite.Gen.facts) m) :
    AllReal (S := S16896x6144) (m ((c : Thread nD τ).loc main_arg0)) ∧ AllReal (S := S4x128) (m ((c : Thread nD τ).loc main_arg1)) := by
  have t16 : Ideal.ofBits .bf16 0x7F80#16 = ⊤ := by simp [Ideal.ofBits, Ideal.ieee]
  have t32 : Ideal.ofBits .f32 0x7F800000#32 = ⊤ := by simp [Ideal.ofBits, Ideal.ieee]
  refine ⟨fun i => real_of_cmp _ ?_, fun i => real_of_cmp _ ?_⟩
  · let X : S16896x6144.Idx → EReal := m ((c : Thread nD τ).loc main_arg0)
    have e : Ideal.cmp .olt (max (X i) (-X i)) (Ideal.ofBits .bf16 0x7F80#16) = 1#1 := congrFun (h c).1 i
    rw [t16] at e
    exact e
  · let X : S4x128.Idx → EReal := m ((c : Thread nD τ).loc main_arg1)
    have e : Ideal.cmp .olt (max (X i) (-X i)) (Ideal.ofBits .f32 0x7F800000#32) = 1#1 := congrFun (h c).2 i
    rw [t32] at e
    exact e

end
end Attn
-- ==== Proof.Table.lean ====
/- The words of the experts' table and the comparisons that the programs make of them: which word is an expert's number,
   which tile is the one before, and what the one-bit tests decide. -/
module

public import Idealize.ShloMosaic.PureOps
public import Mathlib.Tactic.FinCases

@[expose] public section

namespace Cert.Table

open Idealize.ShloMosaic

/-- A word that passes the two comparisons of the table is one of the eight experts' numbers. -/
theorem lt_eight (x : BitVec 32) (h0 : IntOp.cmpi .sge x 0#32 = 1#1) (h8 : IntOp.cmpi .slt x 8#32 = 1#1) : x.toNat < 8 := by
  have one (b : Bool) : BitVec.ofBool b = 1#1 → b = true := by cases b <;> decide
  have a : (0#32).sle x = true := one _ h0
  have b : x.slt 8#32 = true := one _ h8
  rw [BitVec.sle_iff_toInt_le] at a
  rw [BitVec.slt_iff_toInt_lt] at b
  have z : (0#32).toInt = 0 := by decide
  have e : (8#32).toInt = 8 := by decide
  rw [z] at a
  rw [e] at b
  have := BitVec.toInt_eq_toNat_cond x
  have := x.isLt
  split at * <;> omega

/-- The tile before, the first being before itself. -/
def prev (k : Fin 72) : Fin 72 := ⟨k.val - 1, by omega⟩
/-- The tile of a row. -/
def tileOf (R : Fin 36864) : Fin 72 := ⟨R.val / 512, by omega⟩

/-- Where the programs read the table: at the tile's number, and at the number of the tile before. -/
theorem here : ∀ k : Fin 72, (Scalar.indexCast (BitVec.ofNat 32 k.val)).toNat = k.val := by decide +kernel
theorem before : ∀ k : Fin 72, (Scalar.indexCast (Scalar.maxsi (Scalar.subi (BitVec.ofNat 32 k.val) 1#32) 0#32)).toNat = (prev k).val := by
  decide +kernel
theorem tile_zero : ∀ k : Fin 72, BitVec.ofNat 32 k.val = 0#32 ↔ k.val = 0 := by decide +kernel
theorem tile_toInt : ∀ k : Fin 72, (BitVec.ofNat 32 k.val).toInt = (k.val : ℤ) := by decide +kernel
theorem tile_toNat : ∀ k : Fin 72, (BitVec.ofNat 32 k.val).toNat = k.val := by decide +kernel
theorem small_toNat : ∀ k : Fin 8, (BitVec.ofNat 32 k.val).toNat = k.val := by decide +kernel

/-- One of two tests, one test, and a test's negation, each widened and compared with zero as the programs do. -/
theorem either : ∀ a b : BitVec 1, Scalar.cmpi .ne (Scalar.extui (Scalar.ori a b) : BitVec 32) 0#32 = 1#1 ↔ a = 1#1 ∨ b = 1#1 := by
  intro a b
  rcases BitVec.eq_zero_or_eq_one a with rfl | rfl <;> rcases BitVec.eq_zero_or_eq_one b with rfl | rfl <;> decide
theorem plain : ∀ b : BitVec 1, Scalar.cmpi .ne (Scalar.extui b : BitVec 32) 0#32 = 1#1 ↔ b = 1#1 := by
  intro b
  rcases BitVec.eq_zero_or_eq_one b with rfl | rfl <;> decide
theorem negated : ∀ b : BitVec 1, Scalar.cmpi .ne (Scalar.extui (Scalar.xori b 1#1) : BitVec 32) 0#32 = 1#1 ↔ ¬b = 1#1 := by
  intro b
  rcases BitVec.eq_zero_or_eq_one b with rfl | rfl <;> decide
theorem both (a b : BitVec 1) : IntOp.andi a b = 1#1 ↔ a = 1#1 ∧ b = 1#1 := by
  rcases BitVec.eq_zero_or_eq_one a with rfl | rfl <;> rcases BitVec.eq_zero_or_eq_one b with rfl | rfl <;> decide

theorem ofBool_one (b : Bool) : BitVec.ofBool b = 1#1 ↔ b = true := by cases b <;> decide

theorem eq_iff {w : ℕ} (a b : BitVec w) : Scalar.cmpi .eq a b = 1#1 ↔ a = b := by
  simp [Scalar.cmpi, IntOp.cmpi, ofBool_one]
theorem ne_iff {w : ℕ} (a b : BitVec w) : Scalar.cmpi .ne a b = 1#1 ↔ a ≠ b := by
  simp [Scalar.cmpi, IntOp.cmpi, ofBool_one]
/-- A tile's number compared with the number of tiles in use. -/
theorem tile_lt (k : Fin 72) (n : BitVec 32) : Scalar.cmpi .slt (BitVec.ofNat 32 k.val) n = 1#1 ↔ (k.val : ℤ) < n.toInt := by
  rw [← tile_toInt]
  simp [Scalar.cmpi, IntOp.cmpi, BitVec.slt, ofBool_one]

end Cert.Table
-- ==== Proof.Swiglu.Run.lean ====
/- One grid point of the experts' gated product, run: what its stores leave in the two weight buffers and in the output
   block, for any contents of the two tables. -/
module

public import proofs.«01_k».proof.Proof.Gen.SwigluIdeal.Launch
public import proofs.«01_k».proof.Proof.Gen.SwigluIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.SwigluIdeal.Tiles

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables, as the body is handed them: the expert of each tile, and the number of tiles in use. -/
abbrev tab0 : Memref sig .tc .smem S72 .i32 := Memref.whole main_arg0
abbrev tab1 : Memref sig .tc .smem S1 .i32 := Memref.whole main_arg1

/-- A table held at half the full share: the body only reads it. -/
abbrev Tab (c : Dev nD) {S : Shape} {e : EltTy} (M : Memref sig .tc .smem S e) : Type := Buf (Elt F) (M.view.loc (c : Thread nD τ))
abbrev tabAt (c : Dev nD) {S : Shape} {e : EltTy} (M : Memref sig .tc .smem S e) (f : Tab (F := F) c M) : sProp 𝕄 :=
  M.view.loc (c : Thread nD τ) ↦{fullShare.right} f

/-- The word of the experts' table that a load of one word reads. -/
abbrev word (c : Dev nD) (T : Tab (F := F) c tab0) (off : Fin 1 → ℕ) (h : ∀ a, off a + S1.size a ≤ S72.size a) : BitVec 32 :=
  View.readAt (Elt F) tab0.view (Rect.unit (s := S72) off S1.size h).toLoadRect T (Shape.Idx.first (numel1_S1.symm ▸ Nat.one_pos))

/-- The number of tiles in use, as the body loads it. -/
abbrev inUse (c : Dev nD) (T : Tab (F := F) c tab1) : BitVec 32 :=
  View.readAt (Elt F) tab1.view (Rect.unit (s := S1) ![0] S1.size inb_S1_S1_0).toLoadRect T (Shape.Idx.first (numel1_S1.symm ▸ Nat.one_pos))

/-- The body stages the first weights: the first tile, or a tile of another expert than the tile before. -/
abbrev stages (c : Dev nD) (i : grid0.Coords) (T : Tab (F := F) c tab0) : Prop :=
  (Scalar.cmpi .ne (Scalar.extui (Scalar.ori (Scalar.cmpi .eq (BitVec.ofNat 32 (i 1).val) 0#32)
    (Scalar.cmpi .ne (word c T (k0_off1 i) (k0_off1_inb i)) (word c T (k0_off2 i) (k0_off2_inb i))))) 0#32) = 1#1
/-- The same test, made again before the second weights. -/
abbrev stages' (c : Dev nD) (i : grid0.Coords) (T : Tab (F := F) c tab0) : Prop :=
  (Scalar.cmpi .ne (Scalar.extui (Scalar.ori (Scalar.cmpi .eq (BitVec.ofNat 32 (i 1).val) 0#32)
    (Scalar.cmpi .ne (word c T (k0_off4 i) (k0_off4_inb i)) (word c T (k0_off3 i) (k0_off3_inb i))))) 0#32) = 1#1

/-- The rewriting that takes a whole block's store and load away. -/
theorem read_store {sp : Space} {S : Shape} {e : EltTy} (v : View sig .tc sp S e) (f : v.ty.Contents (Elt F)) {off : Fin S.rank → ℕ}
    (h : ∀ a, off a = 0) (inb : ∀ a, off a + S.size a ≤ S.size a) (w : S.Idx → Elt F e) :
    v.read (Elt F) (v.writes (Elt F) f [⟨Rect.unit off (no_index S.size) inb, w⟩]) = w := by
  obtain rfl : off = fun _ => 0 := funext h
  exact View.read_writes_full v f inb w []

set_option maxHeartbeats 8000000 in
open Classical in
/-- The body at one grid point, from any contents of the weight buffers: the weight buffers hold the rounded blocks of
    weights where the body stages them and are as they were elsewhere; the output block holds the gated product of the
    tile's rows with what the weight buffers then hold, or zeros past the tiles in use. -/
theorem run_body (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (arg8 : Memref sig .tc .vmem S4096x512 .bf16) (harg8 : arg8.IsWhole) (arg9 : Memref sig .tc .vmem S4096x512 .bf16) (harg9 : arg9.IsWhole)
    (x0 : Vec F S512x4096 .bf16) (x1 x2 : Vec F S1x1x4096x512 .f32) (s0 s1 : Vec F S4096x512 .bf16) (T0 : Tab (F := F) c tab0) (T1 : Tab (F := F) c tab1)
    (hst : stages' c i T0 ↔ stages c i T0) (hu : k0_cond4 i (inUse c T1) = 1#1 ↔ ¬k0_cond3 i (inUse c T1) = 1#1) (E : Set ℕ) (K : PUnit → sProp 𝕄)
    (r0 r1 : Vec F S4096x512 .bf16) (hr0 : (if stages c i T0 then k0_pay1 x1 else s0) = r0) (hr1 : (if stages c i T0 then k0_pay2 x2 else s1) = r1)
    (o : Vec F S512x512 .bf16) (ho : (if k0_cond3 i (inUse c T1) = 1#1 then k0_pay3 x0 r0 r1 else k0_pay4 (F := F)) = o) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare s0 ∗ owns (c : Thread nD τ) arg9 fullShare s1 ∗ tabAt c tab0 T0 ∗ tabAt c tab1 T1
        ∗ (iprop(owns (c : Thread nD τ) arg4 fullShare x0 ∗ owns (c : Thread nD τ) arg5 fullShare x1 ∗ owns (c : Thread nD τ) arg6 fullShare x2
            ∗ owns (c : Thread nD τ) arg7 fullShare o ∗ owns (c : Thread nD τ) arg8 fullShare r0 ∗ owns (c : Thread nD τ) arg9 fullShare r1 ∗ tabAt c tab0 T0 ∗ tabAt c tab1 T1) -∗ K ⟨⟩))
      ⊢ wp frame (wpE (defs₀ (F := F)) Variants.none c none) E
          (cc0_moe_swiglu i tab0 (Memref.isWhole_whole _) tab1 (Memref.isWhole_whole _) arg4 harg4 arg5 harg5 arg6 harg6 arg7 harg7 arg8 harg8 arg9 harg9) K := by
  simp only [cc0_moe_swiglu_eq_skeleton]; unfold cc0_moe_swiglu_skel
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, HT0, HT1, Hk⟩
  obtain rfl := harg4.eq_unread hf0; obtain rfl := harg5.eq_unread hf1; obtain rfl := harg6.eq_unread hf2
  obtain rfl := harg8.eq_unread hg0; obtain rfl := harg9.eq_unread hg1
  by_cases h1 : stages c i T0 <;> by_cases h3 : k0_cond3 i (inUse c T1) = 1#1
  all_goals
    first | rw [if_pos h1] at hr0 hr1 | rw [if_neg h1] at hr0 hr1
    first | rw [if_pos h3] at ho | rw [if_neg h3] at ho
    subst hr0 hr1 ho
    first | have h2 := hst.mpr h1 | have h2 := fun h => h1 (hst.mp h)
    first | have h4 := hu.mpr h3 | have h4 := fun h => hu.mp h h3
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      frame_open
      simp (disch := decide) only [read_store, View.ld_unit_lit', View.readCov_unit_lit', View.readAt_eq_ld, Memref.IsWhole.read_unread]
    isplitl [HS0]
    · iexists _; isplitr; swap; · iexact HS0
      ipureintro
      frame_open
      simp (disch := decide) only [read_store, View.ld_unit_lit', View.readCov_unit_lit', View.readAt_eq_ld, Memref.IsWhole.read_unread]
    isplitl [HS1]
    · iexists _; isplitr; swap; · iexact HS1
      ipureintro
      frame_open
      simp (disch := decide) only [read_store, View.ld_unit_lit', View.readCov_unit_lit', View.readAt_eq_ld, Memref.IsWhole.read_unread]
    isplitl [HT0]; · iexact HT0
    iexact HT1

end Cert.SwigluIdeal.Tiles

end
-- ==== Proof.Swiglu.Words.lean ====
/- What the experts' table and the count of tiles in use decide at a grid point: which blocks of weights the windows are
   on, where the body stages them, and whether the tile is in use. -/
module

public import proofs.«01_k».proof.Proof.Swiglu.Run
public import proofs.«01_k».proof.Proof.Table

@[expose] public section

set_option maxRecDepth 16384

noncomputable section

namespace Cert.SwigluIdeal.Tiles

open Cert.SwigluIdeal Cert.SwigluIdeal.Gen Cert.Table
open Idealize.ShloMosaic Idealize.ShloMosaic.TcCoe

variable {F : FTy → Type} [FloatOps F]
variable (m : (ℓ : Loc nD τ sig) → Buf (Elt F) ℓ)

/-- The buffers when the call starts. -/
abbrev V (c : Dev nD) (b : Ref sig .tc) : Buf (Elt F) ((c : Thread nD τ).loc b) := m ((c : Thread nD τ).loc b)
/-- The two tables. -/
def tbl : pre0.Contents (Elt F) := fun j => V m (0 : Dev nD) (pre0.ref j)
/-- The expert of tile `k`. -/
def te (k : Fin 72) : BitVec 32 := m (((0 : Dev nD) : Thread nD τ).loc main_arg0) (ix1 k)
/-- The number of tiles in use. -/
def nu : BitVec 32 := m (((0 : Dev nD) : Thread nD τ).loc main_arg1) (ix1 0)
/-- Tile `k` is in use. -/
def used (k : Fin 72) : Prop := (k.val : ℤ) < (nu m).toInt
theorem word_eq (c : Dev nD) (k : Fin 72) (off : Fin 1 → ℕ) (h : ∀ a, off a + S1.size a ≤ S72.size a) (hk : off 0 = k.val) :
    word c (tbl m 0) off h = te m k := by
  unfold te tbl
  refine congrArg (m (((0 : Dev nD) : Thread nD τ).loc main_arg0)) ?_
  funext a
  apply Fin.ext
  fin_cases a
  simp [hk]

theorem inUse_eq (c : Dev nD) : inUse c (tbl m 1) = nu m := by
  unfold nu tbl
  refine congrArg (m (((0 : Dev nD) : Thread nD τ).loc main_arg1)) ?_
  funext a
  apply Fin.ext
  fin_cases a
  simp

theorem off_here (i : grid0.Coords) : k0_off1 i 0 = (i 1).val ∧ k0_off4 i 0 = (i 1).val := ⟨here (i 1), here (i 1)⟩
theorem off_before (i : grid0.Coords) : k0_off2 i 0 = (prev (i 1)).val ∧ k0_off3 i 0 = (prev (i 1)).val := ⟨before (i 1), before (i 1)⟩

/-- The weights are staged at the first tile and where the expert changes. -/
theorem stages_iff (c : Dev nD) (i : grid0.Coords) : stages c i (tbl m 0) ↔ (i 1).val = 0 ∨ te m (i 1) ≠ te m (prev (i 1)) := by
  unfold stages
  rw [either, eq_iff, ne_iff, word_eq m c (i 1) _ _ (off_here i).1, word_eq m c (prev (i 1)) _ _ (off_before i).1]
  exact or_congr_left (tile_zero (i 1))

theorem stages'_iff (c : Dev nD) (i : grid0.Coords) : stages' c i (tbl m 0) ↔ stages c i (tbl m 0) := by
  rw [stages_iff]
  unfold stages'
  rw [either, eq_iff, ne_iff, word_eq m c (i 1) _ _ (off_here i).2, word_eq m c (prev (i 1)) _ _ (off_before i).2]
  exact or_congr_left (tile_zero (i 1))

/-- The body's two cases of the tile's use exclude each other and leave no third. -/
theorem cond4_iff (i : grid0.Coords) (v : BitVec 32) : k0_cond4 i v = 1#1 ↔ ¬k0_cond3 i v = 1#1 := by
  exact (negated _).trans (not_congr (plain _).symm)

theorem cond3_iff (i : grid0.Coords) : k0_cond3 i (nu m) = 1#1 ↔ used m (i 1) := (plain _).trans (tile_lt (i 1) (nu m))

/-- The blocks of weights at a grid point: the tile's expert's, at the point's columns. -/
theorem ix_w1 (i : grid0.Coords) : cc0_transform_1 k0_off1_inb numel1_S1 (tbl m) i = ![0, (te m (i 1)).toNat, 0, (i 0).val] := by
  have h := congrArg BitVec.toNat (word_eq m 0 (i 1) (k0_off1 i) (k0_off1_inb i) (off_here i).1)
  have h0 : (BitVec.ofNat 32 (i 0).val).toNat = (i 0).val := (by decide +kernel : ∀ k : Fin 6, (BitVec.ofNat 32 k.val).toNat = k.val) (i 0)
  rw [← h, ← h0]
  rfl
theorem ix_w3 (i : grid0.Coords) : cc0_transform_2 k0_off1_inb numel1_S1 (tbl m) i = ![0, (te m (i 1)).toNat, 0, (i 0).val] := by
  have h := congrArg BitVec.toNat (word_eq m 0 (i 1) (k0_off1 i) (k0_off1_inb i) (off_here i).1)
  have h0 : (BitVec.ofNat 32 (i 0).val).toNat = (i 0).val := (by decide +kernel : ∀ k : Fin 6, (BitVec.ofNat 32 k.val).toNat = k.val) (i 0)
  rw [← h, ← h0]
  rfl

/-- The grid point's column block and tile. -/
theorem coord0 (t : Fin grid0.N) : (grid0.coords t 0).val = t.val / 72 := by
  have ht : t.val < 432 := Nat.lt_of_lt_of_eq t.isLt N_0
  have e0 : (grid0.coords t 0).val = t.val / 72 % 6 := Pipeline.Grid.coords_val t 0 (by decide) rfl
  omega
theorem coord1 (t : Fin grid0.N) : (grid0.coords t 1).val = t.val % 72 := by
  have e1 : (grid0.coords t 1).val = t.val / 1 % 72 := Pipeline.Grid.coords_val t 1 (by decide) rfl
  omega

/-- The call's demand on the tables: every tile's expert is one of the eight. -/
theorem ok_of (h : ∀ k, (te m k).toNat < 8) : ok0 (F := F) (tbl m) := by
  constructor
  · intro i
    refine ⟨fun a => ?_, Or.inl rfl⟩
    rw [ix_w1]
    have := h (i 1)
    have h0 : (i 0).val < 6 := (i 0).isLt
    fin_cases a
    · simp
    · simp; omega
    · simp
    · simp; omega
  · intro i
    refine ⟨fun a => ?_, Or.inl rfl⟩
    rw [ix_w3]
    have := h (i 1)
    have h0 : (i 0).val < 6 := (i 0).isLt
    fin_cases a
    · simp
    · simp; omega
    · simp
    · simp; omega

theorem te_lt (hO : ok0 (F := F) (tbl m)) (k : Fin 72) : (te m k).toNat < 8 := by
  obtain ⟨h, -⟩ := hO.1 (grid0.coords ⟨k.val, by rw [N_0]; omega⟩)
  have h1 := h 1
  rw [ix_w1] at h1
  have e : (grid0.coords ⟨k.val, by rw [N_0]; omega⟩ 1 : Fin 72) = k := Fin.ext ((coord1 _).trans (by simp))
  rw [e] at h1
  simp at h1
  omega

end Cert.SwigluIdeal.Tiles

end
-- ==== Proof.Swiglu.Blocks.lean ====
/- The windows' blocks of the experts' gated product, read at coordinates of the arrays. -/
module

public import proofs.«01_k».proof.Proof.Swiglu.Words

@[expose] public section

set_option maxRecDepth 16384

noncomputable section

namespace Cert.SwigluIdeal.Tiles

open Cert.SwigluIdeal Cert.SwigluIdeal.Gen
open Idealize.ShloMosaic Idealize.ShloMosaic.TcCoe

variable {F : FTy → Type} [FloatOps F]
variable (m : (ℓ : Loc nD τ sig) → Buf (Elt F) ℓ)

/-- The tables are inside the call's demand. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tile, and the column block, of a point. -/
def tile (t : Fin grid0.N) : Fin 72 := ⟨t.val % 72, Nat.mod_lt _ (by decide)⟩
def cols (t : Fin grid0.N) : Fin 6 := ⟨t.val / 72, by have : t.val < 432 := Nat.lt_of_lt_of_eq t.isLt N_0; omega⟩
theorem coords1 (t : Fin grid0.N) : grid0.coords t 1 = tile t := Fin.ext (coord1 t)
theorem coords0 (t : Fin grid0.N) : grid0.coords t 0 = cols t := Fin.ext (coord0 t)

theorem idx0 (hO : Ok m) (t : Fin (cfgM m hO).N) : ((cfgM m hO).win 0).index t = ![(tile t).val, 0] := by
  have h : (BitVec.ofNat 32 (grid0.coords t 1).val).toNat = (tile t).val := by
    rw [coords1]
    exact Cert.Table.tile_toNat (tile t)
  rw [← h]
  rfl
theorem idx1 (hO : Ok m) (t : Fin (cfgM m hO).N) : ((cfgM m hO).win 1).index t = ![0, (te m (tile t)).toNat, 0, (cols t).val] :=
  (ix_w1 m (grid0.coords t)).trans (by rw [coords1, coords0])
theorem idx2 (hO : Ok m) (t : Fin (cfgM m hO).N) : ((cfgM m hO).win 2).index t = ![0, (te m (tile t)).toNat, 0, (cols t).val] :=
  (ix_w3 m (grid0.coords t)).trans (by rw [coords1, coords0])
theorem idx3 (hO : Ok m) (t : Fin (cfgM m hO).N) : ((cfgM m hO).win 3).index t = ![(tile t).val, (cols t).val] := by
  have h : (BitVec.ofNat 32 (grid0.coords t 1).val).toNat = (tile t).val := by
    rw [coords1]
    exact Cert.Table.tile_toNat (tile t)
  have h' : (BitVec.ofNat 32 (grid0.coords t 0).val).toNat = (cols t).val := by
    rw [coords0]
    exact (by decide +kernel : ∀ k : Fin 6, (BitVec.ofNat 32 k.val).toNat = k.val) (cols t)
  rw [← h, ← h']
  rfl

/-- The rows of the tile. -/
theorem blk0 (hO : Ok m) (c : Dev nD) (t : Fin (cfgM m hO).N) (r : Fin 512) (d : Fin 4096) (R : Fin 36864) (hR : R.val = (tile t).val * 512 + r.val) :
    (iblk m hO c 0 t) (ix2 r d) = m ((c : Thread nD τ).loc main_arg2) (ix2 R d) := by
  blk_ext [iblk, V, idx0 m hO t]

/-- The columns of the first weights of the tile's expert. -/
theorem blk1 (hO : Ok m) (c : Dev nD) (t : Fin (cfgM m hO).N) (d : Fin 4096) (k : Fin 512) (e : Fin 8) (K : Fin 3072)
    (he : e.val = (te m (tile t)).toNat) (hK : K.val = (cols t).val * 512 + k.val) :
    (iblk m hO c 1 t) (ix4 0 0 d k) = m ((c : Thread nD τ).loc main_arg3) (ix4 0 e d K) := by
  blk_ext [iblk, V, idx1 m hO t]

/-- The columns of the second weights of the tile's expert. -/
theorem blk2 (hO : Ok m) (c : Dev nD) (t : Fin (cfgM m hO).N) (d : Fin 4096) (k : Fin 512) (e : Fin 8) (K : Fin 3072)
    (he : e.val = (te m (tile t)).toNat) (hK : K.val = (cols t).val * 512 + k.val) :
    (iblk m hO c 2 t) (ix4 0 0 d k) = m ((c : Thread nD τ).loc main_arg4) (ix4 0 e d K) := by
  blk_ext [iblk, V, idx2 m hO t]

end Cert.SwigluIdeal.Tiles

end
-- ==== Proof.Swiglu.Frame.lean ====
/- The launch of the experts' gated product: what the call leaves, from what each grid point's body leaves. The two weight
   buffers hold, after every point, the rounded weights of that point's expert and columns. -/
module

public import proofs.«01_k».proof.Proof.Swiglu.Blocks
public import Idealize.ShloMosaic.Lib.Claim

@[expose] public section

set_option maxRecDepth 16384

noncomputable section

namespace Cert.SwigluIdeal.Tiles

open Cert.SwigluIdeal Cert.SwigluIdeal.Gen Cert.Table
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 800000 in
/-- The program up to the call: the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_pre (c : Dev nD) (j : Fin 2) : V m c (pre0.ref j) = tbl m j := by
  obtain rfl : c = 0 := Subsingleton.elim _ _; rfl

/-- The tables' halves, table by table. -/
theorem PhiT_eq (c : Dev nD) : (Pipeline.ΦT pre0 (tbl m) c : sProp 𝕄) = iprop(tabAt c tab0 (tbl m 0) ∗ tabAt c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The two weight buffers. -/
abbrev buf1 : Memref sig .tc .vmem S4096x512 .bf16 := Memref.whole cc0_scratch0
abbrev buf3 : Memref sig .tc .vmem S4096x512 .bf16 := Memref.whole cc0_scratch1

theorem PhiA_eq (c : Dev nD) :
    (Pipeline.ΦA spec0 c : sProp 𝕄)
      = iprop(iprop((∃ d, owns (c : Thread nD τ) buf1 fullShare d) ∗ (∃ d, owns (c : Thread nD τ) buf3 fullShare d)) ∗ (∃ r, prngReg c r)) := by
  unfold Pipeline.ΦA; rw [scopedRest0_eq]; simp only [buf1, buf3, owns_whole]; try rfl

/-- The rounded weights of a point. -/
def w1At (hO : Ok m) (c : Dev nD) (t : Fin (cfgM m hO).N) : Vec F S4096x512 .bf16 := k0_pay1 (iblk m hO c 1 t)
def w3At (hO : Ok m) (c : Dev nD) (t : Fin (cfgM m hO).N) : Vec F S4096x512 .bf16 := k0_pay2 (iblk m hO c 2 t)

/-- What a point's body leaves in the output block: the gated product of a tile in use, zero otherwise. -/
def outAt (hO : Ok m) (c : Dev nD) (t : Fin (cfgM m hO).N) : Vec F S512x512 .bf16 :=
  if k0_cond3 (grid0.coords t) (inUse c (tbl m 1)) = 1#1 then k0_pay3 (iblk m hO c 0 t) (w1At m hO c t) (w3At m hO c t) else k0_pay4

/-- Held between two points: the weight buffers at `s` and `s'`, and the tables. -/
def kept (c : Dev nD) (s s' : Vec F S4096x512 .bf16) : sProp 𝕄 :=
  iprop(iprop(iprop(owns (c : Thread nD τ) buf1 fullShare s ∗ owns (c : Thread nD τ) buf3 fullShare s') ∗ (∃ r, prngReg c r)) ∗ Pipeline.ΦT pre0 (tbl m) c)

/-- What is held before the first point, and after each. -/
def Held (hO : Ok m) (c : Dev nD) : (n : ℕ) → n ≤ (cfgM m hO).N → sProp 𝕄
  | 0, _ => iprop(Pipeline.ΦA spec0 c ∗ Pipeline.ΦT pre0 (tbl m) c)
  | n + 1, hn => kept m c (w1At m hO c ⟨n, hn⟩) (w3At m hO c ⟨n, hn⟩)

theorem Held_zero (hO : Ok m) (c : Dev nD) (n : ℕ) (h : n ≤ (cfgM m hO).N) (hz : n = 0) :
    Held m hO c n h = iprop(Pipeline.ΦA spec0 c ∗ Pipeline.ΦT pre0 (tbl m) c) := by
  subst hz; rfl
theorem Held_pos (hO : Ok m) (c : Dev nD) (n : ℕ) (h : n ≤ (cfgM m hO).N) (hz : n ≠ 0) :
    Held m hO c n h = kept m c (w1At m hO c ⟨n - 1, by omega⟩) (w3At m hO c ⟨n - 1, by omega⟩) := by
  cases n with
  | zero => exact absurd rfl hz
  | succ n => rfl

/-- The launch's data: arrays as found; after the body at a point each input's buffer at its block and the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := Held m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Held_castSucc (hO : Ok m) (c : Dev nD) (t : Fin (cfgM m hO).N) :
    (dats m hO 0 c).Φ t.castSucc = Held m hO c t.val (Nat.le_of_lt t.isLt) := by
  dsimp only [dats]; exact Pipeline.Dat.Φ_castSucc (Held m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outAt m hO c t := by dsimp only [dats]; try rfl

/-- Each input's buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Each window's current buffer. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x1x4096x512 .f32 := spec0_1.stage ((cfgM m hO).slots t 1)
abbrev ms2 (hO : Ok m) (t : Fin (cfgM m hO).N) : Memref sig .tc .vmem S1x1x4096x512 .f32 := spec0_2.stage ((cfgM m hO).slots t 2)
abbrev ms3 (hO : Ok m) (t : Fin (cfgM m hO).N) : Memref sig .tc .vmem S512x512 .bf16 := spec0_3.stage ((cfgM m hO).slots t 3)

/-- The body at a point, on the current buffers. -/
abbrev bodyAt (hO : Ok m) (t : Fin (cfgM m hO).N) : Prog (TpuEff nD τ sig (Elt F) Λ₀ .tc) PUnit :=
  cc0_moe_swiglu (grid0.coords t) (Memref.whole main_arg0) (Memref.isWhole_whole _) (Memref.whole main_arg1) (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) (Memref.whole cc0_scratch0) (Memref.isWhole_whole _) (Memref.whole cc0_scratch1) (Memref.isWhole_whole _)

/-- A point's four buffers before its body, with `Φ` held beside them. -/
def bodyPre (hO : Ok m) (c : Dev nD) (t : Fin (cfgM m hO).N) (Φ : sProp 𝕄) : sProp 𝕄 :=
  iprop(Φ ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

/-- A point that does not stage them has the blocks of the point before. -/
theorem blocks_kept (hO : Ok m) (c : Dev nD) (t : Fin (cfgM m hO).N) (hz : t.val ≠ 0) (hs : ¬stages c (grid0.coords t) (tbl m 0)) :
    iblk m hO c 1 ⟨t.val - 1, by omega⟩ = iblk m hO c 1 t ∧ iblk m hO c 2 ⟨t.val - 1, by omega⟩ = iblk m hO c 2 t := by
  rw [stages_iff, coords1] at hs
  have ht : t.val < 432 := Nat.lt_of_lt_of_eq t.isLt N_0
  have h0 : t.val % 72 ≠ 0 := fun h => hs (Or.inl h)
  have he : te m (tile t) = te m (prev (tile t)) := not_not.mp fun h => hs (Or.inr h)
  have hp : tile ⟨t.val - 1, Nat.lt_of_le_of_lt (Nat.sub_le _ _) t.isLt⟩ = prev (tile t) := Fin.ext (by show (t.val - 1) % 72 = t.val % 72 - 1; omega)
  have hc : cols ⟨t.val - 1, Nat.lt_of_le_of_lt (Nat.sub_le _ _) t.isLt⟩ = cols t := Fin.ext (by show (t.val - 1) / 72 = t.val / 72; omega)
  have hl := te_lt m hO (tile t)
  have key : ∀ x : S1x1x4096x512.Idx, ∃ d k, x = ix4 (0 : Fin 1) (0 : Fin 1) d k := fun x =>
    ⟨x 2, x 3, funext fun a => by fin_cases a <;> first | rfl | exact Subsingleton.elim (α := Fin 1) _ _⟩
  constructor <;> funext x <;> obtain ⟨d, k, rfl⟩ := key x
  · rw [blk1 m hO c t d k ⟨_, hl⟩ ⟨(cols t).val * 512 + k.val, by have := (cols t).isLt; omega⟩ rfl rfl]
    exact blk1 m hO c _ d k _ _ (by rw [hp, ← he]) (by rw [hc])
  · rw [blk2 m hO c t d k ⟨_, hl⟩ ⟨(cols t).val * 512 + k.val, by have := (cols t).isLt; omega⟩ rfl rfl]
    exact blk2 m hO c _ d k _ _ (by rw [hp, ← he]) (by rw [hc])

set_option maxHeartbeats 3200000 in
/-- The body at a point, from weight buffers that hold the point's weights unless the body stages them. -/
theorem body_from (hO : Ok m) (c : Dev nD) (t : Fin (cfgM m hO).N) (s s' : Vec F S4096x512 .bf16)
    (hr : (if stages c (grid0.coords t) (tbl m 0) then k0_pay1 (iblk m hO c 1 t) else s) = w1At m hO c t)
    (hr' : (if stages c (grid0.coords t) (tbl m 0) then k0_pay2 (iblk m hO c 2 t) else s') = w3At m hO c t) :
    bodyPre m hO c t (kept m c s s') ⊢ wp frame (wpE (defs₀ (F := F)) Variants.none c none) Set.univ (bodyAt m hO t) (fun _ => bodyPost m hO c t) := by
  unfold bodyPre bodyPost bodyAt
  simp only [before0, before1, before2]
  rw [show (dats m hO 0 c).owesAt () t.succ = (dats m hO 0 c).owesAt () t.castSucc from rfl, after0, after1, after2, after3,
    show (dats m hO 0 c).Φ t.succ = kept m c (w1At m hO c t) (w3At m hO c t) from rfl]
  unfold kept
  rw [PhiT_eq]
  iintro ⟨⟨⟨⟨HS0, HS1⟩, Hg⟩, ⟨HT0, HT1⟩⟩, Ho, ⟨%d0, H0⟩, ⟨%d1, H1⟩, ⟨%d2, H2⟩, ⟨%d3, H3⟩⟩
  iapply (run_body c (grid0.coords t) _ _ _ _ _ _ _ _ _ _ _ _ (iblk m hO c 0 t) (iblk m hO c 1 t) (iblk m hO c 2 t) s s' (tbl m 0) (tbl m 1)
    (stages'_iff m c _) (cond4_iff _ _) Set.univ _ (w1At m hO c t) (w3At m hO c t) hr hr' (outAt m hO c t) rfl)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  isplitl [HT1]; · iexact HT1
  iintro ⟨H0, H1, H2, H3, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  iexact H3

/-- The body at any point: the first stages the weights, a later one has them or stages them. -/
theorem sound_body (hO : Ok m) (c : Dev nD) (t : Fin (cfgM m hO).N) :
    bodyPre m hO c t ((dats m hO 0 c).Φ t.castSucc)
      ⊢ wp frame (wpE (defs₀ (F := F)) Variants.none c none) Set.univ (bodyAt m hO t) (fun _ => bodyPost m hO c t) := by
  rw [Held_castSucc]
  by_cases hz : t.val = 0
  · have hs : stages c (grid0.coords t) (tbl m 0) := (stages_iff m c _).mpr (Or.inl ((coord1 t).trans (by omega)))
    rw [Held_zero m hO c _ _ hz, PhiA_eq]
    have key : ∀ s s', bodyPre m hO c t (kept m c s s') ⊢ wp frame (wpE (defs₀ (F := F)) Variants.none c none) Set.univ (bodyAt m hO t) (fun _ => bodyPost m hO c t) :=
      fun s s' => body_from m hO c t s s' (if_pos hs) (if_pos hs)
    unfold bodyPre kept at key
    unfold bodyPre
    iintro ⟨⟨⟨⟨⟨%s, HS⟩, ⟨%s', HS'⟩⟩, Hg⟩, HT⟩, Hr⟩
    iapply (key s s')
    isplitl [HS HS' Hg HT]
    · isplitl [HS HS' Hg]
      · isplitl [HS HS']
        · isplitl [HS]; · iexact HS
          iexact HS'
        iexact Hg
      iexact HT
    iexact Hr
  · rw [Held_pos m hO c _ _ hz]
    refine body_from m hO c t _ _ ?_ ?_ <;> by_cases hs : stages c (grid0.coords t) (tbl m 0)
    · exact if_pos hs
    · exact (if_neg hs).trans (congrArg k0_pay1 (blocks_kept m hO c t hz hs).1)
    · exact if_pos hs
    · exact (if_neg hs).trans (congrArg k0_pay2 (blocks_kept m hO c t hz hs).2)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- Every point stores its output block. -/
theorem not_idle (hO : Ok m) (t : Fin (cfgM m hO).N) : (cfgM m hO).idle (3 : Fin 4) ((cfgM m hO).grid.coords t) = false := by
  show (!(k0_cond3 (grid0.coords t) _ == 1#1) && !(k0_cond4 (grid0.coords t) _ == 1#1)) = false
  by_cases h : k0_cond3 (grid0.coords t) ((tbl m).atD 1 ![0]) = 1#1
  · simp [h]
  · simp [(cond4_iff _ _).mpr h]

theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  rw [not_idle m hO t]
  exact .rfl

theorem hin (hO : Ok m) (c : Dev nD) : iprop(Pipeline.ΦA spec0 c ∗ Pipeline.ΦT pre0 (tbl m) c) ⊢ (dats m hO 0 c).Φ 0 := by
  rw [show (dats m hO 0 c).Φ 0 = Held m hO c 0 (Nat.zero_le _) from rfl, Held_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 432 := N_0
  rw [show (dats m hO 0 c).Φ (Fin.last (cfgM m hO).N) = Held m hO c (Fin.last (cfgM m hO).N).val (Nat.le_of_lt_succ (Fin.last (cfgM m hO).N).isLt) from rfl,
    Held_pos m hO c _ _ (by rw [Fin.val_last]; omega), PhiA_eq]
  unfold kept
  iintro ⟨⟨⟨HS0, HS1⟩, Hg⟩, HT⟩
  iclear HT
  isplitl [HS0 HS1]
  · isplitl [HS0]
    · iexists _; iexact HS0
    iexists _; iexact HS1
  iexact Hg

-- the launch theorem's implicit arguments are found by unifying its conclusion with this one
set_option backward.isDefEq.respectTransparency.types false in
/-- The launch. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, with what the output array holds. -/
theorem frame_out (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

end Cert.SwigluIdeal.Tiles

end
-- ==== Proof.Swiglu.RefRun.lean ====
/- The reference of the experts' gated product as a list of host operations, run, and the value of its result. -/
module

public import proofs.«01_k».proof.Proof.Gen.SwigluRefIdeal
public import Idealize.ShloMosaic.Lib.StableHlo.Run
public import Idealize.ShloMosaic.Lib.Quiescent

@[expose] public section

set_option maxRecDepth 8192

noncomputable section

namespace Cert.SwigluRefIdeal.Tiles

open Cert.SwigluRefIdeal Cert.SwigluRefIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg2 main_v0 ((extf .f32 · bitsLt_bf16_f32) : (⟨S36864x4096, .bf16⟩ : BufTy).Contents (Elt F) → (⟨S36864x4096, .f32⟩ : BufTy).Contents (Elt F)),
    reshape main_arg3 main_v1 (rfl : (.f32 : EltTy) = .f32) shapeCasts_S1x8x4096x3072_S8x4096x3072,
    binary main_v0 main_v1 main_v2 ((fun l r => Host.dotGeneral dot_S36864x4096_S8x4096x3072_S36864x8x3072_1_1_0_02_n_n none l r) : (⟨S36864x4096, .f32⟩ : BufTy).Contents (Elt F) → (⟨S8x4096x3072, .f32⟩ : BufTy).Contents (Elt F) → (⟨S36864x8x3072, .f32⟩ : BufTy).Contents (Elt F)),
    reshape main_arg4 main_v3 (rfl : (.f32 : EltTy) = .f32) shapeCasts_S1x8x4096x3072_S8x4096x3072,
    binary main_v0 main_v3 main_v4 ((fun l r => Host.dotGeneral dot_S36864x4096_S8x4096x3072_S36864x8x3072_1_1_0_02_n_n none l r) : (⟨S36864x4096, .f32⟩ : BufTy).Contents (Elt F) → (⟨S8x4096x3072, .f32⟩ : BufTy).Contents (Elt F) → (⟨S36864x8x3072, .f32⟩ : BufTy).Contents (Elt F)),
    unary main_v2 main_v5 (Host.negf : (⟨S36864x8x3072, .f32⟩ : BufTy).Contents (Elt F) → (⟨S36864x8x3072, .f32⟩ : BufTy).Contents (Elt F)),
    unary main_v5 main_v6 (Host.exp : (⟨S36864x8x3072, .f32⟩ : BufTy).Contents (Elt F) → (⟨S36864x8x3072, .f32⟩ : BufTy).Contents (Elt F)),
    nullary main_cst (constant S_ .f32 0x3F800000#32),
    unary main_cst main_v7 (broadcastInDim S36864x8x3072 ![] bcast_S_S36864x8x3072 : (⟨S_, .f32⟩ : BufTy).Contents (Elt F) → (⟨S36864x8x3072, .f32⟩ : BufTy).Contents (Elt F)),
    binary main_v7 main_v6 main_v8 (addf : (⟨S36864x8x3072, .f32⟩ : BufTy).Contents (Elt F) → (⟨S36864x8x3072, .f32⟩ : BufTy).Contents (Elt F) → (⟨S36864x8x3072, .f32⟩ : BufTy).Contents (Elt F)),
    nullary main_cst_0 (constant S_ .f32 0x3F800000#32),
    unary main_cst_0 main_v9 (broadcastInDim S36864x8x3072 ![] bcast_S_S36864x8x3072 : (⟨S_, .f32⟩ : BufTy).Contents (Elt F) → (⟨S36864x8x3072, .f32⟩ : BufTy).Contents (Elt F)),
    binary main_v9 main_v8 main_v10 (Host.divf : (⟨S36864x8x3072, .f32⟩ : BufTy).Contents (Elt F) → (⟨S36864x8x3072, .f32⟩ : BufTy).Contents (Elt F) → (⟨S36864x8x3072, .f32⟩ : BufTy).Contents (Elt F)),
    binary main_v2 main_v10 main_v11 (mulf : (⟨S36864x8x3072, .f32⟩ : BufTy).Contents (Elt F) → (⟨S36864x8x3072, .f32⟩ : BufTy).Contents (Elt F) → (⟨S36864x8x3072, .f32⟩ : BufTy).Contents (Elt F)),
    binary main_v11 main_v4 main_v12 (mulf : (⟨S36864x8x3072, .f32⟩ : BufTy).Contents (Elt F) → (⟨S36864x8x3072, .f32⟩ : BufTy).Contents (Elt F) → (⟨S36864x8x3072, .f32⟩ : BufTy).Contents (Elt F)),
    unary main_arg0 main_v13 (broadcastInDim S72x1 ![0] bcast_S72_S72x1_0 : (⟨S72, .i32⟩ : BufTy).Contents (Elt F) → (⟨S72x1, .i32⟩ : BufTy).Contents (Elt F)),
    nullary main_v14 (iotaInDim S8 32 0),
    unary main_v14 main_v15 (broadcastInDim S1x8 ![1] bcast_S8_S1x8_1 : (⟨S8, .i32⟩ : BufTy).Contents (Elt F) → (⟨S1x8, .i32⟩ : BufTy).Contents (Elt F)),
    unary main_v13 main_v16 (broadcastInDim S72x8 ![0, 1] bcast_S72x1_S72x8_0_1 : (⟨S72x1, .i32⟩ : BufTy).Contents (Elt F) → (⟨S72x8, .i32⟩ : BufTy).Contents (Elt F)),
    unary main_v15 main_v17 (broadcastInDim S72x8 ![0, 1] bcast_S1x8_S72x8_0_1 : (⟨S1x8, .i32⟩ : BufTy).Contents (Elt F) → (⟨S72x8, .i32⟩ : BufTy).Contents (Elt F)),
    binary main_v16 main_v17 main_v18 (cmpi .eq : (⟨S72x8, .i32⟩ : BufTy).Contents (Elt F) → (⟨S72x8, .i32⟩ : BufTy).Contents (Elt F) → (⟨S72x8, .i1⟩ : BufTy).Contents (Elt F)),
    nullary main_v19 (iotaInDim S72 32 0),
    unary main_v19 main_v20 (broadcastInDim S72x1 ![0] bcast_S72_S72x1_0 : (⟨S72, .i32⟩ : BufTy).Contents (Elt F) → (⟨S72x1, .i32⟩ : BufTy).Contents (Elt F)),
    reshape main_arg1 main_v21 (rfl : (.i32 : EltTy) = .i32) shapeCasts_S1_S_,
    unary main_v21 main_v22 (broadcastInDim S72x1 ![] bcast_S_S72x1 : (⟨S_, .i32⟩ : BufTy).Contents (Elt F) → (⟨S72x1, .i32⟩ : BufTy).Contents (Elt F)),
    binary main_v20 main_v22 main_v23 (cmpi .slt : (⟨S72x1, .i32⟩ : BufTy).Contents (Elt F) → (⟨S72x1, .i32⟩ : BufTy).Contents (Elt F) → (⟨S72x1, .i1⟩ : BufTy).Contents (Elt F)),
    unary main_v23 main_v24 (broadcastInDim S72x8 ![0, 1] bcast_S72x1_S72x8_0_1 : (⟨S72x1, .i1⟩ : BufTy).Contents (Elt F) → (⟨S72x8, .i1⟩ : BufTy).Contents (Elt F)),
    binary main_v18 main_v24 main_v25 (andi : (⟨S72x8, .i1⟩ : BufTy).Contents (Elt F) → (⟨S72x8, .i1⟩ : BufTy).Contents (Elt F) → (⟨S72x8, .i1⟩ : BufTy).Contents (Elt F)),
    unary main_v25 main_v26 (broadcastInDim S72x1x8 ![0, 2] bcast_S72x8_S72x1x8_0_2 : (⟨S72x8, .i1⟩ : BufTy).Contents (Elt F) → (⟨S72x1x8, .i1⟩ : BufTy).Contents (Elt F)),
    unary main_v26 main_v27 (broadcastInDim S72x512x8 ![0, 1, 2] bcast_S72x1x8_S72x512x8_0_1_2 : (⟨S72x1x8, .i1⟩ : BufTy).Contents (Elt F) → (⟨S72x512x8, .i1⟩ : BufTy).Contents (Elt F)),
    reshape main_v27 main_v28 (rfl : (.i1 : EltTy) = .i1) shapeCasts_S72x512x8_S36864x8,
    unary main_v28 main_v29 (broadcastInDim S36864x8x1 ![0, 1] bcast_S36864x8_S36864x8x1_0_1 : (⟨S36864x8, .i1⟩ : BufTy).Contents (Elt F) → (⟨S36864x8x1, .i1⟩ : BufTy).Contents (Elt F)),
    unary main_v29 main_v30 (broadcastInDim S36864x8x3072 ![0, 1, 2] bcast_S36864x8x1_S36864x8x3072_0_1_2 : (⟨S36864x8x1, .i1⟩ : BufTy).Contents (Elt F) → (⟨S36864x8x3072, .i1⟩ : BufTy).Contents (Elt F)),
    nullary main_cst_1 (constant S_ .f32 0x00000000#32),
    unary main_cst_1 main_v31 (broadcastInDim S36864x8x3072 ![] bcast_S_S36864x8x3072 : (⟨S_, .f32⟩ : BufTy).Contents (Elt F) → (⟨S36864x8x3072, .f32⟩ : BufTy).Contents (Elt F)),
    ternary main_v30 main_v12 main_v31 main_v32 (select : (⟨S36864x8x3072, .i1⟩ : BufTy).Contents (Elt F) → (⟨S36864x8x3072, .f32⟩ : BufTy).Contents (Elt F) → (⟨S36864x8x3072, .f32⟩ : BufTy).Contents (Elt F) → (⟨S36864x8x3072, .f32⟩ : BufTy).Contents (Elt F)),
    nullary main_cst_2 (constant S_ .f32 0x00000000#32),
    binary main_v32 main_cst_2 main_v33 ((fun x v => Host.reduceAdd x v reducesTo_S36864x8x3072_S36864x3072_d1 h_S_) : (⟨S36864x8x3072, .f32⟩ : BufTy).Contents (Elt F) → (⟨S_, .f32⟩ : BufTy).Contents (Elt F) → (⟨S36864x3072, .f32⟩ : BufTy).Contents (Elt F)),
    unary main_v33 main_v34 ((truncf .bf16 · bitsLt_bf16_f32) : (⟨S36864x3072, .f32⟩ : BufTy).Contents (Elt F) → (⟨S36864x3072, .bf16⟩ : BufTy).Contents (Elt F)) ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., unary_bufs_sub .., unary_bufs_sub .., binary_bufs_sub .., nullary_bufs_sub .., unary_bufs_sub .., reshape_bufs_sub .., unary_bufs_sub .., binary_bufs_sub .., unary_bufs_sub .., binary_bufs_sub .., unary_bufs_sub .., unary_bufs_sub .., reshape_bufs_sub .., unary_bufs_sub .., unary_bufs_sub .., nullary_bufs_sub .., unary_bufs_sub .., ternary_bufs_sub .., nullary_bufs_sub .., binary_bufs_sub .., unary_bufs_sub ..⟩

/-- Every row times every expert's weights. -/
def prod (X : FVec F S36864x4096 .bf16) (W : FVec F S1x8x4096x3072 .f32) : FVec F S36864x8x3072 .f32 :=
  Host.dotGeneral dot_S36864x4096_S8x4096x3072_S36864x8x3072_1_1_0_02_n_n none (extf .f32 X bitsLt_bf16_f32)
    (shapeCast _ W shapeCasts_S1x8x4096x3072_S8x4096x3072)

/-- The activation `a * logistic a`. -/
def act (a : FVec F S36864x8x3072 .f32) : FVec F S36864x8x3072 .f32 :=
  mulf a (Host.divf (broadcastInDim S36864x8x3072 ![] bcast_S_S36864x8x3072 (constant S_ .f32 0x3F800000#32))
    (addf (broadcastInDim S36864x8x3072 ![] bcast_S_S36864x8x3072 (constant S_ .f32 0x3F800000#32)) (Host.exp (Host.negf a))))

/-- Which expert each tile takes, in tiles in use. -/
def perTile (T : IVec S72 32) (N : IVec S1 32) : IVec S72x8 1 :=
  andi (cmpi .eq (broadcastInDim S72x8 ![0, 1] bcast_S72x1_S72x8_0_1 (broadcastInDim S72x1 ![0] bcast_S72_S72x1_0 T))
      (broadcastInDim S72x8 ![0, 1] bcast_S1x8_S72x8_0_1 (broadcastInDim S1x8 ![1] bcast_S8_S1x8_1 (iotaInDim S8 32 0))))
    (broadcastInDim S72x8 ![0, 1] bcast_S72x1_S72x8_0_1 (cmpi .slt (broadcastInDim S72x1 ![0] bcast_S72_S72x1_0 (iotaInDim S72 32 0))
      (broadcastInDim S72x1 ![] bcast_S_S72x1 (shapeCast _ N shapeCasts_S1_S_))))

/-- The same for every row of the tile. -/
def perRow (M : IVec S72x8 1) : IVec S36864x8 1 :=
  shapeCast _ (broadcastInDim S72x512x8 ![0, 1, 2] bcast_S72x1x8_S72x512x8_0_1_2 (broadcastInDim S72x1x8 ![0, 2] bcast_S72x8_S72x1x8_0_2 M)) shapeCasts_S72x512x8_S36864x8

/-- The chosen expert's value, by a sum over the experts with the others at zero. -/
def pick (M : IVec S36864x8 1) (y : FVec F S36864x8x3072 .f32) : FVec F S36864x3072 .f32 :=
  Host.reduceAdd (select (broadcastInDim S36864x8x3072 ![0, 1, 2] bcast_S36864x8x1_S36864x8x3072_0_1_2
      (broadcastInDim S36864x8x1 ![0, 1] bcast_S36864x8_S36864x8x1_0_1 M)) y (broadcastInDim S36864x8x3072 ![] bcast_S_S36864x8x3072 (constant S_ .f32 0x00000000#32)))
    (constant S_ .f32 0x00000000#32) reducesTo_S36864x8x3072_S36864x3072_d1 h_S_

/-- The result, of the arguments. -/
def out (T : IVec S72 32) (N : IVec S1 32) (X : FVec F S36864x4096 .bf16) (W1 W3 : FVec F S1x8x4096x3072 .f32) : FVec F S36864x3072 .bf16 :=
  truncf .bf16 (pick (perRow (perTile T N)) (mulf (act (prod X W1)) (prod X W3))) bitsLt_bf16_f32

set_option maxHeartbeats 32800000 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v34).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.SwigluRefIdeal.Tiles

end
-- ==== Proof.Swiglu.Ref.lean ====
/- The reference's result, element by element over the extended reals: a row's tile chooses the expert. -/
module

public import proofs.«01_k».proof.Proof.Swiglu.RefRun
public import proofs.«01_k».proof.Proof.Table
public import Idealize.ShloMosaic.Lib.Pointwise

@[expose] public section

set_option maxRecDepth 8192

noncomputable section

namespace Cert.SwigluRefIdeal.Tiles

open Idealize Idealize.ShloMosaic Idealize.ShloMosaic.TcCoe Cert.SwigluRefIdeal Cert.SwigluRefIdeal.Gen Cert.Table

theorem prod_at (X : FVec Ideal S36864x4096 .bf16) (W : FVec Ideal S1x8x4096x3072 .f32) (R : Fin 36864) (e : Fin 8) (K : Fin 3072) :
    prod X W (ix3 R e K) = ∑ d : Fin 4096, X (ix2 R d) * W (ix4 0 e d K) := by
  pointwise [prod]

theorem act_at (a : FVec Ideal S36864x8x3072 .f32) (R : Fin 36864) (e : Fin 8) (K : Fin 3072) :
    act a (ix3 R e K) = a (ix3 R e K) * Ideal.logistic (a (ix3 R e K)) := by
  pointwise [act]
  rfl

theorem perTile_at (T : IVec S72 32) (N : IVec S1 32) (t : Fin 72) (e : Fin 8) :
    perTile T N (ix2 t e) = IntOp.andi (IntOp.cmpi .eq (T (ix1 t)) (BitVec.ofNat 32 e.val)) (IntOp.cmpi .slt (BitVec.ofNat 32 t.val) (N (ix1 0))) := by
  pointwise [perTile]

theorem perRow_at (M : IVec S72x8 1) (R : Fin 36864) (e : Fin 8) :
    perRow M (ix2 R e) = M (ix2 (tileOf R) e) := by
  pointwise [perRow]
  rfl

theorem pick_at (M : IVec S36864x8 1) (y : FVec Ideal S36864x8x3072 .f32) (R : Fin 36864) (K : Fin 3072) :
    pick M y (ix2 R K) = ∑ e : Fin 8, if M (ix2 R e) = 1#1 then y (ix3 R e K) else 0 := by
  pointwise [pick]
  rfl

/-- `a * logistic a * b`. -/
def gated (a b : EReal) : EReal := a * Ideal.logistic a * b

/-- The expert of a row: its tile's. -/
def expert (T : IVec S72 32) (R : Fin 36864) : Fin 8 := ⟨(T (ix1 (tileOf R))).toNat % 8, Nat.mod_lt _ (by decide)⟩

/-- A row of the result: the gated product by the row's expert in a tile in use, zero otherwise. -/
def chosen (T : IVec S72 32) (N : IVec S1 32) (X : FVec Ideal S36864x4096 .bf16) (W1 W3 : FVec Ideal S1x8x4096x3072 .f32) (R : Fin 36864) (K : Fin 3072) : EReal :=
  if ((tileOf R).val : ℤ) < (N (ix1 0)).toInt then
    gated (∑ d : Fin 4096, X (ix2 R d) * W1 (ix4 0 (expert T R) d K)) (∑ d : Fin 4096, X (ix2 R d) * W3 (ix4 0 (expert T R) d K))
  else 0

/-- The reference's selection, as a proposition. -/
theorem perTile_iff (T : IVec S72 32) (N : IVec S1 32) (t : Fin 72) (e : Fin 8) :
    perTile T N (ix2 t e) = 1#1 ↔ (T (ix1 t)).toNat = e.val ∧ (t.val : ℤ) < (N (ix1 0)).toInt := by
  rw [perTile_at, both]
  refine and_congr ?_ (tile_lt t _)
  exact (eq_iff _ _).trans (by rw [← BitVec.toNat_inj, small_toNat])

/-- A sum over the experts, those not a row's own at zero, is the row's own in a tile in use and zero in another. -/
theorem sum_own (T : IVec S72 32) (N : IVec S1 32) (hT : ∀ t, (T (ix1 t)).toNat < 8) (R : Fin 36864) (y : Fin 8 → EReal) :
    (∑ e : Fin 8, if perRow (perTile T N) (ix2 R e) = 1#1 then y e else 0)
      = if ((tileOf R).val : ℤ) < (N (ix1 0)).toInt then y (expert T R) else 0 := by
  have hm : ∀ e, perRow (perTile T N) (ix2 R e) = 1#1 ↔ (T (ix1 (tileOf R))).toNat = e.val ∧ ((tileOf R).val : ℤ) < (N (ix1 0)).toInt :=
    fun e => by rw [perRow_at, perTile_iff]
  have hx : (expert T R).val = (T (ix1 (tileOf R))).toNat := Nat.mod_eq_of_lt (hT _)
  by_cases hu : ((tileOf R).val : ℤ) < (N (ix1 0)).toInt
  · rw [if_pos hu, Finset.sum_eq_single (expert T R)]
    · exact if_pos ((hm _).mpr ⟨hx.symm, hu⟩)
    · exact fun e _ hne => if_neg fun h => hne (Fin.ext (((hm e).mp h).1.symm.trans hx.symm))
    · exact fun h => absurd (Finset.mem_univ _) h
  · rw [if_neg hu]
    exact Finset.sum_eq_zero fun e _ => if_neg fun h => hu ((hm e).mp h).2

/-- The reference's result. -/
theorem out_at (T : IVec S72 32) (N : IVec S1 32) (X : FVec Ideal S36864x4096 .bf16) (W1 W3 : FVec Ideal S1x8x4096x3072 .f32)
    (hT : ∀ t, (T (ix1 t)).toNat < 8) (R : Fin 36864) (K : Fin 3072) :
    out T N X W1 W3 (ix2 R K) = chosen T N X W1 W3 R K := by
  have h : out T N X W1 W3 (ix2 R K) = pick (perRow (perTile T N)) (mulf (act (prod X W1)) (prod X W3)) (ix2 R K) := rfl
  rw [h, pick_at, sum_own T N hT]
  unfold chosen
  rw [← prod_at, ← prod_at]
  show (if _ then act (prod X W1) (ix3 R (expert T R) K) * prod X W3 (ix3 R (expert T R) K) else 0) = _
  rw [act_at]
  rfl

end Cert.SwigluRefIdeal.Tiles

end
-- ==== Proof.Swiglu.Tile.lean ====
/- The block a grid point's body leaves, over the extended reals, element by element, and the array they make up. -/
module

public import proofs.«01_k».proof.Proof.Swiglu.Frame
public import proofs.«01_k».proof.Proof.Swiglu.Ref
public import Idealize.ShloMosaic.Lib.Pointwise
public import Idealize.ShloMosaic.Lib.Pipeline.Value
public import Idealize.ShloMosaic.Lib.Pipeline.Covers

@[expose] public section

set_option maxRecDepth 16384

noncomputable section

namespace Cert.SwigluIdeal.Tiles

open Idealize Idealize.ShloMosaic Idealize.ShloMosaic.TcCoe Idealize.ShloMosaic.View Cert.SwigluIdeal Cert.SwigluIdeal.Gen
open Idealize.ShloMosaic.Pipeline (Dat)
open Cert.SwigluRefIdeal.Tiles (gated chosen expert)
open Cert.Table (tileOf)

theorem w1_at (W : Vec Ideal S1x1x4096x512 .f32) (d : Fin 4096) (k : Fin 512) : k0_pay1 W (ix2 d k) = W (ix4 0 0 d k) := by
  pointwise [k0_pay1]
theorem w3_at (W : Vec Ideal S1x1x4096x512 .f32) (d : Fin 4096) (k : Fin 512) : k0_pay2 W (ix2 d k) = W (ix4 0 0 d k) := by
  pointwise [k0_pay2]
theorem pay3_at (X : Vec Ideal S512x4096 .bf16) (A B : Vec Ideal S4096x512 .bf16) (r k : Fin 512) :
    k0_pay3 X A B (ix2 r k) = gated (∑ d, X (ix2 r d) * A (ix2 d k)) (∑ d, X (ix2 r d) * B (ix2 d k)) := by
  unfold gated
  pointwise [k0_pay3]
theorem pay4_at (r k : Fin 512) : (k0_pay4 (F := Ideal)) (ix2 r k) = 0 := by
  pointwise [k0_pay4]

variable (m : (ℓ : Loc nD τ sig) → Buf (Elt Ideal) ℓ) (c : Dev nD)

/-- One element of the block a point leaves. -/
theorem point (hO : Ok m) (t : Fin (cfgM m hO).N) (r k : Fin 512) (R : Fin 36864) (K : Fin 3072)
    (hR : R.val = (tile t).val * 512 + r.val) (hK : K.val = (cols t).val * 512 + k.val) :
    outAt m hO c t (ix2 r k)
      = chosen (m ((c : Thread nD τ).loc main_arg0)) (m ((c : Thread nD τ).loc main_arg1)) (m ((c : Thread nD τ).loc main_arg2))
          (m ((c : Thread nD τ).loc main_arg3)) (m ((c : Thread nD τ).loc main_arg4)) R K := by
  obtain rfl : c = 0 := Subsingleton.elim _ _
  have hT : tileOf R = tile t := Fin.ext (by show R.val / 512 = (tile t).val; omega)
  have he : (expert (m (((0 : Dev nD) : Thread nD τ).loc main_arg0)) R).val = (te m (tile t)).toNat := by
    show (te m (tileOf R)).toNat % 8 = _
    rw [hT]
    exact Nat.mod_eq_of_lt (te_lt m hO _)
  have hc : k0_cond3 (grid0.coords t) (inUse 0 (tbl m 1)) = 1#1 ↔ ((tileOf R).val : ℤ) < (nu m).toInt := by
    rw [inUse_eq, cond3_iff, coords1, hT]
    rfl
  unfold outAt chosen
  by_cases hu : k0_cond3 (grid0.coords t) (inUse 0 (tbl m 1)) = 1#1
  · rw [if_pos hu]
    refine (pay3_at _ _ _ r k).trans (Eq.trans ?_ (if_pos (hc.mp hu)).symm)
    refine congrArg₂ gated (Finset.sum_congr rfl fun d _ => congrArg₂ (· * ·) (blk0 m hO 0 t r d R hR) ?_)
      (Finset.sum_congr rfl fun d _ => congrArg₂ (· * ·) (blk0 m hO 0 t r d R hR) ?_)
    · exact (w1_at _ d k).trans (blk1 m hO 0 t d k _ K he hK)
    · exact (w3_at _ d k).trans (blk2 m hO 0 t d k _ K he hK)
  · rw [if_neg hu]
    exact (pay4_at r k).trans (if_neg fun h => hu (hc.mpr h)).symm

/-- Every block of the result is some point's. -/
theorem covers (hO : Ok m) : ((cfgM m hO).win 3).Covers := by
  refine Pipeline.Window.covers_of_index_surj _ rfl (fun a => by fin_cases a <;> exact Nat.zero_lt_succ _) fun β => ?_
  have h0 : (β (0 : Fin 2)).val < 72 := Nat.lt_of_lt_of_eq (β (0 : Fin 2)).isLt (by show (36864 + 512 - 1) / 512 = 72; rfl)
  have h1 : (β (1 : Fin 2)).val < 6 := Nat.lt_of_lt_of_eq (β (1 : Fin 2)).isLt (by show (3072 + 512 - 1) / 512 = 6; rfl)
  refine ⟨⟨(β (1 : Fin 2)).val * 72 + (β (0 : Fin 2)).val, Nat.lt_of_lt_of_eq (by omega) N_0.symm⟩, fun a => ?_⟩
  rw [idx3]
  fin_cases a
  · show ((β (1 : Fin 2)).val * 72 + (β (0 : Fin 2)).val) % 72 = (β (0 : Fin 2)).val
    omega
  · show ((β (1 : Fin 2)).val * 72 + (β (0 : Fin 2)).val) / 72 = (β (1 : Fin 2)).val
    omega

/-- The result array after the run. -/
theorem final (hO : Ok m) :
    (dats m hO 0 c).arrAt 3 (cfgM m hO).N
      = fun y : S36864x3072.Idx => chosen (m ((c : Thread nD τ).loc main_arg0)) (m ((c : Thread nD τ).loc main_arg1)) (m ((c : Thread nD τ).loc main_arg2))
          (m ((c : Thread nD τ).loc main_arg3)) (m ((c : Thread nD τ).loc main_arg4)) (y 0) (y 1) := by
  obtain rfl : c = 0 := Subsingleton.elim _ _
  refine (dats m hO 0 0).arrAt_eq_of_covers 3 _ (covers m hO) fun t _ (y : S512x512.Idx) => ?_
  blk_simp
  rw [after3]
  have hy : y = ix2 (y 0) (y 1) := funext fun a => by fin_cases a <;> rfl
  have h0 : (y 0).val < 512 := (y 0).isLt
  have h1 : (y 1).val < 512 := (y 1).isLt
  have ht : (tile t).val < 72 := (tile t).isLt
  have hj : (cols t).val < 6 := (cols t).isLt
  refine ((congrArg (outAt m hO 0 t) hy).trans (point m 0 hO t (y 0) (y 1) ⟨(tile t).val * 512 + (y 0).val, ?_⟩ ⟨(cols t).val * 512 + (y 1).val, ?_⟩ rfl rfl)).trans ?_
  · omega
  · omega
  · refine congrArg (fun i : S36864x3072.Idx => chosen (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (i 0) (i 1))
      (?_ : ix2 (⟨(tile t).val * 512 + (y 0).val, _⟩ : Fin 36864) (⟨(cols t).val * 512 + (y 1).val, _⟩ : Fin 3072) = (((cfgM m hO).win 3).blk t).view.emb y)
    blk_ext [idx3 m hO t]

end Cert.SwigluIdeal.Tiles

end
-- ==== Proof.Swiglu.Claims.lean ====
/- The claims of the experts' gated product: the frames of the kernel at both readings of its floats, the reference's
   frame, and that over the extended reals both leave the same array. -/
module

public import proofs.«01_k».proof.Defs
public import proofs.«01_k».proof.Proof.Table
public import proofs.«01_k».proof.Proof.Swiglu.Tile
public import proofs.«01_k».proof.Proof.Gen.Swiglu
public import proofs.«01_k».proof.Proof.Gen.Pre_experts2
public import Idealize.ShloMosaic.Lib.Quiescent

@[expose] public section

set_option maxRecDepth 16384

noncomputable section

namespace Cert.Proof.Swiglu

open Idealize Idealize.ShloMosaic Idealize.ShloMosaic.TcCoe Idealize.SL.Sem Cert.SwigluIdeal.Tiles

attribute [local instance] Cert.Swiglu.Gen.facts Cert.SwigluIdeal.Gen.facts Cert.SwigluRefIdeal.Gen.facts Cert.Pre_experts2.Gen.facts

variable {F : FTy → Type} [FloatOps F]

/-- The condition on the arguments, read at one word of the table. -/
theorem table_lt (T : IVec Cert.Pre_experts2.S72 32) (N : IVec Cert.Pre_experts2.S1 32) (X : FVec F Cert.Pre_experts2.S36864x4096 .bf16)
    (W1 W3 : FVec F Cert.Pre_experts2.S1x8x4096x3072 .f32)
    (h : (Cert.Pre_experts2.fn T N X W1 W3).1 = (fun _ => 1#1) ∧ (Cert.Pre_experts2.fn T N X W1 W3).2 = (fun _ => 1#1)) (k : Fin 72) :
    (T (ix1 k)).toNat < 8 :=
  Cert.Table.lt_eight _ (congrFun h.1 (ix1 k)) (congrFun h.2 (ix1 k))

/-- The kernel, at either reading of its floats, from a table of experts. -/
theorem frame_of (m : (ℓ : Loc Cert.SwigluIdeal.nD Cert.SwigluIdeal.τ Cert.SwigluIdeal.sig) → Buf (Elt F) ℓ) (ρ : Dev Cert.SwigluIdeal.nD → PrngReg)
    (hO : Ok m) :
    θ_run (Cert.SwigluIdeal.defs (F := F)) (onTc (τ := Cert.SwigluIdeal.τ) (Cert.SwigluIdeal.main (F := F))) ⟨m, fun _ => 0, ρ⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0) :=
  (θ_run Cert.SwigluIdeal.defs _ _).mono (fun _ h => ⟨fun c => (h.1 c).2, h.2⟩) (frame_out m ρ hO)

/-- The kernel over the extended reals. -/
theorem frame_ideal : Cert.quiescent_SwigluIdeal := fun m ρ hp =>
  frame_of m ρ (ok_of m fun k => table_lt _ _ _ _ _ (hp 0) k)

/-- The two readings have the same functions. -/
theorem kernels_eq : (Cert.Swiglu.defs₀ (F := F)) = Cert.SwigluIdeal.defs₀ := by
  unfold Cert.Swiglu.defs₀ Cert.SwigluIdeal.defs₀
  refine congrArg Defs.onTc (funext fun l => funext fun x => ?_)
  obtain rfl : l = 0 := Subsingleton.elim _ _
  with_unfolding_all rfl
theorem defs_eq : (Cert.Swiglu.defs (F := F)) = Cert.SwigluIdeal.defs := by
  with_unfolding_all exact congrArg (Pipeline.defs Cert.SwigluIdeal.pcfgs) kernels_eq

/-- The kernel over the floats' bits: the same program, so the same run. -/
theorem frame_bits : Cert.quiescent_Swiglu := fun m ρ hp => by
  have h := frame_of (F := Bits) m ρ (ok_of (F := Bits) m fun k => table_lt _ _ _ _ _ (hp 0) k)
  rw [defs_eq]
  with_unfolding_all exact h

/-- The reference runs to the end and keeps its arguments; it has no semaphores. -/
theorem frame_ref : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Tiles.run m ρ)
theorem frame_ref_experts2 : Cert.quiescent_SwigluRefIdeal_pre_experts2 := fun m ρ _ =>
  frame_ref m ρ trivial

/-- Over the extended reals the kernel's array is the reference's. -/
theorem algebraic : Cert.algebraic_SwigluIdeal_SwigluRefIdeal := by
  intro m g m' g' hp hagree
  have hT : ∀ k, (te m k).toNat < 8 := fun k => table_lt _ _ _ _ _ (hp 0) k
  have hO : Ok m := ok_of m hT
  refine ⟨_, (θ_run Cert.SwigluIdeal.defs _ _).mono (fun _ h => h.1) (frame_out m g hO), ?_⟩
  refine (θ_run Cert.SwigluRefIdeal.defs _ _).mono (fun _ h c => ⟨(h c).1.trans ?_, (h c).2⟩) (Cert.SwigluRefIdeal.Tiles.run m' g')
  obtain rfl : c = 0 := Subsingleton.elim _ _
  rw [(hagree 0).1, (hagree 0).2.1, (hagree 0).2.2.1, (hagree 0).2.2.2.1, (hagree 0).2.2.2.2]
  refine Eq.trans (funext fun y => ?_) (final m 0 hO).symm
  have hy : y = ix2 (y 0) (y 1) := funext fun a => by fin_cases a <;> rfl
  exact (congrArg _ hy).trans (Cert.SwigluRefIdeal.Tiles.out_at _ _ _ _ _ hT (y 0) (y 1))

end Cert.Proof.Swiglu

end
-- ==== Proof.Down.Run.lean ====
/- One grid point of the experts' second product, run: what its stores leave in the weight buffer and in the output block,
   for any contents of the two tables. -/
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DownIdeal.Tiles

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables, as the body is handed them: the expert of each tile, and the number of tiles in use. -/
abbrev tab0 : Memref sig .tc .smem S72 .i32 := Memref.whole main_arg0
abbrev tab1 : Memref sig .tc .smem S1 .i32 := Memref.whole main_arg1

/-- A table held at half the full share: the body only reads it. -/
abbrev Tab (c : Dev nD) {S : Shape} {e : EltTy} (M : Memref sig .tc .smem S e) : Type := Buf (Elt F) (M.view.loc (c : Thread nD τ))
abbrev tabAt (c : Dev nD) {S : Shape} {e : EltTy} (M : Memref sig .tc .smem S e) (f : Tab (F := F) c M) : sProp 𝕄 :=
  M.view.loc (c : Thread nD τ) ↦{fullShare.right} f

/-- The word of the experts' table that a load of one word reads. -/
abbrev word (c : Dev nD) (T : Tab (F := F) c tab0) (off : Fin 1 → ℕ) (h : ∀ a, off a + S1.size a ≤ S72.size a) : BitVec 32 :=
  View.readAt (Elt F) tab0.view (Rect.unit (s := S72) off S1.size h).toLoadRect T (Shape.Idx.first (numel1_S1.symm ▸ Nat.one_pos))

/-- The number of tiles in use, as the body loads it. -/
abbrev inUse (c : Dev nD) (T : Tab (F := F) c tab1) : BitVec 32 :=
  View.readAt (Elt F) tab1.view (Rect.unit (s := S1) ![0] S1.size inb_S1_S1_0).toLoadRect T (Shape.Idx.first (numel1_S1.symm ▸ Nat.one_pos))

/-- The body stages the weights: the first tile, or a tile of another expert than the tile before. -/
abbrev stages (c : Dev nD) (i : grid0.Coords) (T : Tab (F := F) c tab0) : Prop :=
  (Scalar.cmpi .ne (Scalar.extui (Scalar.ori (Scalar.cmpi .eq (BitVec.ofNat 32 (i 1).val) 0#32)
    (Scalar.cmpi .ne (word c T (k0_off1 i) (k0_off1_inb i)) (word c T (k0_off2 i) (k0_off2_inb i))))) 0#32) = 1#1

/-- The rewriting that takes a whole block's store and load away. -/
theorem read_store {sp : Space} {S : Shape} {e : EltTy} (v : View sig .tc sp S e) (f : v.ty.Contents (Elt F)) {off : Fin S.rank → ℕ}
    (h : ∀ a, off a = 0) (inb : ∀ a, off a + S.size a ≤ S.size a) (w : S.Idx → Elt F e) :
    v.read (Elt F) (v.writes (Elt F) f [⟨Rect.unit off (no_index S.size) inb, w⟩]) = w := by
  obtain rfl : off = fun _ => 0 := funext h
  exact View.read_writes_full v f inb w []

set_option maxHeartbeats 8000000 in
open Classical in
/-- The body at one grid point, from any contents of the weight buffer: the buffer holds the rounded block of weights where
    the body stages it and is as it was elsewhere; the output block holds the product of the tile's rows with what the
    buffer then holds, or zeros past the tiles in use. -/
theorem run_body (c : Dev nD) (i : grid0.Coords) (arg4 : Memref sig .tc .vmem S512x3072 .bf16) (harg4 : arg4.IsWhole) (arg5 : Memref sig .tc .vmem S1x1x3072x1024 .f32) (harg5 : arg5.IsWhole)
    (arg6 : Memref sig .tc .vmem S512x1024 .f32) (harg6 : arg6.IsWhole) (arg7 : Memref sig .tc .vmem S3072x1024 .bf16) (harg7 : arg7.IsWhole)
    (x0 : Vec F S512x3072 .bf16) (x1 : Vec F S1x1x3072x1024 .f32) (s0 : Vec F S3072x1024 .bf16) (T0 : Tab (F := F) c tab0) (T1 : Tab (F := F) c tab1)
    (hu : k0_cond3 i (inUse c T1) = 1#1 ↔ ¬k0_cond2 i (inUse c T1) = 1#1) (E : Set ℕ) (K : PUnit → sProp 𝕄)
    (r0 : Vec F S3072x1024 .bf16) (hr0 : (if stages c i T0 then k0_pay1 x1 else s0) = r0)
    (o : Vec F S512x1024 .f32) (ho : (if k0_cond2 i (inUse c T1) = 1#1 then k0_pay2 x0 r0 else k0_pay3 (F := F)) = o) :
    iprop(owns (c : Thread nD τ) arg4 fullShare x0 ∗ owns (c : Thread nD τ) arg5 fullShare x1
        ∗ (∃ d, owns (c : Thread nD τ) arg6 fullShare d) ∗ owns (c : Thread nD τ) arg7 fullShare s0 ∗ tabAt c tab0 T0 ∗ tabAt c tab1 T1
        ∗ (iprop(owns (c : Thread nD τ) arg4 fullShare x0 ∗ owns (c : Thread nD τ) arg5 fullShare x1
            ∗ owns (c : Thread nD τ) arg6 fullShare o ∗ owns (c : Thread nD τ) arg7 fullShare r0 ∗ tabAt c tab0 T0 ∗ tabAt c tab1 T1) -∗ K ⟨⟩))
      ⊢ wp frame (wpE (defs₀ (F := F)) Variants.none c none) E
          (cc0_moe_down i tab0 (Memref.isWhole_whole _) tab1 (Memref.isWhole_whole _) arg4 harg4 arg5 harg5 arg6 harg6 arg7 harg7) K := by
  simp only [cc0_moe_down_eq_skeleton]; unfold cc0_moe_down_skel
  unfold owns
  iintro ⟨⟨%f0, %hf0, H0⟩, ⟨%f1, %hf1, H1⟩, ⟨%d2, %f2, -, H2⟩, ⟨%g0, %hg0, HS⟩, HT0, HT1, Hk⟩
  obtain rfl := harg4.eq_unread hf0; obtain rfl := harg5.eq_unread hf1; obtain rfl := harg7.eq_unread hg0
  by_cases h1 : stages c i T0 <;> by_cases h2 : k0_cond2 i (inUse c T1) = 1#1
  all_goals
    first | rw [if_pos h1] at hr0 | rw [if_neg h1] at hr0
    first | rw [if_pos h2] at ho | rw [if_neg h2] at ho
    subst hr0 ho
    first | have h3 := hu.mpr h2 | have h3 := fun h => hu.mp h h2
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap; · iexact H2
      ipureintro
      frame_open
      simp (disch := decide) only [read_store, View.ld_unit_lit', View.readCov_unit_lit', View.readAt_eq_ld, Memref.IsWhole.read_unread]
    isplitl [HS]
    · iexists _; isplitr; swap; · iexact HS
      ipureintro
      frame_open
      simp (disch := decide) only [read_store, View.ld_unit_lit', View.readCov_unit_lit', View.readAt_eq_ld, Memref.IsWhole.read_unread]
    isplitl [HT0]; · iexact HT0
    iexact HT1

end Cert.DownIdeal.Tiles

end
-- ==== Proof.Down.Words.lean ====
/- What the experts' table and the count of tiles in use decide at a grid point: which blocks of weights the windows are
   on, where the body stages them, and whether the tile is in use. -/
module

public import proofs.«01_k».proof.Proof.Down.Run
public import proofs.«01_k».proof.Proof.Table

@[expose] public section

set_option maxRecDepth 16384

noncomputable section

namespace Cert.DownIdeal.Tiles

open Cert.DownIdeal Cert.DownIdeal.Gen Cert.Table
open Idealize.ShloMosaic Idealize.ShloMosaic.TcCoe

variable {F : FTy → Type} [FloatOps F]
variable (m : (ℓ : Loc nD τ sig) → Buf (Elt F) ℓ)

/-- The buffers when the call starts. -/
abbrev V (c : Dev nD) (b : Ref sig .tc) : Buf (Elt F) ((c : Thread nD τ).loc b) := m ((c : Thread nD τ).loc b)
/-- The two tables. -/
def tbl : pre0.Contents (Elt F) := fun j => V m (0 : Dev nD) (pre0.ref j)
/-- The expert of tile `k`. -/
def te (k : Fin 72) : BitVec 32 := m (((0 : Dev nD) : Thread nD τ).loc main_arg0) (ix1 k)
/-- The number of tiles in use. -/
def nu : BitVec 32 := m (((0 : Dev nD) : Thread nD τ).loc main_arg1) (ix1 0)
/-- Tile `k` is in use. -/
def used (k : Fin 72) : Prop := (k.val : ℤ) < (nu m).toInt
theorem word_eq (c : Dev nD) (k : Fin 72) (off : Fin 1 → ℕ) (h : ∀ a, off a + S1.size a ≤ S72.size a) (hk : off 0 = k.val) :
    word c (tbl m 0) off h = te m k := by
  unfold te tbl
  refine congrArg (m (((0 : Dev nD) : Thread nD τ).loc main_arg0)) ?_
  funext a
  apply Fin.ext
  fin_cases a
  simp [hk]

theorem inUse_eq (c : Dev nD) : inUse c (tbl m 1) = nu m := by
  unfold nu tbl
  refine congrArg (m (((0 : Dev nD) : Thread nD τ).loc main_arg1)) ?_
  funext a
  apply Fin.ext
  fin_cases a
  simp

/-- The weights are staged at the first tile and where the expert changes. -/
theorem stages_iff (c : Dev nD) (i : grid0.Coords) : stages c i (tbl m 0) ↔ (i 1).val = 0 ∨ te m (i 1) ≠ te m (prev (i 1)) := by
  unfold stages
  rw [either, eq_iff, ne_iff, word_eq m c (i 1) _ _ (here (i 1)), word_eq m c (prev (i 1)) _ _ (before (i 1))]
  exact or_congr_left (tile_zero (i 1))

/-- The body's two cases of the tile's use exclude each other and leave no third. -/
theorem cond3_iff (i : grid0.Coords) (v : BitVec 32) : k0_cond3 i v = 1#1 ↔ ¬k0_cond2 i v = 1#1 :=
  (negated _).trans (not_congr (plain _).symm)
theorem cond2_iff (i : grid0.Coords) : k0_cond2 i (nu m) = 1#1 ↔ used m (i 1) := (plain _).trans (tile_lt (i 1) (nu m))

/-- The blocks of weights at a grid point: the tile's expert's, at the point's columns. -/
theorem ix_w (i : grid0.Coords) : cc0_transform_1 k0_off1_inb numel1_S1 (tbl m) i = ![0, (te m (i 1)).toNat, 0, (i 0).val] := by
  have h := congrArg BitVec.toNat (word_eq m 0 (i 1) (k0_off1 i) (k0_off1_inb i) (here (i 1)))
  have h0 : (BitVec.ofNat 32 (i 0).val).toNat = (i 0).val := (by decide +kernel : ∀ k : Fin 4, (BitVec.ofNat 32 k.val).toNat = k.val) (i 0)
  rw [← h, ← h0]
  rfl
/-- The grid point's column block and tile. -/
theorem coord0 (t : Fin grid0.N) : (grid0.coords t 0).val = t.val / 72 := by
  have ht : t.val < 288 := Nat.lt_of_lt_of_eq t.isLt N_0
  have e0 : (grid0.coords t 0).val = t.val / 72 % 4 := Pipeline.Grid.coords_val t 0 (by decide) rfl
  omega
theorem coord1 (t : Fin grid0.N) : (grid0.coords t 1).val = t.val % 72 := by
  have e1 : (grid0.coords t 1).val = t.val / 1 % 72 := Pipeline.Grid.coords_val t 1 (by decide) rfl
  omega

/-- The call's demand on the table: every tile's expert is one of the eight. -/
theorem ok_of (h : ∀ k, (te m k).toNat < 8) : ok0 (F := F) (tbl m) := by
  intro i
  refine ⟨fun a => ?_, Or.inl rfl⟩
  rw [ix_w]
  have := h (i 1)
  have h0 : (i 0).val < 4 := (i 0).isLt
  fin_cases a
  · simp
  · simp; omega
  · simp
  · simp; omega

theorem te_lt (hO : ok0 (F := F) (tbl m)) (k : Fin 72) : (te m k).toNat < 8 := by
  obtain ⟨h, -⟩ := hO (grid0.coords ⟨k.val, by rw [N_0]; omega⟩)
  have h1 := h 1
  rw [ix_w] at h1
  have e : (grid0.coords ⟨k.val, by rw [N_0]; omega⟩ 1 : Fin 72) = k := Fin.ext ((coord1 _).trans (by simp))
  rw [e] at h1
  simp at h1
  omega

end Cert.DownIdeal.Tiles

end
-- ==== Proof.Down.Blocks.lean ====
/- The windows' blocks of the experts' second product, read at coordinates of the arrays. -/
module

public import proofs.«01_k».proof.Proof.Down.Words

@[expose] public section

set_option maxRecDepth 16384

noncomputable section

namespace Cert.DownIdeal.Tiles

open Cert.DownIdeal Cert.DownIdeal.Gen
open Idealize.ShloMosaic Idealize.ShloMosaic.TcCoe

variable {F : FTy → Type} [FloatOps F]
variable (m : (ℓ : Loc nD τ sig) → Buf (Elt F) ℓ)

/-- The tables are inside the call's demand. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tile, and the column block, of a point. -/
def tile (t : Fin grid0.N) : Fin 72 := ⟨t.val % 72, Nat.mod_lt _ (by decide)⟩
def cols (t : Fin grid0.N) : Fin 4 := ⟨t.val / 72, by have : t.val < 288 := Nat.lt_of_lt_of_eq t.isLt N_0; omega⟩
theorem coords1 (t : Fin grid0.N) : grid0.coords t 1 = tile t := Fin.ext (coord1 t)
theorem coords0 (t : Fin grid0.N) : grid0.coords t 0 = cols t := Fin.ext (coord0 t)

theorem idx0 (hO : Ok m) (t : Fin (cfgM m hO).N) : ((cfgM m hO).win 0).index t = ![(tile t).val, 0] := by
  have h : (BitVec.ofNat 32 (grid0.coords t 1).val).toNat = (tile t).val := by
    rw [coords1]
    exact Cert.Table.tile_toNat (tile t)
  rw [← h]
  rfl
theorem idx1 (hO : Ok m) (t : Fin (cfgM m hO).N) : ((cfgM m hO).win 1).index t = ![0, (te m (tile t)).toNat, 0, (cols t).val] :=
  (ix_w m (grid0.coords t)).trans (by rw [coords1, coords0])
theorem idx2 (hO : Ok m) (t : Fin (cfgM m hO).N) : ((cfgM m hO).win 2).index t = ![(tile t).val, (cols t).val] := by
  have h : (BitVec.ofNat 32 (grid0.coords t 1).val).toNat = (tile t).val := by
    rw [coords1]
    exact Cert.Table.tile_toNat (tile t)
  have h' : (BitVec.ofNat 32 (grid0.coords t 0).val).toNat = (cols t).val := by
    rw [coords0]
    exact (by decide +kernel : ∀ k : Fin 4, (BitVec.ofNat 32 k.val).toNat = k.val) (cols t)
  rw [← h, ← h']
  rfl

/-- The rows of the tile. -/
theorem blk0 (hO : Ok m) (c : Dev nD) (t : Fin (cfgM m hO).N) (r : Fin 512) (d : Fin 3072) (R : Fin 36864) (hR : R.val = (tile t).val * 512 + r.val) :
    (iblk m hO c 0 t) (ix2 r d) = m ((c : Thread nD τ).loc main_arg2) (ix2 R d) := by
  blk_ext [iblk, V, idx0 m hO t]

/-- The columns of the weights of the tile's expert. -/
theorem blk1 (hO : Ok m) (c : Dev nD) (t : Fin (cfgM m hO).N) (d : Fin 3072) (k : Fin 1024) (e : Fin 8) (K : Fin 4096)
    (he : e.val = (te m (tile t)).toNat) (hK : K.val = (cols t).val * 1024 + k.val) :
    (iblk m hO c 1 t) (ix4 0 0 d k) = m ((c : Thread nD τ).loc main_arg3) (ix4 0 e d K) := by
  blk_ext [iblk, V, idx1 m hO t]

end Cert.DownIdeal.Tiles

end
-- ==== Proof.Down.Frame.lean ====
/- The launch of the experts' second product: what the call leaves, from what each grid point's body leaves. The weight
   buffer holds, after every point, the rounded weights of that point's expert and columns. -/
module

public import proofs.«01_k».proof.Proof.Down.Blocks
public import Idealize.ShloMosaic.Lib.Claim

@[expose] public section

set_option maxRecDepth 16384

noncomputable section

namespace Cert.DownIdeal.Tiles

open Cert.DownIdeal Cert.DownIdeal.Gen Cert.Table
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 800000 in
/-- The program up to the call: the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_pre (c : Dev nD) (j : Fin 2) : V m c (pre0.ref j) = tbl m j := by
  obtain rfl : c = 0 := Subsingleton.elim _ _; rfl

/-- The tables' halves, table by table. -/
theorem PhiT_eq (c : Dev nD) : (Pipeline.ΦT pre0 (tbl m) c : sProp 𝕄) = iprop(tabAt c tab0 (tbl m 0) ∗ tabAt c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The weight buffer. -/
abbrev wbuf : Memref sig .tc .vmem S3072x1024 .bf16 := Memref.whole cc0_scratch0

theorem PhiA_eq (c : Dev nD) :
    (Pipeline.ΦA spec0 c : sProp 𝕄) = iprop((∃ d, owns (c : Thread nD τ) wbuf fullShare d) ∗ (∃ r, prngReg c r)) := by
  unfold Pipeline.ΦA; rw [scopedRest0_eq]; simp only [wbuf, owns_whole]; try rfl

/-- The rounded weights of a point. -/
def wAt (hO : Ok m) (c : Dev nD) (t : Fin (cfgM m hO).N) : Vec F S3072x1024 .bf16 := k0_pay1 (iblk m hO c 1 t)

/-- What a point's body leaves in the output block: the product of a tile in use, zero otherwise. -/
def outAt (hO : Ok m) (c : Dev nD) (t : Fin (cfgM m hO).N) : Vec F S512x1024 .f32 :=
  if k0_cond2 (grid0.coords t) (inUse c (tbl m 1)) = 1#1 then k0_pay2 (iblk m hO c 0 t) (wAt m hO c t) else k0_pay3

/-- Held between two points: the weight buffer at `s`, and the tables. -/
def kept (c : Dev nD) (s : Vec F S3072x1024 .bf16) : sProp 𝕄 :=
  iprop(iprop(owns (c : Thread nD τ) wbuf fullShare s ∗ (∃ r, prngReg c r)) ∗ Pipeline.ΦT pre0 (tbl m) c)

/-- What is held before the first point, and after each. -/
def Held (hO : Ok m) (c : Dev nD) : (n : ℕ) → n ≤ (cfgM m hO).N → sProp 𝕄
  | 0, _ => iprop(Pipeline.ΦA spec0 c ∗ Pipeline.ΦT pre0 (tbl m) c)
  | n + 1, hn => kept m c (wAt m hO c ⟨n, hn⟩)

theorem Held_zero (hO : Ok m) (c : Dev nD) (n : ℕ) (h : n ≤ (cfgM m hO).N) (hz : n = 0) :
    Held m hO c n h = iprop(Pipeline.ΦA spec0 c ∗ Pipeline.ΦT pre0 (tbl m) c) := by
  subst hz; rfl
theorem Held_pos (hO : Ok m) (c : Dev nD) (n : ℕ) (h : n ≤ (cfgM m hO).N) (hz : n ≠ 0) :
    Held m hO c n h = kept m c (wAt m hO c ⟨n - 1, by omega⟩) := by
  cases n with
  | zero => exact absurd rfl hz
  | succ n => rfl

/-- The launch's data: arrays as found; after the body at a point each input's buffer at its block and the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := Held m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Held_castSucc (hO : Ok m) (c : Dev nD) (t : Fin (cfgM m hO).N) :
    (dats m hO 0 c).Φ t.castSucc = Held m hO c t.val (Nat.le_of_lt t.isLt) := by
  dsimp only [dats]; exact Pipeline.Dat.Φ_castSucc (Held m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = outAt m hO c t := by dsimp only [dats]; try rfl

/-- Each input's buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- Each window's current buffer. -/
abbrev ms0 (hO : Ok m) (t : Fin (cfgM m hO).N) : Memref sig .tc .vmem S512x3072 .bf16 := spec0_0.stage ((cfgM m hO).slots t 0)
abbrev ms1 (hO : Ok m) (t : Fin (cfgM m hO).N) : Memref sig .tc .vmem S1x1x3072x1024 .f32 := spec0_1.stage ((cfgM m hO).slots t 1)
abbrev ms2 (hO : Ok m) (t : Fin (cfgM m hO).N) : Memref sig .tc .vmem S512x1024 .f32 := spec0_2.stage ((cfgM m hO).slots t 2)

/-- The body at a point, on the current buffers. -/
abbrev bodyAt (hO : Ok m) (t : Fin (cfgM m hO).N) : Prog (TpuEff nD τ sig (Elt F) Λ₀ .tc) PUnit :=
  cc0_moe_down (grid0.coords t) (Memref.whole main_arg0) (Memref.isWhole_whole _) (Memref.whole main_arg1) (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (Memref.whole cc0_scratch0) (Memref.isWhole_whole _)

/-- A point's three buffers before its body, with `Φ` held beside them. -/
def bodyPre (hO : Ok m) (c : Dev nD) (t : Fin (cfgM m hO).N) (Φ : sProp 𝕄) : sProp 𝕄 :=
  iprop(Φ ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

/-- A point that does not stage the weights has the block of the point before. -/
theorem block_kept (hO : Ok m) (c : Dev nD) (t : Fin (cfgM m hO).N) (hz : t.val ≠ 0) (hs : ¬stages c (grid0.coords t) (tbl m 0)) :
    iblk m hO c 1 ⟨t.val - 1, by omega⟩ = iblk m hO c 1 t := by
  rw [stages_iff, coords1] at hs
  obtain ⟨h0, he⟩ := not_or.mp hs
  have h0 : t.val % 72 ≠ 0 := h0
  have hp : tile ⟨t.val - 1, Nat.lt_of_le_of_lt (Nat.sub_le _ _) t.isLt⟩ = prev (tile t) := Fin.ext (by show (t.val - 1) % 72 = t.val % 72 - 1; omega)
  have hc : cols ⟨t.val - 1, Nat.lt_of_le_of_lt (Nat.sub_le _ _) t.isLt⟩ = cols t := Fin.ext (by show (t.val - 1) / 72 = t.val / 72; omega)
  funext (x : S1x1x3072x1024.Idx)
  have hx : x = ix4 (0 : Fin 1) (0 : Fin 1) (x 2) (x 3) := funext fun a => by
    fin_cases a <;> first | rfl | exact Subsingleton.elim (α := Fin 1) _ _
  have hk : (x 3).val < 1024 := (x 3).isLt
  rw [hx]
  have hK : (cols t).val * 1024 + (x 3).val < 4096 := by have := (cols t).isLt; omega
  exact (blk1 m hO c _ (x 2) (x 3) ⟨_, te_lt m hO (tile t)⟩ ⟨_, hK⟩ (by rw [hp, ← not_not.mp he]) (by rw [hc])).trans
    (blk1 m hO c t (x 2) (x 3) _ _ rfl rfl).symm

set_option maxHeartbeats 3200000 in
/-- The body at a point, from a weight buffer that holds the point's weights unless the body stages them. -/
theorem body_from (hO : Ok m) (c : Dev nD) (t : Fin (cfgM m hO).N) (s : Vec F S3072x1024 .bf16)
    (hr : (if stages c (grid0.coords t) (tbl m 0) then k0_pay1 (iblk m hO c 1 t) else s) = wAt m hO c t) :
    bodyPre m hO c t (kept m c s) ⊢ wp frame (wpE (defs₀ (F := F)) Variants.none c none) Set.univ (bodyAt m hO t) (fun _ => bodyPost m hO c t) := by
  unfold bodyPre bodyPost bodyAt
  simp only [before0, before1]
  rw [show (dats m hO 0 c).owesAt () t.succ = (dats m hO 0 c).owesAt () t.castSucc from rfl, after0, after1, after2,
    show (dats m hO 0 c).Φ t.succ = kept m c (wAt m hO c t) from rfl]
  unfold kept
  rw [PhiT_eq]
  iintro ⟨⟨⟨HS, Hg⟩, ⟨HT0, HT1⟩⟩, Ho, ⟨%d0, H0⟩, ⟨%d1, H1⟩, ⟨%d2, H2⟩⟩
  iapply (run_body c (grid0.coords t) _ _ _ _ _ _ _ _ (iblk m hO c 0 t) (iblk m hO c 1 t) s (tbl m 0) (tbl m 1)
    (cond3_iff _ _) Set.univ _ (wAt m hO c t) hr (outAt m hO c t) rfl)
  isplitl [H0]; · iexact H0
  isplitl [H1]; · iexact H1
  isplitl [H2]; · iexists _; iexact H2
  isplitl [HS]; · iexact HS
  isplitl [HT0]; · iexact HT0
  isplitl [HT1]; · iexact HT1
  iintro ⟨H0, H1, H2, HS, HT0, HT1⟩
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  iexact H2

/-- The body at any point: the first stages the weights, a later one has them or stages them. -/
theorem sound_body (hO : Ok m) (c : Dev nD) (t : Fin (cfgM m hO).N) :
    bodyPre m hO c t ((dats m hO 0 c).Φ t.castSucc)
      ⊢ wp frame (wpE (defs₀ (F := F)) Variants.none c none) Set.univ (bodyAt m hO t) (fun _ => bodyPost m hO c t) := by
  rw [Held_castSucc]
  by_cases hz : t.val = 0
  · have hs : stages c (grid0.coords t) (tbl m 0) := (stages_iff m c _).mpr (Or.inl ((coord1 t).trans (by omega)))
    rw [Held_zero m hO c _ _ hz, PhiA_eq]
    have key : ∀ s, bodyPre m hO c t (kept m c s) ⊢ wp frame (wpE (defs₀ (F := F)) Variants.none c none) Set.univ (bodyAt m hO t) (fun _ => bodyPost m hO c t) :=
      fun s => body_from m hO c t s (if_pos hs)
    unfold bodyPre kept at key
    unfold bodyPre
    iintro ⟨⟨⟨⟨%s, HS⟩, Hg⟩, HT⟩, Hr⟩
    iapply (key s)
    isplitl [HS Hg HT]
    · isplitl [HS Hg]
      · isplitl [HS]; · iexact HS
        iexact Hg
      iexact HT
    iexact Hr
  · rw [Held_pos m hO c _ _ hz]
    refine body_from m hO c t _ ?_
    by_cases hs : stages c (grid0.coords t) (tbl m 0)
    · exact if_pos hs
    · exact (if_neg hs).trans (congrArg k0_pay1 (block_kept m hO c t hz hs))

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- Every point stores its output block. -/
theorem not_idle (hO : Ok m) (t : Fin (cfgM m hO).N) : (cfgM m hO).idle (2 : Fin 3) ((cfgM m hO).grid.coords t) = false := by
  show (!(k0_cond2 (grid0.coords t) _ == 1#1) && !(k0_cond3 (grid0.coords t) _ == 1#1)) = false
  by_cases h : k0_cond2 (grid0.coords t) ((tbl m).atD 1 ![0]) = 1#1
  · simp [h]
  · simp [(cond3_iff _ _).mpr h]

theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  rw [not_idle m hO t]
  exact .rfl

theorem hin (hO : Ok m) (c : Dev nD) : iprop(Pipeline.ΦA spec0 c ∗ Pipeline.ΦT pre0 (tbl m) c) ⊢ (dats m hO 0 c).Φ 0 := by
  rw [show (dats m hO 0 c).Φ 0 = Held m hO c 0 (Nat.zero_le _) from rfl, Held_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 288 := N_0
  rw [show (dats m hO 0 c).Φ (Fin.last (cfgM m hO).N) = Held m hO c (Fin.last (cfgM m hO).N).val (Nat.le_of_lt_succ (Fin.last (cfgM m hO).N).isLt) from rfl,
    Held_pos m hO c _ _ (by rw [Fin.val_last]; omega), PhiA_eq]
  unfold kept
  iintro ⟨⟨HS, Hg⟩, HT⟩
  iclear HT
  isplitl [HS]
  · iexists _; iexact HS
  iexact Hg

-- the launch theorem's implicit arguments are found by unifying its conclusion with this one
set_option backward.isDefEq.respectTransparency.types false in
/-- The launch. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, with what the output array holds. -/
theorem frame_out (hO : Ok m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 2,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1))⟩, h.2⟩) (run_main m ρ hO)

end Cert.DownIdeal.Tiles

end
-- ==== Proof.Down.Ref.lean ====
/- The reference of the experts' second product as a list of host operations, run, and the value of its result over the
   extended reals. Which expert a row takes is decided as in the gated product's reference. -/
module

public import proofs.«01_k».proof.Proof.Gen.DownRefIdeal
public import proofs.«01_k».proof.Proof.Swiglu.Ref
public import Idealize.ShloMosaic.Lib.StableHlo.Run
public import Idealize.ShloMosaic.Lib.Quiescent
public import Idealize.ShloMosaic.Lib.Pointwise

@[expose] public section

set_option maxRecDepth 8192

noncomputable section

namespace Cert.DownRefIdeal.Tiles

open Cert.DownRefIdeal Cert.DownRefIdeal.Gen Idealize Idealize.ShloMosaic Idealize.ShloMosaic.TcCoe Idealize.SL.Sem Idealize.ShloMosaic.StableHlo
open Cert.SwigluRefIdeal.Tiles (perTile perRow expert sum_own)
open Cert.Table (tileOf)

variable {F : FTy → Type} [FloatOps F]

/-- The program's operations, in order. -/
abbrev ops : List (HloOp τ sig (Elt F)) :=
  [ unary main_arg2 main_v0 ((extf .f32 · bitsLt_bf16_f32) : (⟨S36864x3072, .bf16⟩ : BufTy).Contents (Elt F) → (⟨S36864x3072, .f32⟩ : BufTy).Contents (Elt F)),
    reshape main_arg3 main_v1 (rfl : (.f32 : EltTy) = .f32) shapeCasts_S1x8x3072x4096_S8x3072x4096,
    binary main_v0 main_v1 main_v2 ((fun l r => Host.dotGeneral dot_S36864x3072_S8x3072x4096_S36864x8x4096_1_1_0_02_n_n none l r) : (⟨S36864x3072, .f32⟩ : BufTy).Contents (Elt F) → (⟨S8x3072x4096, .f32⟩ : BufTy).Contents (Elt F) → (⟨S36864x8x4096, .f32⟩ : BufTy).Contents (Elt F)),
    unary main_arg0 main_v3 (broadcastInDim S72x1 ![0] bcast_S72_S72x1_0 : (⟨S72, .i32⟩ : BufTy).Contents (Elt F) → (⟨S72x1, .i32⟩ : BufTy).Contents (Elt F)),
    nullary main_v4 (iotaInDim S8 32 0),
    unary main_v4 main_v5 (broadcastInDim S1x8 ![1] bcast_S8_S1x8_1 : (⟨S8, .i32⟩ : BufTy).Contents (Elt F) → (⟨S1x8, .i32⟩ : BufTy).Contents (Elt F)),
    unary main_v3 main_v6 (broadcastInDim S72x8 ![0, 1] bcast_S72x1_S72x8_0_1 : (⟨S72x1, .i32⟩ : BufTy).Contents (Elt F) → (⟨S72x8, .i32⟩ : BufTy).Contents (Elt F)),
    unary main_v5 main_v7 (broadcastInDim S72x8 ![0, 1] bcast_S1x8_S72x8_0_1 : (⟨S1x8, .i32⟩ : BufTy).Contents (Elt F) → (⟨S72x8, .i32⟩ : BufTy).Contents (Elt F)),
    binary main_v6 main_v7 main_v8 (cmpi .eq : (⟨S72x8, .i32⟩ : BufTy).Contents (Elt F) → (⟨S72x8, .i32⟩ : BufTy).Contents (Elt F) → (⟨S72x8, .i1⟩ : BufTy).Contents (Elt F)),
    nullary main_v9 (iotaInDim S72 32 0),
    unary main_v9 main_v10 (broadcastInDim S72x1 ![0] bcast_S72_S72x1_0 : (⟨S72, .i32⟩ : BufTy).Contents (Elt F) → (⟨S72x1, .i32⟩ : BufTy).Contents (Elt F)),
    reshape main_arg1 main_v11 (rfl : (.i32 : EltTy) = .i32) shapeCasts_S1_S_,
    unary main_v11 main_v12 (broadcastInDim S72x1 ![] bcast_S_S72x1 : (⟨S_, .i32⟩ : BufTy).Contents (Elt F) → (⟨S72x1, .i32⟩ : BufTy).Contents (Elt F)),
    binary main_v10 main_v12 main_v13 (cmpi .slt : (⟨S72x1, .i32⟩ : BufTy).Contents (Elt F) → (⟨S72x1, .i32⟩ : BufTy).Contents (Elt F) → (⟨S72x1, .i1⟩ : BufTy).Contents (Elt F)),
    unary main_v13 main_v14 (broadcastInDim S72x8 ![0, 1] bcast_S72x1_S72x8_0_1 : (⟨S72x1, .i1⟩ : BufTy).Contents (Elt F) → (⟨S72x8, .i1⟩ : BufTy).Contents (Elt F)),
    binary main_v8 main_v14 main_v15 (andi : (⟨S72x8, .i1⟩ : BufTy).Contents (Elt F) → (⟨S72x8, .i1⟩ : BufTy).Contents (Elt F) → (⟨S72x8, .i1⟩ : BufTy).Contents (Elt F)),
    unary main_v15 main_v16 (broadcastInDim S72x1x8 ![0, 2] bcast_S72x8_S72x1x8_0_2 : (⟨S72x8, .i1⟩ : BufTy).Contents (Elt F) → (⟨S72x1x8, .i1⟩ : BufTy).Contents (Elt F)),
    unary main_v16 main_v17 (broadcastInDim S72x512x8 ![0, 1, 2] bcast_S72x1x8_S72x512x8_0_1_2 : (⟨S72x1x8, .i1⟩ : BufTy).Contents (Elt F) → (⟨S72x512x8, .i1⟩ : BufTy).Contents (Elt F)),
    reshape main_v17 main_v18 (rfl : (.i1 : EltTy) = .i1) shapeCasts_S72x512x8_S36864x8,
    unary main_v18 main_v19 (broadcastInDim S36864x8x1 ![0, 1] bcast_S36864x8_S36864x8x1_0_1 : (⟨S36864x8, .i1⟩ : BufTy).Contents (Elt F) → (⟨S36864x8x1, .i1⟩ : BufTy).Contents (Elt F)),
    unary main_v19 main_v20 (broadcastInDim S36864x8x4096 ![0, 1, 2] bcast_S36864x8x1_S36864x8x4096_0_1_2 : (⟨S36864x8x1, .i1⟩ : BufTy).Contents (Elt F) → (⟨S36864x8x4096, .i1⟩ : BufTy).Contents (Elt F)),
    nullary main_cst (constant S_ .f32 0x00000000#32),
    unary main_cst main_v21 (broadcastInDim S36864x8x4096 ![] bcast_S_S36864x8x4096 : (⟨S_, .f32⟩ : BufTy).Contents (Elt F) → (⟨S36864x8x4096, .f32⟩ : BufTy).Contents (Elt F)),
    ternary main_v20 main_v2 main_v21 main_v22 (select : (⟨S36864x8x4096, .i1⟩ : BufTy).Contents (Elt F) → (⟨S36864x8x4096, .f32⟩ : BufTy).Contents (Elt F) → (⟨S36864x8x4096, .f32⟩ : BufTy).Contents (Elt F) → (⟨S36864x8x4096, .f32⟩ : BufTy).Contents (Elt F)),
    nullary main_cst_0 (constant S_ .f32 0x00000000#32),
    binary main_v22 main_cst_0 main_v23 ((fun x v => Host.reduceAdd x v reducesTo_S36864x8x4096_S36864x4096_d1 h_S_) : (⟨S36864x8x4096, .f32⟩ : BufTy).Contents (Elt F) → (⟨S_, .f32⟩ : BufTy).Contents (Elt F) → (⟨S36864x4096, .f32⟩ : BufTy).Contents (Elt F)) ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., unary_bufs_sub .., nullary_bufs_sub .., unary_bufs_sub .., unary_bufs_sub .., unary_bufs_sub .., binary_bufs_sub .., nullary_bufs_sub .., unary_bufs_sub .., reshape_bufs_sub .., unary_bufs_sub .., binary_bufs_sub .., unary_bufs_sub .., binary_bufs_sub .., unary_bufs_sub .., unary_bufs_sub .., reshape_bufs_sub .., unary_bufs_sub .., unary_bufs_sub .., nullary_bufs_sub .., unary_bufs_sub .., ternary_bufs_sub .., nullary_bufs_sub .., binary_bufs_sub ..⟩

/-- Every row times every expert's weights. -/
def prod (X : FVec F S36864x3072 .bf16) (W : FVec F S1x8x3072x4096 .f32) : FVec F S36864x8x4096 .f32 :=
  Host.dotGeneral dot_S36864x3072_S8x3072x4096_S36864x8x4096_1_1_0_02_n_n none (extf .f32 X bitsLt_bf16_f32)
    (shapeCast _ W shapeCasts_S1x8x3072x4096_S8x3072x4096)

/-- The chosen expert's value, by a sum over the experts with the others at zero. -/
def pick (M : IVec S36864x8 1) (y : FVec F S36864x8x4096 .f32) : FVec F S36864x4096 .f32 :=
  Host.reduceAdd (select (broadcastInDim S36864x8x4096 ![0, 1, 2] bcast_S36864x8x1_S36864x8x4096_0_1_2
      (broadcastInDim S36864x8x1 ![0, 1] bcast_S36864x8_S36864x8x1_0_1 M)) y (broadcastInDim S36864x8x4096 ![] bcast_S_S36864x8x4096 (constant S_ .f32 0x00000000#32)))
    (constant S_ .f32 0x00000000#32) reducesTo_S36864x8x4096_S36864x4096_d1 h_S_

/-- The result, of the arguments. -/
def out (T : IVec S72 32) (N : IVec S1 32) (X : FVec F S36864x3072 .bf16) (W : FVec F S1x8x3072x4096 .f32) : FVec F S36864x4096 .f32 :=
  pick (perRow (perTile T N)) (prod X W)

set_option maxHeartbeats 32800000 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

theorem prod_at (X : FVec Ideal S36864x3072 .bf16) (W : FVec Ideal S1x8x3072x4096 .f32) (R : Fin 36864) (e : Fin 8) (K : Fin 4096) :
    prod X W (ix3 R e K) = ∑ d : Fin 3072, X (ix2 R d) * W (ix4 0 e d K) := by
  pointwise [prod]

theorem pick_at (M : IVec S36864x8 1) (y : FVec Ideal S36864x8x4096 .f32) (R : Fin 36864) (K : Fin 4096) :
    pick M y (ix2 R K) = ∑ e : Fin 8, if M (ix2 R e) = 1#1 then y (ix3 R e K) else 0 := by
  pointwise [pick]
  rfl

/-- An element of the result: the row times its expert's column in a tile in use, zero otherwise. -/
def chosen (T : IVec S72 32) (N : IVec S1 32) (X : FVec Ideal S36864x3072 .bf16) (W : FVec Ideal S1x8x3072x4096 .f32) (R : Fin 36864) (K : Fin 4096) : EReal :=
  if ((tileOf R).val : ℤ) < (N (ix1 0)).toInt then ∑ d : Fin 3072, X (ix2 R d) * W (ix4 0 (expert T R) d K) else 0

/-- The reference's result. -/
theorem out_at (T : IVec S72 32) (N : IVec S1 32) (X : FVec Ideal S36864x3072 .bf16) (W : FVec Ideal S1x8x3072x4096 .f32)
    (hT : ∀ t, (T (ix1 t)).toNat < 8) (R : Fin 36864) (K : Fin 4096) :
    out T N X W (ix2 R K) = chosen T N X W R K := by
  have h : out T N X W (ix2 R K) = pick (perRow (perTile T N)) (prod X W) (ix2 R K) := rfl
  rw [h, pick_at, sum_own T N hT, prod_at]
  rfl

end Cert.DownRefIdeal.Tiles

end
-- ==== Proof.Down.Tile.lean ====
/- The block a grid point's body leaves, over the extended reals, element by element, and the array they make up. -/
module

public import proofs.«01_k».proof.Proof.Down.Frame
public import proofs.«01_k».proof.Proof.Down.Ref
public import Idealize.ShloMosaic.Lib.Pointwise
public import Idealize.ShloMosaic.Lib.Pipeline.Value
public import Idealize.ShloMosaic.Lib.Pipeline.Covers

@[expose] public section

set_option maxRecDepth 16384

noncomputable section

namespace Cert.DownIdeal.Tiles

open Idealize Idealize.ShloMosaic Idealize.ShloMosaic.TcCoe Idealize.ShloMosaic.View Cert.DownIdeal Cert.DownIdeal.Gen
open Idealize.ShloMosaic.Pipeline (Dat)
open Cert.SwigluRefIdeal.Tiles (expert)
open Cert.DownRefIdeal.Tiles (chosen)
open Cert.Table (tileOf)

theorem weights_at (W : Vec Ideal S1x1x3072x1024 .f32) (d : Fin 3072) (k : Fin 1024) : k0_pay1 W (ix2 d k) = W (ix4 0 0 d k) := by
  pointwise [k0_pay1]
theorem product_at (X : Vec Ideal S512x3072 .bf16) (A : Vec Ideal S3072x1024 .bf16) (r : Fin 512) (k : Fin 1024) :
    k0_pay2 X A (ix2 r k) = ∑ d, X (ix2 r d) * A (ix2 d k) := by
  pointwise [k0_pay2]
theorem zeros_at (r : Fin 512) (k : Fin 1024) : (k0_pay3 (F := Ideal)) (ix2 r k) = 0 := by
  pointwise [k0_pay3]

variable (m : (ℓ : Loc nD τ sig) → Buf (Elt Ideal) ℓ)

/-- The result array, of the arguments' buffers. -/
def result (i : S36864x4096.Idx) : EReal :=
  chosen (m (((0 : Dev nD) : Thread nD τ).loc main_arg0)) (m (((0 : Dev nD) : Thread nD τ).loc main_arg1))
    (m (((0 : Dev nD) : Thread nD τ).loc main_arg2)) (m (((0 : Dev nD) : Thread nD τ).loc main_arg3)) (i 0) (i 1)

/-- One element of the block a point leaves. -/
theorem point (hO : Ok m) (t : Fin (cfgM m hO).N) (r : Fin 512) (k : Fin 1024) (R : Fin 36864) (K : Fin 4096)
    (hR : R.val = (tile t).val * 512 + r.val) (hK : K.val = (cols t).val * 1024 + k.val) :
    outAt m hO 0 t (ix2 r k) = result m (ix2 R K) := by
  have hT : tileOf R = tile t := Fin.ext (by show R.val / 512 = (tile t).val; omega)
  have he : (expert (m (((0 : Dev nD) : Thread nD τ).loc main_arg0)) R).val = (te m (tile t)).toNat := by
    show (te m (tileOf R)).toNat % 8 = _
    rw [hT]
    exact Nat.mod_eq_of_lt (te_lt m hO _)
  have hc : k0_cond2 (grid0.coords t) (inUse 0 (tbl m 1)) = 1#1 ↔ ((tileOf R).val : ℤ) < (nu m).toInt := by
    rw [inUse_eq, cond2_iff, coords1, hT]
    rfl
  show (if _ then _ else _ : Vec Ideal S512x1024 .f32) (ix2 r k) = if _ then _ else _
  by_cases hu : k0_cond2 (grid0.coords t) (inUse 0 (tbl m 1)) = 1#1
  · rw [if_pos hu]
    refine (product_at _ _ r k).trans (Eq.trans ?_ (if_pos (hc.mp hu)).symm)
    exact Finset.sum_congr rfl fun d _ => congrArg₂ (· * ·) (blk0 m hO 0 t r d R hR)
      ((weights_at _ d k).trans (blk1 m hO 0 t d k _ K he hK))
  · rw [if_neg hu]
    exact (zeros_at r k).trans (if_neg fun h => hu (hc.mpr h)).symm

/-- Every block of the result is some point's. -/
theorem covers (hO : Ok m) : ((cfgM m hO).win 2).Covers := by
  refine Pipeline.Window.covers_of_index_surj _ rfl (fun a => by fin_cases a <;> exact Nat.zero_lt_succ _) fun β => ?_
  have h0 : (β (0 : Fin 2)).val < 72 := Nat.lt_of_lt_of_eq (β (0 : Fin 2)).isLt (by show (36864 + 512 - 1) / 512 = 72; rfl)
  have h1 : (β (1 : Fin 2)).val < 4 := Nat.lt_of_lt_of_eq (β (1 : Fin 2)).isLt (by show (4096 + 1024 - 1) / 1024 = 4; rfl)
  refine ⟨⟨(β (1 : Fin 2)).val * 72 + (β (0 : Fin 2)).val, Nat.lt_of_lt_of_eq (by omega) N_0.symm⟩, fun a => ?_⟩
  rw [idx2]
  fin_cases a
  · show ((β (1 : Fin 2)).val * 72 + (β (0 : Fin 2)).val) % 72 = (β (0 : Fin 2)).val
    omega
  · show ((β (1 : Fin 2)).val * 72 + (β (0 : Fin 2)).val) / 72 = (β (1 : Fin 2)).val
    omega

/-- The result array after the run. -/
theorem final (hO : Ok m) : (dats m hO 0 0).arrAt 2 (cfgM m hO).N = result m := by
  refine (dats m hO 0 0).arrAt_eq_of_covers 2 _ (covers m hO) fun t _ (y : S512x1024.Idx) => ?_
  blk_simp
  rw [after2]
  have hy : y = ix2 (y 0) (y 1) := funext fun a => by fin_cases a <;> rfl
  have h0 : (y 0).val < 512 := (y 0).isLt
  have h1 : (y 1).val < 1024 := (y 1).isLt
  have ht : (tile t).val < 72 := (tile t).isLt
  have hj : (cols t).val < 4 := (cols t).isLt
  have hR : (tile t).val * 512 + (y 0).val < 36864 := by omega
  have hK : (cols t).val * 1024 + (y 1).val < 4096 := by omega
  refine ((congrArg (outAt m hO 0 t) hy).trans (point m hO t (y 0) (y 1) ⟨_, hR⟩ ⟨_, hK⟩ rfl rfl)).trans ?_
  refine congrArg (result m) (?_ : ix2 (⟨_, hR⟩ : Fin 36864) (⟨_, hK⟩ : Fin 4096) = (((cfgM m hO).win 2).blk t).view.emb y)
  blk_ext [idx2 m hO t]

end Cert.DownIdeal.Tiles

end
-- ==== Proof.Down.Claims.lean ====
/- The claims of the experts' second product: the frames of the kernel at both readings of its floats, the reference's
   frame, and that over the extended reals both leave the same array. -/
module

public import proofs.«01_k».proof.Defs
public import proofs.«01_k».proof.Proof.Table
public import proofs.«01_k».proof.Proof.Down.Tile
public import proofs.«01_k».proof.Proof.Gen.Down
public import proofs.«01_k».proof.Proof.Gen.Pre_experts3
public import Idealize.ShloMosaic.Lib.Quiescent

@[expose] public section

set_option maxRecDepth 16384

noncomputable section

namespace Cert.Proof.Down

open Idealize Idealize.ShloMosaic Idealize.ShloMosaic.TcCoe Idealize.SL.Sem Cert.DownIdeal.Tiles

attribute [local instance] Cert.Down.Gen.facts Cert.DownIdeal.Gen.facts Cert.DownRefIdeal.Gen.facts Cert.Pre_experts3.Gen.facts

variable {F : FTy → Type} [FloatOps F]

/-- The condition on the arguments, read at one word of the table. -/
theorem table_lt (T : IVec Cert.Pre_experts3.S72 32) (N : IVec Cert.Pre_experts3.S1 32) (X : FVec F Cert.Pre_experts3.S36864x3072 .bf16)
    (W : FVec F Cert.Pre_experts3.S1x8x3072x4096 .f32)
    (h : (Cert.Pre_experts3.fn T N X W).1 = (fun _ => 1#1) ∧ (Cert.Pre_experts3.fn T N X W).2 = (fun _ => 1#1)) (k : Fin 72) :
    (T (ix1 k)).toNat < 8 :=
  Cert.Table.lt_eight _ (congrFun h.1 (ix1 k)) (congrFun h.2 (ix1 k))

/-- The kernel, at either reading of its floats, from a table of experts. -/
theorem frame_of (m : (ℓ : Loc Cert.DownIdeal.nD Cert.DownIdeal.τ Cert.DownIdeal.sig) → Buf (Elt F) ℓ) (ρ : Dev Cert.DownIdeal.nD → PrngReg)
    (hO : Ok m) :
    θ_run (Cert.DownIdeal.defs (F := F)) (onTc (τ := Cert.DownIdeal.τ) (Cert.DownIdeal.main (F := F))) ⟨m, fun _ => 0, ρ⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0) :=
  (θ_run Cert.DownIdeal.defs _ _).mono (fun _ h => ⟨fun c => (h.1 c).2, h.2⟩) (frame_out m ρ hO)

/-- The kernel over the extended reals. -/
theorem frame_ideal : Cert.quiescent_DownIdeal := fun m ρ hp =>
  frame_of m ρ (ok_of m fun k => table_lt _ _ _ _ (hp 0) k)

/-- The two readings have the same functions. -/
theorem kernels_eq : (Cert.Down.defs₀ (F := F)) = Cert.DownIdeal.defs₀ := by
  unfold Cert.Down.defs₀ Cert.DownIdeal.defs₀
  refine congrArg Defs.onTc (funext fun l => funext fun x => ?_)
  obtain rfl : l = 0 := Subsingleton.elim _ _
  with_unfolding_all rfl
theorem defs_eq : (Cert.Down.defs (F := F)) = Cert.DownIdeal.defs := by
  with_unfolding_all exact congrArg (Pipeline.defs Cert.DownIdeal.pcfgs) kernels_eq

/-- The kernel over the floats' bits: the same program, so the same run. -/
theorem frame_bits : Cert.quiescent_Down := fun m ρ hp => by
  have h := frame_of (F := Bits) m ρ (ok_of (F := Bits) m fun k => table_lt _ _ _ _ (hp 0) k)
  rw [defs_eq]
  with_unfolding_all exact h

/-- The reference runs to the end and keeps its arguments; it has no semaphores. -/
theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Tiles.run m ρ)
theorem frame_ref_experts3 : Cert.quiescent_DownRefIdeal_pre_experts3 := fun m ρ _ =>
  frame_ref m ρ trivial

/-- Over the extended reals the kernel's array is the reference's. -/
theorem algebraic : Cert.algebraic_DownIdeal_DownRefIdeal := by
  intro m g m' g' hp hagree
  have hT : ∀ k, (te m k).toNat < 8 := fun k => table_lt _ _ _ _ (hp 0) k
  have hO : Ok m := ok_of m hT
  refine ⟨_, (θ_run Cert.DownIdeal.defs _ _).mono (fun _ h => h.1) (frame_out m g hO), ?_⟩
  refine (θ_run Cert.DownRefIdeal.defs _ _).mono (fun _ h c => ⟨(h c).1.trans ?_, (h c).2⟩) (Cert.DownRefIdeal.Tiles.run m' g')
  obtain rfl : c = 0 := Subsingleton.elim _ _
  rw [(hagree 0).1, (hagree 0).2.1, (hagree 0).2.2.1, (hagree 0).2.2.2]
  refine Eq.trans (funext fun y => ?_) (final m hO).symm
  have hy : y = ix2 (y 0) (y 1) := funext fun a => by fin_cases a <;> rfl
  exact (congrArg _ hy).trans (Cert.DownRefIdeal.Tiles.out_at _ _ _ _ hT (y 0) (y 1))

end Cert.Proof.Down

end
-- ==== Proof.Merge.Steps.lean ====
/- What each grid point of the merge leaves, as values of its windows' blocks: the rounded weights, stored at the first row
   block of a column block and kept for the others, and the block of the result. -/
module

public import proofs.«01_k».proof.Proof.Gen.MergeIdeal.Frame
public import Idealize.ShloMosaic.Lib.VecWindow
public import Idealize.ShloMosaic.Lib.Pipeline.ValueKit
public import Idealize.ShloMosaic.Lib.Pipeline.ReadBack

@[expose] public section

set_option maxRecDepth 16384

noncomputable section

namespace Cert.MergeIdeal.Tiles

open Cert.MergeIdeal Cert.MergeIdeal.Gen Idealize Idealize.ShloMosaic Idealize.ShloMosaic.TcCoe Idealize.ShloMosaic.View

variable {F : FTy → Type} [FloatOps F]
variable (m : (ℓ : Loc nD τ sig) → Buf (Elt F) ℓ)

/-- The rounded weights a column block is computed with: three of the gates', three of the branches'. -/
abbrev Held (F : FTy → Type) : Type :=
  Vec F S4096x256 .bf16 × Vec F S4096x256 .bf16 × Vec F S4096x256 .bf16 × Vec F S1024x256 .bf16 × Vec F S1024x256 .bf16 × Vec F S2048x256 .bf16

/-- The weights' blocks at a point, rounded. -/
def rounded (t : Fin cfg0.N) : Held F :=
  (k0_pay2 (iblk m 0 0 t), k0_pay3 (iblk m 0 5 t), k0_pay4 (iblk m 0 6 t), k0_pay5 (iblk m 0 10 t), k0_pay6 (iblk m 0 11 t), k0_pay7 (iblk m 0 12 t))

/-- The block of the result at a point, from the weights held. -/
def merge (t : Fin cfg0.N) (s : Held F) : Vec F S512x256 .bf16 :=
  k0_pay1 (iblk m 0 1 t) (k0_pay8 (iblk m 0 1 t) s.1 (iblk m 0 7 t)) (iblk m 0 2 t) s.2.2.2.1 s.2.1 (iblk m 0 8 t) (iblk m 0 3 t)
    s.2.2.2.2.1 s.2.2.1 (iblk m 0 9 t) (iblk m 0 4 t) s.2.2.2.2.2

/-- What the point before left. -/
abbrev prev (t : Fin cfg0.N) := outsAt0 m 0 (t.val - 1) (Nat.lt_of_le_of_lt (Nat.sub_le _ _) t.isLt)

/-- A column block's first point rounds the weights and uses them. -/
theorem first (t : Fin cfg0.N) (h : t.val % 33 = 0) : outsAt0 m 0 t.val t.isLt = (merge m t (rounded m t), rounded m t) := by
  refine (outsAt0_A m 0 t h h h h h h).trans (Prod.ext ?_ (Prod.ext ?_ (Prod.ext ?_ (Prod.ext ?_ (Prod.ext ?_ (Prod.ext ?_ ?_))))))
  all_goals dsimp only
  all_goals frame_out [read_unread_whole]
  all_goals rfl

/-- The other points use the weights they find. -/
theorem later (t : Fin cfg0.N) (h : ¬t.val % 33 = 0) : outsAt0 m 0 t.val t.isLt = (merge m t (prev m t).2, (prev m t).2) := by
  refine (outsAt0_B m 0 t h h h h h h).trans (Prod.ext ?_ rfl)
  dsimp only
  frame_out [read_unread_whole]
  rfl

end Cert.MergeIdeal.Tiles

end
-- ==== Proof.Merge.Blocks.lean ====
/- The windows' blocks of the merge, read at coordinates of the arrays. -/
module

public import proofs.«01_k».proof.Proof.Merge.Steps
public import Idealize.ShloMosaic.Lib.Pointwise

@[expose] public section

set_option maxRecDepth 16384

noncomputable section

namespace Cert.MergeIdeal.Tiles

open Cert.MergeIdeal Cert.MergeIdeal.Gen Idealize Idealize.ShloMosaic Idealize.ShloMosaic.TcCoe

variable {F : FTy → Type} [FloatOps F]
variable (m : (ℓ : Loc nD τ sig) → Buf (Elt F) ℓ) (t : Fin cfg0.N)

theorem idx0 : ∀ t : Fin cfg0.N, (cfg0.win 0).index t = ![0, 0, t.val / 33] := (by decide +kernel : ∀ t : Fin grid0.N, win0_0.index t = ![0, 0, t.val / 33])
theorem idx1 : ∀ t : Fin cfg0.N, (cfg0.win 1).index t = ![t.val % 33, 0] := (by decide +kernel : ∀ t : Fin grid0.N, win0_1.index t = ![t.val % 33, 0])
theorem idx2 : ∀ t : Fin cfg0.N, (cfg0.win 2).index t = ![t.val % 33, 0] := idx1
theorem idx3 : ∀ t : Fin cfg0.N, (cfg0.win 3).index t = ![t.val % 33, 0] := idx1
theorem idx4 : ∀ t : Fin cfg0.N, (cfg0.win 4).index t = ![t.val % 33, 0] := idx1
theorem idx5 : ∀ t : Fin cfg0.N, (cfg0.win 5).index t = ![0, 0, t.val / 33 + 16] := (by decide +kernel : ∀ t : Fin grid0.N, win0_5.index t = ![0, 0, t.val / 33 + 16])
theorem idx6 : ∀ t : Fin cfg0.N, (cfg0.win 6).index t = ![0, 0, t.val / 33 + 32] := (by decide +kernel : ∀ t : Fin grid0.N, win0_6.index t = ![0, 0, t.val / 33 + 32])
theorem idx7 : ∀ t : Fin cfg0.N, (cfg0.win 7).index t = ![0, 0, t.val / 33] := idx0
theorem idx8 : ∀ t : Fin cfg0.N, (cfg0.win 8).index t = ![0, 0, t.val / 33 + 16] := idx5
theorem idx9 : ∀ t : Fin cfg0.N, (cfg0.win 9).index t = ![0, 0, t.val / 33 + 32] := idx6
theorem idx10 : ∀ t : Fin cfg0.N, (cfg0.win 10).index t = ![0, 0, t.val / 33] := idx0
theorem idx11 : ∀ t : Fin cfg0.N, (cfg0.win 11).index t = ![0, 0, t.val / 33] := idx0
theorem idx12 : ∀ t : Fin cfg0.N, (cfg0.win 12).index t = ![0, 0, t.val / 33] := idx0
theorem idx13 : ∀ t : Fin cfg0.N, (cfg0.win 13).index t = ![t.val % 33, t.val / 33] := (by decide +kernel : ∀ t : Fin grid0.N, win0_13.index t = ![t.val % 33, t.val / 33])

/-- The rows of the row block. -/
theorem rows1 (r : Fin 512) (d : Fin 4096) (R : Fin 16896) (hR : R.val = t.val % 33 * 512 + r.val) :
    iblk m 0 1 t (ix2 r d) = m (((0 : Dev nD) : Thread nD τ).loc main_arg0) (ix2 R d) := by
  rw [← V_main_arg0 m 0]
  blk_ext [iblk, idx1 t]
theorem rows2 (r : Fin 512) (d : Fin 1024) (R : Fin 16896) (hR : R.val = t.val % 33 * 512 + r.val) :
    iblk m 0 2 t (ix2 r d) = m (((0 : Dev nD) : Thread nD τ).loc main_arg1) (ix2 R d) := by
  rw [← V_main_arg1 m 0]
  blk_ext [iblk, idx2 t]
theorem rows3 (r : Fin 512) (d : Fin 1024) (R : Fin 16896) (hR : R.val = t.val % 33 * 512 + r.val) :
    iblk m 0 3 t (ix2 r d) = m (((0 : Dev nD) : Thread nD τ).loc main_arg2) (ix2 R d) := by
  rw [← V_main_arg2 m 0]
  blk_ext [iblk, idx3 t]
theorem rows4 (r : Fin 512) (d : Fin 2048) (R : Fin 16896) (hR : R.val = t.val % 33 * 512 + r.val) :
    iblk m 0 4 t (ix2 r d) = m (((0 : Dev nD) : Thread nD τ).loc main_arg3) (ix2 R d) := by
  rw [← V_main_arg3 m 0]
  blk_ext [iblk, idx4 t]

/-- The columns of the gates' weights. -/
theorem gate0 (d : Fin 4096) (k : Fin 256) (K : Fin 12288) (hK : K.val = t.val / 33 * 256 + k.val) :
    iblk m 0 0 t (ix3 0 d k) = m (((0 : Dev nD) : Thread nD τ).loc main_arg4) (ix3 0 d K) := by
  rw [← V_main_arg4 m 0]
  blk_ext [iblk, idx0 t]
theorem gate5 (d : Fin 4096) (k : Fin 256) (K : Fin 12288) (hK : K.val = (t.val / 33 + 16) * 256 + k.val) :
    iblk m 0 5 t (ix3 0 d k) = m (((0 : Dev nD) : Thread nD τ).loc main_arg4) (ix3 0 d K) := by
  rw [← V_main_arg4 m 0]
  blk_ext [iblk, idx5 t]
theorem gate6 (d : Fin 4096) (k : Fin 256) (K : Fin 12288) (hK : K.val = (t.val / 33 + 32) * 256 + k.val) :
    iblk m 0 6 t (ix3 0 d k) = m (((0 : Dev nD) : Thread nD τ).loc main_arg4) (ix3 0 d K) := by
  rw [← V_main_arg4 m 0]
  blk_ext [iblk, idx6 t]

/-- The biases, an axis longer. -/
theorem bias (l : Fin 2) (K : Fin 12288) :
    V m 0 main_v0 (ix3 l 0 K) = m (((0 : Dev nD) : Thread nD τ).loc main_arg5) (ix2 l K) := by
  have h : V m 0 main_v0 = shapeCast S2x1x12288 (m (((0 : Dev nD) : Thread nD τ).loc main_arg5)) shapeCasts_S2x12288_S2x1x12288 := by
    show StableHlo.after hostOps0 _ _ = _
    after_results_simp <;> rfl
  rw [h]
  pointwise []
theorem bias7 (k : Fin 256) (K : Fin 12288) (hK : K.val = t.val / 33 * 256 + k.val) :
    iblk m 0 7 t (ix3 0 0 k) = m (((0 : Dev nD) : Thread nD τ).loc main_arg5) (ix2 0 K) := by
  rw [← bias m 0]
  blk_ext [iblk, idx7 t]
theorem bias8 (k : Fin 256) (K : Fin 12288) (hK : K.val = (t.val / 33 + 16) * 256 + k.val) :
    iblk m 0 8 t (ix3 0 0 k) = m (((0 : Dev nD) : Thread nD τ).loc main_arg5) (ix2 0 K) := by
  rw [← bias m 0]
  blk_ext [iblk, idx8 t]
theorem bias9 (k : Fin 256) (K : Fin 12288) (hK : K.val = (t.val / 33 + 32) * 256 + k.val) :
    iblk m 0 9 t (ix3 0 0 k) = m (((0 : Dev nD) : Thread nD τ).loc main_arg5) (ix2 0 K) := by
  rw [← bias m 0]
  blk_ext [iblk, idx9 t]

/-- The columns of the branches' weights. -/
theorem weights10 (d : Fin 1024) (k : Fin 256) (K : Fin 4096) (hK : K.val = t.val / 33 * 256 + k.val) :
    iblk m 0 10 t (ix3 0 d k) = m (((0 : Dev nD) : Thread nD τ).loc main_arg6) (ix3 0 d K) := by
  rw [← V_main_arg6 m 0]
  blk_ext [iblk, idx10 t]
theorem weights11 (d : Fin 1024) (k : Fin 256) (K : Fin 4096) (hK : K.val = t.val / 33 * 256 + k.val) :
    iblk m 0 11 t (ix3 0 d k) = m (((0 : Dev nD) : Thread nD τ).loc main_arg7) (ix3 0 d K) := by
  rw [← V_main_arg7 m 0]
  blk_ext [iblk, idx11 t]
theorem weights12 (d : Fin 2048) (k : Fin 256) (K : Fin 4096) (hK : K.val = t.val / 33 * 256 + k.val) :
    iblk m 0 12 t (ix3 0 d k) = m (((0 : Dev nD) : Thread nD τ).loc main_arg8) (ix3 0 d K) := by
  rw [← V_main_arg8 m 0]
  blk_ext [iblk, idx12 t]

end Cert.MergeIdeal.Tiles

end
-- ==== Proof.Merge.Ref.lean ====
/- The reference of the merge as a list of host operations, run, and the value of its result over the extended reals. -/
module

public import proofs.«01_k».proof.Proof.Gen.MergeRefIdeal
public import Idealize.ShloMosaic.Lib.StableHlo.Run
public import Idealize.ShloMosaic.Lib.Quiescent
public import Idealize.ShloMosaic.Lib.Pointwise

@[expose] public section

set_option maxRecDepth 8192

noncomputable section

namespace Cert.MergeRefIdeal.Tiles

open Cert.MergeRefIdeal Cert.MergeRefIdeal.Gen Idealize Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg0 main_v0 ((extf .f32 · bitsLt_bf16_f32) : (⟨S16896x4096, .bf16⟩ : BufTy).Contents (Elt F) → (⟨S16896x4096, .f32⟩ : BufTy).Contents (Elt F)),
    unary main_arg4 main_v1 ((extractStridedSlice S1x4096x12288 ![0, 0, 0] · slices_S2x4096x12288_S1x4096x12288_0_0_0) : (⟨S2x4096x12288, .f32⟩ : BufTy).Contents (Elt F) → (⟨S1x4096x12288, .f32⟩ : BufTy).Contents (Elt F)),
    reshape main_v1 main_v2 (rfl : (.f32 : EltTy) = .f32) shapeCasts_S1x4096x12288_S4096x12288,
    binary main_v0 main_v2 main_v3 ((fun l r => Host.dotGeneral dot_S16896x4096_S4096x12288_S16896x12288_1_0_0_1_n_n none l r) : (⟨S16896x4096, .f32⟩ : BufTy).Contents (Elt F) → (⟨S4096x12288, .f32⟩ : BufTy).Contents (Elt F) → (⟨S16896x12288, .f32⟩ : BufTy).Contents (Elt F)),
    unary main_arg5 main_v4 ((extractStridedSlice S1x12288 ![0, 0] · slices_S2x12288_S1x12288_0_0) : (⟨S2x12288, .f32⟩ : BufTy).Contents (Elt F) → (⟨S1x12288, .f32⟩ : BufTy).Contents (Elt F)),
    reshape main_v4 main_v5 (rfl : (.f32 : EltTy) = .f32) shapeCasts_S1x12288_S12288,
    unary main_v5 main_v6 (broadcastInDim S1x12288 ![1] bcast_S12288_S1x12288_1 : (⟨S12288, .f32⟩ : BufTy).Contents (Elt F) → (⟨S1x12288, .f32⟩ : BufTy).Contents (Elt F)),
    unary main_v6 main_v7 (broadcastInDim S16896x12288 ![0, 1] bcast_S1x12288_S16896x12288_0_1 : (⟨S1x12288, .f32⟩ : BufTy).Contents (Elt F) → (⟨S16896x12288, .f32⟩ : BufTy).Contents (Elt F)),
    binary main_v3 main_v7 main_v8 (addf : (⟨S16896x12288, .f32⟩ : BufTy).Contents (Elt F) → (⟨S16896x12288, .f32⟩ : BufTy).Contents (Elt F) → (⟨S16896x12288, .f32⟩ : BufTy).Contents (Elt F)),
    unary main_v8 main_v9 (Host.negf : (⟨S16896x12288, .f32⟩ : BufTy).Contents (Elt F) → (⟨S16896x12288, .f32⟩ : BufTy).Contents (Elt F)),
    unary main_v9 main_v10 (Host.exp : (⟨S16896x12288, .f32⟩ : BufTy).Contents (Elt F) → (⟨S16896x12288, .f32⟩ : BufTy).Contents (Elt F)),
    nullary main_cst (constant S_ .f32 0x3F800000#32),
    unary main_cst main_v11 (broadcastInDim S16896x12288 ![] bcast_S_S16896x12288 : (⟨S_, .f32⟩ : BufTy).Contents (Elt F) → (⟨S16896x12288, .f32⟩ : BufTy).Contents (Elt F)),
    binary main_v11 main_v10 main_v12 (addf : (⟨S16896x12288, .f32⟩ : BufTy).Contents (Elt F) → (⟨S16896x12288, .f32⟩ : BufTy).Contents (Elt F) → (⟨S16896x12288, .f32⟩ : BufTy).Contents (Elt F)),
    nullary main_cst_0 (constant S_ .f32 0x3F800000#32),
    unary main_cst_0 main_v13 (broadcastInDim S16896x12288 ![] bcast_S_S16896x12288 : (⟨S_, .f32⟩ : BufTy).Contents (Elt F) → (⟨S16896x12288, .f32⟩ : BufTy).Contents (Elt F)),
    binary main_v13 main_v12 main_v14 (Host.divf : (⟨S16896x12288, .f32⟩ : BufTy).Contents (Elt F) → (⟨S16896x12288, .f32⟩ : BufTy).Contents (Elt F) → (⟨S16896x12288, .f32⟩ : BufTy).Contents (Elt F)),
    unary main_v14 main_v15 ((extractStridedSlice S16896x4096 ![0, 0] · slices_S16896x12288_S16896x4096_0_0) : (⟨S16896x12288, .f32⟩ : BufTy).Contents (Elt F) → (⟨S16896x4096, .f32⟩ : BufTy).Contents (Elt F)),
    unary main_arg1 main_v16 ((extf .f32 · bitsLt_bf16_f32) : (⟨S16896x1024, .bf16⟩ : BufTy).Contents (Elt F) → (⟨S16896x1024, .f32⟩ : BufTy).Contents (Elt F)),
    unary main_arg6 main_v17 ((extractStridedSlice S1x1024x4096 ![0, 0, 0] · slices_S2x1024x4096_S1x1024x4096_0_0_0) : (⟨S2x1024x4096, .f32⟩ : BufTy).Contents (Elt F) → (⟨S1x1024x4096, .f32⟩ : BufTy).Contents (Elt F)),
    reshape main_v17 main_v18 (rfl : (.f32 : EltTy) = .f32) shapeCasts_S1x1024x4096_S1024x4096,
    binary main_v16 main_v18 main_v19 ((fun l r => Host.dotGeneral dot_S16896x1024_S1024x4096_S16896x4096_1_0_0_1_n_n none l r) : (⟨S16896x1024, .f32⟩ : BufTy).Contents (Elt F) → (⟨S1024x4096, .f32⟩ : BufTy).Contents (Elt F) → (⟨S16896x4096, .f32⟩ : BufTy).Contents (Elt F)),
    binary main_v15 main_v19 main_v20 (mulf : (⟨S16896x4096, .f32⟩ : BufTy).Contents (Elt F) → (⟨S16896x4096, .f32⟩ : BufTy).Contents (Elt F) → (⟨S16896x4096, .f32⟩ : BufTy).Contents (Elt F)),
    unary main_v14 main_v21 ((extractStridedSlice S16896x4096 ![0, 4096] · slices_S16896x12288_S16896x4096_0_4096) : (⟨S16896x12288, .f32⟩ : BufTy).Contents (Elt F) → (⟨S16896x4096, .f32⟩ : BufTy).Contents (Elt F)),
    unary main_arg2 main_v22 ((extf .f32 · bitsLt_bf16_f32) : (⟨S16896x1024, .bf16⟩ : BufTy).Contents (Elt F) → (⟨S16896x1024, .f32⟩ : BufTy).Contents (Elt F)),
    unary main_arg7 main_v23 ((extractStridedSlice S1x1024x4096 ![0, 0, 0] · slices_S2x1024x4096_S1x1024x4096_0_0_0) : (⟨S2x1024x4096, .f32⟩ : BufTy).Contents (Elt F) → (⟨S1x1024x4096, .f32⟩ : BufTy).Contents (Elt F)),
    reshape main_v23 main_v24 (rfl : (.f32 : EltTy) = .f32) shapeCasts_S1x1024x4096_S1024x4096,
    binary main_v22 main_v24 main_v25 ((fun l r => Host.dotGeneral dot_S16896x1024_S1024x4096_S16896x4096_1_0_0_1_n_n none l r) : (⟨S16896x1024, .f32⟩ : BufTy).Contents (Elt F) → (⟨S1024x4096, .f32⟩ : BufTy).Contents (Elt F) → (⟨S16896x4096, .f32⟩ : BufTy).Contents (Elt F)),
    binary main_v21 main_v25 main_v26 (mulf : (⟨S16896x4096, .f32⟩ : BufTy).Contents (Elt F) → (⟨S16896x4096, .f32⟩ : BufTy).Contents (Elt F) → (⟨S16896x4096, .f32⟩ : BufTy).Contents (Elt F)),
    binary main_v20 main_v26 main_v27 (addf : (⟨S16896x4096, .f32⟩ : BufTy).Contents (Elt F) → (⟨S16896x4096, .f32⟩ : BufTy).Contents (Elt F) → (⟨S16896x4096, .f32⟩ : BufTy).Contents (Elt F)),
    unary main_v14 main_v28 ((extractStridedSlice S16896x4096 ![0, 8192] · slices_S16896x12288_S16896x4096_0_8192) : (⟨S16896x12288, .f32⟩ : BufTy).Contents (Elt F) → (⟨S16896x4096, .f32⟩ : BufTy).Contents (Elt F)),
    unary main_arg3 main_v29 ((extf .f32 · bitsLt_bf16_f32) : (⟨S16896x2048, .bf16⟩ : BufTy).Contents (Elt F) → (⟨S16896x2048, .f32⟩ : BufTy).Contents (Elt F)),
    unary main_arg8 main_v30 ((extractStridedSlice S1x2048x4096 ![0, 0, 0] · slices_S2x2048x4096_S1x2048x4096_0_0_0) : (⟨S2x2048x4096, .f32⟩ : BufTy).Contents (Elt F) → (⟨S1x2048x4096, .f32⟩ : BufTy).Contents (Elt F)),
    reshape main_v30 main_v31 (rfl : (.f32 : EltTy) = .f32) shapeCasts_S1x2048x4096_S2048x4096,
    binary main_v29 main_v31 main_v32 ((fun l r => Host.dotGeneral dot_S16896x2048_S2048x4096_S16896x4096_1_0_0_1_n_n none l r) : (⟨S16896x2048, .f32⟩ : BufTy).Contents (Elt F) → (⟨S2048x4096, .f32⟩ : BufTy).Contents (Elt F) → (⟨S16896x4096, .f32⟩ : BufTy).Contents (Elt F)),
    binary main_v28 main_v32 main_v33 (mulf : (⟨S16896x4096, .f32⟩ : BufTy).Contents (Elt F) → (⟨S16896x4096, .f32⟩ : BufTy).Contents (Elt F) → (⟨S16896x4096, .f32⟩ : BufTy).Contents (Elt F)),
    binary main_v27 main_v33 main_v34 (addf : (⟨S16896x4096, .f32⟩ : BufTy).Contents (Elt F) → (⟨S16896x4096, .f32⟩ : BufTy).Contents (Elt F) → (⟨S16896x4096, .f32⟩ : BufTy).Contents (Elt F)),
    unary main_v34 main_v35 ((truncf .bf16 · bitsLt_bf16_f32) : (⟨S16896x4096, .f32⟩ : BufTy).Contents (Elt F) → (⟨S16896x4096, .bf16⟩ : BufTy).Contents (Elt F)) ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., reshape_bufs_sub .., binary_bufs_sub .., binary_bufs_sub .., unary_bufs_sub .., unary_bufs_sub .., unary_bufs_sub .., reshape_bufs_sub .., binary_bufs_sub .., binary_bufs_sub .., binary_bufs_sub .., unary_bufs_sub .., unary_bufs_sub .., unary_bufs_sub .., reshape_bufs_sub .., binary_bufs_sub .., binary_bufs_sub .., binary_bufs_sub .., unary_bufs_sub ..⟩

/-- The three gates of every row, side by side. -/
def gates (H : FVec F S16896x4096 .bf16) (W : FVec F S2x4096x12288 .f32) (B : FVec F S2x12288 .f32) : FVec F S16896x12288 .f32 :=
  Host.divf (broadcastInDim S16896x12288 ![] bcast_S_S16896x12288 (constant S_ .f32 0x3F800000#32))
    (addf (broadcastInDim S16896x12288 ![] bcast_S_S16896x12288 (constant S_ .f32 0x3F800000#32))
      (Host.exp (Host.negf (addf
        (Host.dotGeneral dot_S16896x4096_S4096x12288_S16896x12288_1_0_0_1_n_n none (extf .f32 H bitsLt_bf16_f32)
          (shapeCast _ (extractStridedSlice S1x4096x12288 ![0, 0, 0] W slices_S2x4096x12288_S1x4096x12288_0_0_0) shapeCasts_S1x4096x12288_S4096x12288))
        (broadcastInDim S16896x12288 ![0, 1] bcast_S1x12288_S16896x12288_0_1 (broadcastInDim S1x12288 ![1] bcast_S12288_S1x12288_1
          (shapeCast _ (extractStridedSlice S1x12288 ![0, 0] B slices_S2x12288_S1x12288_0_0) shapeCasts_S1x12288_S12288)))))))

/-- A branch of 1024 columns times its weights, and the one of 2048. -/
def narrow (X : FVec F S16896x1024 .bf16) (W : FVec F S2x1024x4096 .f32) : FVec F S16896x4096 .f32 :=
  Host.dotGeneral dot_S16896x1024_S1024x4096_S16896x4096_1_0_0_1_n_n none (extf .f32 X bitsLt_bf16_f32)
    (shapeCast _ (extractStridedSlice S1x1024x4096 ![0, 0, 0] W slices_S2x1024x4096_S1x1024x4096_0_0_0) shapeCasts_S1x1024x4096_S1024x4096)
def wide (X : FVec F S16896x2048 .bf16) (W : FVec F S2x2048x4096 .f32) : FVec F S16896x4096 .f32 :=
  Host.dotGeneral dot_S16896x2048_S2048x4096_S16896x4096_1_0_0_1_n_n none (extf .f32 X bitsLt_bf16_f32)
    (shapeCast _ (extractStridedSlice S1x2048x4096 ![0, 0, 0] W slices_S2x2048x4096_S1x2048x4096_0_0_0) shapeCasts_S1x2048x4096_S2048x4096)

/-- The three branches added, each times its gate. -/
def total (g : FVec F S16896x12288 .f32) (x y z : FVec F S16896x4096 .f32) : FVec F S16896x4096 .bf16 :=
  truncf .bf16 (addf (addf (mulf (extractStridedSlice S16896x4096 ![0, 0] g slices_S16896x12288_S16896x4096_0_0) x)
      (mulf (extractStridedSlice S16896x4096 ![0, 4096] g slices_S16896x12288_S16896x4096_0_4096) y))
    (mulf (extractStridedSlice S16896x4096 ![0, 8192] g slices_S16896x12288_S16896x4096_0_8192) z)) bitsLt_bf16_f32

/-- The result, of the arguments. -/
def out (H : FVec F S16896x4096 .bf16) (X Y : FVec F S16896x1024 .bf16) (Z : FVec F S16896x2048 .bf16) (W : FVec F S2x4096x12288 .f32)
    (B : FVec F S2x12288 .f32) (U V : FVec F S2x1024x4096 .f32) (T : FVec F S2x2048x4096 .f32) : FVec F S16896x4096 .bf16 :=
  total (gates H W B) (narrow X U) (narrow Y V) (wide Z T)

set_option maxHeartbeats 32800000 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v35).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

/-- One gate of a row. -/
def gate (H : FVec Ideal S16896x4096 .bf16) (W : FVec Ideal S2x4096x12288 .f32) (B : FVec Ideal S2x12288 .f32) (R : Fin 16896) (J : Fin 12288) : EReal :=
  Ideal.logistic ((∑ d : Fin 4096, H (ix2 R d) * W (ix3 0 d J)) + B (ix2 0 J))

theorem gates_at (H : FVec Ideal S16896x4096 .bf16) (W : FVec Ideal S2x4096x12288 .f32) (B : FVec Ideal S2x12288 .f32) (R : Fin 16896) (J : Fin 12288) :
    gates H W B (ix2 R J) = gate H W B R J := by
  pointwise [gates]
  rfl
theorem narrow_at (X : FVec Ideal S16896x1024 .bf16) (W : FVec Ideal S2x1024x4096 .f32) (R : Fin 16896) (K : Fin 4096) :
    narrow X W (ix2 R K) = ∑ d : Fin 1024, X (ix2 R d) * W (ix3 0 d K) := by
  pointwise [narrow]
theorem wide_at (X : FVec Ideal S16896x2048 .bf16) (W : FVec Ideal S2x2048x4096 .f32) (R : Fin 16896) (K : Fin 4096) :
    wide X W (ix2 R K) = ∑ d : Fin 2048, X (ix2 R d) * W (ix3 0 d K) := by
  pointwise [wide]

/-- The column of branch `b`'s gate for column `K` of the result. -/
def nth (b : Fin 3) (K : Fin 4096) : Fin 12288 := ⟨b.val * 4096 + K.val, by omega⟩

theorem total_at (g : FVec Ideal S16896x12288 .f32) (x y z : FVec Ideal S16896x4096 .f32) (R : Fin 16896) (K : Fin 4096) :
    total g x y z (ix2 R K) = g (ix2 R (nth 0 K)) * x (ix2 R K) + g (ix2 R (nth 1 K)) * y (ix2 R K) + g (ix2 R (nth 2 K)) * z (ix2 R K) := by
  pointwise [total]
  have h : nth 0 K = ⟨K.val, by omega⟩ := Fin.ext (Nat.zero_add _)
  rw [h]
  rfl

/-- An element of the result. -/
def merged (H : FVec Ideal S16896x4096 .bf16) (X Y : FVec Ideal S16896x1024 .bf16) (Z : FVec Ideal S16896x2048 .bf16) (W : FVec Ideal S2x4096x12288 .f32)
    (B : FVec Ideal S2x12288 .f32) (U V : FVec Ideal S2x1024x4096 .f32) (T : FVec Ideal S2x2048x4096 .f32) (R : Fin 16896) (K : Fin 4096) : EReal :=
  gate H W B R (nth 0 K) * (∑ d : Fin 1024, X (ix2 R d) * U (ix3 0 d K)) + gate H W B R (nth 1 K) * (∑ d : Fin 1024, Y (ix2 R d) * V (ix3 0 d K))
    + gate H W B R (nth 2 K) * ∑ d : Fin 2048, Z (ix2 R d) * T (ix3 0 d K)

/-- The reference's result. -/
theorem out_at (H : FVec Ideal S16896x4096 .bf16) (X Y : FVec Ideal S16896x1024 .bf16) (Z : FVec Ideal S16896x2048 .bf16) (W : FVec Ideal S2x4096x12288 .f32)
    (B : FVec Ideal S2x12288 .f32) (U V : FVec Ideal S2x1024x4096 .f32) (T : FVec Ideal S2x2048x4096 .f32) (R : Fin 16896) (K : Fin 4096) :
    out H X Y Z W B U V T (ix2 R K) = merged H X Y Z W B U V T R K := by
  refine (total_at _ _ _ _ R K).trans ?_
  rw [gates_at, gates_at, gates_at, narrow_at, narrow_at, wide_at]
  rfl

end Cert.MergeRefIdeal.Tiles

end
-- ==== Proof.Carry.lean ====
/- A value kept between the points of a grid whose columns are `p` points each: a column's first point makes it, the others
   use the one they find. What holds of the value each column's points would make holds of the value they use. And the rows' and columns' products, term by term. -/
module

public import Mathlib.Data.Fin.Basic
public import Mathlib.Tactic.Common
public import Mathlib.Data.EReal.Operations
public import Mathlib.Algebra.BigOperators.Fin

@[expose] public section

namespace Cert.Carry

/-- `o n` is what point `n` leaves, its result and the value kept; `a n` is the value point `n` would make; `b n s` is its
    result from the value `s`. -/
theorem carried {α β : Type} {N p : ℕ} (o : (n : ℕ) → n < N → β × α) (a : Fin N → α) (b : Fin N → α → β)
    (first : ∀ t : Fin N, t.val % p = 0 → o t.val t.isLt = (b t (a t), a t))
    (later : ∀ t : Fin N, ¬t.val % p = 0 → o t.val t.isLt =
      (b t (o (t.val - 1) (Nat.lt_of_le_of_lt (Nat.sub_le _ _) t.isLt)).2, (o (t.val - 1) (Nat.lt_of_le_of_lt (Nat.sub_le _ _) t.isLt)).2))
    (P : ℕ → α → Prop) (hP : ∀ t : Fin N, P (t.val / p) (a t)) :
    ∀ (n : ℕ) (hn : n < N), ∃ s, P (n / p) s ∧ o n hn = (b ⟨n, hn⟩ s, s)
  | 0, hn => ⟨_, hP ⟨0, hn⟩, first ⟨0, hn⟩ (Nat.zero_mod p)⟩
  | n + 1, hn => by
    by_cases h : (n + 1) % p = 0
    · exact ⟨_, hP ⟨n + 1, hn⟩, first ⟨n + 1, hn⟩ h⟩
    · obtain ⟨s, hs, he⟩ := carried o a b first later P hP n (Nat.lt_of_succ_lt hn)
      have hd : (n + 1) / p = n / p := by rw [Nat.succ_div, if_neg fun hp => h (Nat.mod_eq_zero_of_dvd hp), Nat.add_zero]
      have hk : (o n (Nat.lt_of_succ_lt hn)).2 = s := congrArg Prod.snd he
      exact ⟨s, hd ▸ hs, (later ⟨n + 1, hn⟩ h).trans (hk ▸ rfl)⟩

/-- Two sums of products are equal if their terms' factors are. -/
theorem dots {n : ℕ} {f f' g g' : Fin n → EReal} (hf : ∀ d, f d = f' d) (hg : ∀ d, g d = g' d) : (∑ d, f d * g d) = ∑ d, f' d * g' d :=
  Finset.sum_congr rfl fun d _ => congrArg₂ (· * ·) (hf d) (hg d)

end Cert.Carry
-- ==== Proof.Merge.Tile.lean ====
/- The block a grid point of the merge leaves, over the extended reals, element by element, and the array they make up. -/
module

public import proofs.«01_k».proof.Proof.Merge.Blocks
public import proofs.«01_k».proof.Proof.Merge.Ref
public import proofs.«01_k».proof.Proof.Carry
public import Idealize.ShloMosaic.Lib.Pipeline.Value
public import Idealize.ShloMosaic.Lib.Pipeline.Covers

@[expose] public section

set_option maxRecDepth 16384

noncomputable section

namespace Cert.MergeIdeal.Tiles

open Cert.MergeIdeal Cert.MergeIdeal.Gen Idealize Idealize.ShloMosaic Idealize.ShloMosaic.TcCoe Idealize.SL.Sem
open Idealize.ShloMosaic.Pipeline (Dat)
open Cert.MergeRefIdeal.Tiles (merged gate nth)

theorem gate_at (X : Vec Ideal S512x4096 .bf16) (A : Vec Ideal S4096x256 .bf16) (b : Vec Ideal S1x1x256 .f32) (r : Fin 512) (k : Fin 256) :
    k0_pay8 X A b (ix2 r k) = Ideal.logistic ((∑ d, X (ix2 r d) * A (ix2 d k)) + b (ix3 0 0 k)) := by
  pointwise [k0_pay8]
theorem merge_at (X : Vec Ideal S512x4096 .bf16) (g : FVec Ideal S512x256 .f32) (x : Vec Ideal S512x1024 .bf16) (u : Vec Ideal S1024x256 .bf16)
    (A : Vec Ideal S4096x256 .bf16) (b : Vec Ideal S1x1x256 .f32) (y : Vec Ideal S512x1024 .bf16) (v : Vec Ideal S1024x256 .bf16)
    (A' : Vec Ideal S4096x256 .bf16) (b' : Vec Ideal S1x1x256 .f32) (z : Vec Ideal S512x2048 .bf16) (w : Vec Ideal S2048x256 .bf16) (r : Fin 512) (k : Fin 256) :
    k0_pay1 X g x u A b y v A' b' z w (ix2 r k)
      = g (ix2 r k) * (∑ d, x (ix2 r d) * u (ix2 d k))
        + Ideal.logistic ((∑ d, X (ix2 r d) * A (ix2 d k)) + b (ix3 0 0 k)) * (∑ d, y (ix2 r d) * v (ix2 d k))
        + Ideal.logistic ((∑ d, X (ix2 r d) * A' (ix2 d k)) + b' (ix3 0 0 k)) * ∑ d, z (ix2 r d) * w (ix2 d k) := by
  pointwise [k0_pay1]

theorem pay2_at (W : Vec Ideal S1x4096x256 .f32) (d : Fin 4096) (k : Fin 256) : k0_pay2 W (ix2 d k) = W (ix3 0 d k) := by
  pointwise [k0_pay2]
theorem pay5_at (W : Vec Ideal S1x1024x256 .f32) (d : Fin 1024) (k : Fin 256) : k0_pay5 W (ix2 d k) = W (ix3 0 d k) := by
  pointwise [k0_pay5]
theorem pay7_at (W : Vec Ideal S1x2048x256 .f32) (d : Fin 2048) (k : Fin 256) : k0_pay7 W (ix2 d k) = W (ix3 0 d k) := by
  pointwise [k0_pay7]

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x4096.Idx) : EReal :=
  merged (arg m main_arg0) (arg m main_arg1) (arg m main_arg2) (arg m main_arg3) (arg m main_arg4) (arg m main_arg5) (arg m main_arg6)
    (arg m main_arg7) (arg m main_arg8) (i 0) (i 1)

/-- The weights held are the arguments' columns of column block `j`. -/
structure Columns (j : ℕ) (s : Held Ideal) : Prop where
  gate0 : ∀ (d : Fin 4096) (k : Fin 256) (K : Fin 4096), K.val = j * 256 + k.val → s.1 (ix2 d k) = arg m main_arg4 (ix3 0 d (nth 0 K))
  gate1 : ∀ (d : Fin 4096) (k : Fin 256) (K : Fin 4096), K.val = j * 256 + k.val → s.2.1 (ix2 d k) = arg m main_arg4 (ix3 0 d (nth 1 K))
  gate2 : ∀ (d : Fin 4096) (k : Fin 256) (K : Fin 4096), K.val = j * 256 + k.val → s.2.2.1 (ix2 d k) = arg m main_arg4 (ix3 0 d (nth 2 K))
  branch0 : ∀ (d : Fin 1024) (k : Fin 256) (K : Fin 4096), K.val = j * 256 + k.val → s.2.2.2.1 (ix2 d k) = arg m main_arg6 (ix3 0 d K)
  branch1 : ∀ (d : Fin 1024) (k : Fin 256) (K : Fin 4096), K.val = j * 256 + k.val → s.2.2.2.2.1 (ix2 d k) = arg m main_arg7 (ix3 0 d K)
  branch2 : ∀ (d : Fin 2048) (k : Fin 256) (K : Fin 4096), K.val = j * 256 + k.val → s.2.2.2.2.2 (ix2 d k) = arg m main_arg8 (ix3 0 d K)

theorem nth_val (b : Fin 3) (K : Fin 4096) : (nth b K).val = b.val * 4096 + K.val := rfl

theorem columns (t : Fin cfg0.N) : Columns m (t.val / 33) (rounded m t) where
  gate0 d k K hK := (pay2_at (iblk m 0 0 t) d k).trans (gate0 m t d k (nth 0 K) (by rw [nth_val]; omega))
  gate1 d k K hK := (pay2_at (iblk m 0 5 t) d k).trans (gate5 m t d k (nth 1 K) (by rw [nth_val]; omega))
  gate2 d k K hK := (pay2_at (iblk m 0 6 t) d k).trans (gate6 m t d k (nth 2 K) (by rw [nth_val]; omega))
  branch0 d k K hK := (pay5_at (iblk m 0 10 t) d k).trans (weights10 m t d k K (by omega))
  branch1 d k K hK := (pay5_at (iblk m 0 11 t) d k).trans (weights11 m t d k K (by omega))
  branch2 d k K hK := (pay7_at (iblk m 0 12 t) d k).trans (weights12 m t d k K (by omega))

/-- One element of the block a point leaves. -/
theorem point (t : Fin cfg0.N) (r : Fin 512) (k : Fin 256) (R : Fin 16896) (K : Fin 4096)
    (hR : R.val = t.val % 33 * 512 + r.val) (hK : K.val = t.val / 33 * 256 + k.val) :
    (outsAt0 m 0 t.val t.isLt).1 (ix2 r k) = result m (ix2 R K) := by
  have ht : t.val < 528 := Nat.lt_of_lt_of_eq t.isLt N_0
  obtain ⟨s, hs, he⟩ := Cert.Carry.carried (outsAt0 m 0) (rounded m) (merge m) (first m) (later m) (Columns m) (columns m) t.val t.isLt
  rw [he]
  refine (merge_at _ _ _ _ _ _ _ _ _ _ _ _ r k).trans ?_
  have prod : ∀ {n : ℕ} {f f' g g' : Fin n → EReal}, (∀ d, f d = f' d) → (∀ d, g d = g' d) → (∑ d, f d * g d) = ∑ d, f' d * g' d :=
    fun hf hg => Finset.sum_congr rfl fun d _ => congrArg₂ (· * ·) (hf d) (hg d)
  refine congrArg₂ (· + ·) (congrArg₂ (· + ·) (congrArg₂ (· * ·) ?_ ?_) (congrArg₂ (· * ·) ?_ ?_)) (congrArg₂ (· * ·) ?_ ?_)
  · exact (gate_at _ _ _ r k).trans (congrArg Ideal.logistic (congrArg₂ (· + ·)
      (prod (fun d => rows1 m t r d R hR) fun d => hs.gate0 d k K hK) (bias7 m t k (nth 0 K) (by rw [nth_val]; omega))))
  · exact prod (fun d => rows2 m t r d R hR) fun d => hs.branch0 d k K hK
  · exact congrArg Ideal.logistic (congrArg₂ (· + ·)
      (prod (fun d => rows1 m t r d R hR) fun d => hs.gate1 d k K hK) (bias8 m t k (nth 1 K) (by rw [nth_val]; omega)))
  · exact prod (fun d => rows3 m t r d R hR) fun d => hs.branch1 d k K hK
  · exact congrArg Ideal.logistic (congrArg₂ (· + ·)
      (prod (fun d => rows1 m t r d R hR) fun d => hs.gate2 d k K hK) (bias9 m t k (nth 2 K) (by rw [nth_val]; omega)))
  · exact prod (fun d => rows4 m t r d R hR) fun d => hs.branch2 d k K hK

/-- Every block of the result is some point's. -/
theorem covers : (cfg0.win 13).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 16 := Nat.lt_of_lt_of_eq (β (1 : Fin 2)).isLt (by show (4096 + 256 - 1) / 256 = 16; rfl)
  refine ⟨⟨(β (1 : Fin 2)).val * 33 + (β (0 : Fin 2)).val, Nat.lt_of_lt_of_eq (by omega) N_0.symm⟩, fun a => ?_⟩
  rw [idx13]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 13 cfg0.N = result m := by
  refine (dats m 0 0).arrAt_eq_of_covers 13 _ covers fun t _ (y : S512x256.Idx) => ?_
  blk_simp
  rw [after0_13]
  have hy : y = ix2 (y 0) (y 1) := funext fun a => by fin_cases a <;> rfl
  have h0 : (y 0).val < 512 := (y 0).isLt
  have h1 : (y 1).val < 256 := (y 1).isLt
  have ht : t.val < 528 := Nat.lt_of_lt_of_eq t.isLt N_0
  have hR : t.val % 33 * 512 + (y 0).val < 16896 := by omega
  have hK : t.val / 33 * 256 + (y 1).val < 4096 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 4096) = ((cfg0.win 13).blk t).view.emb y)
  blk_ext [idx13 t]

end Cert.MergeIdeal.Tiles

end
-- ==== Proof.Merge.Claims.lean ====
/- The claims of the merge: the reference's frame, and that over the extended reals kernel and reference leave the same
   array. -/
module

public import proofs.«01_k».proof.Defs
public import proofs.«01_k».proof.Proof.Merge.Tile
public import Idealize.ShloMosaic.Lib.Quiescent

@[expose] public section

set_option maxRecDepth 16384

noncomputable section

namespace Cert.Proof.Merge

open Idealize Idealize.ShloMosaic Idealize.ShloMosaic.TcCoe Idealize.SL.Sem Cert.MergeIdeal.Tiles

attribute [local instance] Cert.MergeIdeal.Gen.facts Cert.MergeRefIdeal.Gen.facts

/-- The reference runs to the end and keeps its arguments; it has no semaphores. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Tiles.run m ρ)

/-- Over the extended reals the kernel's array is the reference's. -/
theorem algebraic : Cert.algebraic_MergeIdeal_MergeRefIdeal := by
  intro m g m' g' hp hagree
  refine ⟨fun c => (Cert.MergeIdeal.Gen.dats m 0 c).arrAt 13 Cert.MergeIdeal.cfg0.N,
    (θ_run Cert.MergeIdeal.defs _ _).mono (fun r h c => ⟨(h.1 c).1 13, h.2 c⟩)
      (θ_run_and (Cert.MergeIdeal.Gen.run_main m g) (Cert.MergeIdeal.Gen.unchanged m g)), ?_⟩
  refine (θ_run Cert.MergeRefIdeal.defs _ _).mono (fun _ h c => ⟨(h c).1.trans ?_, (h c).2⟩)
    (Cert.MergeRefIdeal.Tiles.run m' g')
  obtain rfl : c = 0 := Subsingleton.elim _ _
  obtain ⟨h0, h1, h2, h3, h4, h5, h6, h7, h8⟩ := hagree 0
  rw [h0, h1, h2, h3, h4, h5, h6, h7, h8]
  refine Eq.trans (funext fun y => ?_) (final m).symm
  have hy : y = ix2 (y 0) (y 1) := funext fun a => by fin_cases a <;> rfl
  exact (congrArg _ hy).trans (Cert.MergeRefIdeal.Tiles.out_at _ _ _ _ _ _ _ _ _ (y 0) (y 1))

end Cert.Proof.Merge

end
-- ==== Proof.Dense.Ref.lean ====
/- The reference of the dense gated product as a list of host operations, run, and the value of its result over the
   extended reals. -/
module

public import proofs.«01_k».proof.Proof.Gen.DenseRefIdeal
public import Idealize.ShloMosaic.Lib.StableHlo.Run
public import Idealize.ShloMosaic.Lib.Quiescent
public import Idealize.ShloMosaic.Lib.Pointwise

@[expose] public section

set_option maxRecDepth 8192

noncomputable section

namespace Cert.DenseRefIdeal.Tiles

open Cert.DenseRefIdeal Cert.DenseRefIdeal.Gen Idealize Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg0 main_v0 ((extf .f32 · bitsLt_bf16_f32) : (⟨S16896x4096, .bf16⟩ : BufTy).Contents (Elt F) → (⟨S16896x4096, .f32⟩ : BufTy).Contents (Elt F)),
    reshape main_arg1 main_v1 (rfl : (.f32 : EltTy) = .f32) shapeCasts_S1x4096x6144_S4096x6144,
    binary main_v0 main_v1 main_v2 ((fun l r => Host.dotGeneral dot_S16896x4096_S4096x6144_S16896x6144_1_0_0_1_n_n none l r) : (⟨S16896x4096, .f32⟩ : BufTy).Contents (Elt F) → (⟨S4096x6144, .f32⟩ : BufTy).Contents (Elt F) → (⟨S16896x6144, .f32⟩ : BufTy).Contents (Elt F)),
    unary main_v2 main_v3 (Host.negf : (⟨S16896x6144, .f32⟩ : BufTy).Contents (Elt F) → (⟨S16896x6144, .f32⟩ : BufTy).Contents (Elt F)),
    unary main_v3 main_v4 (Host.exp : (⟨S16896x6144, .f32⟩ : BufTy).Contents (Elt F) → (⟨S16896x6144, .f32⟩ : BufTy).Contents (Elt F)),
    nullary main_cst (constant S_ .f32 0x3F800000#32),
    unary main_cst main_v5 (broadcastInDim S16896x6144 ![] bcast_S_S16896x6144 : (⟨S_, .f32⟩ : BufTy).Contents (Elt F) → (⟨S16896x6144, .f32⟩ : BufTy).Contents (Elt F)),
    binary main_v5 main_v4 main_v6 (addf : (⟨S16896x6144, .f32⟩ : BufTy).Contents (Elt F) → (⟨S16896x6144, .f32⟩ : BufTy).Contents (Elt F) → (⟨S16896x6144, .f32⟩ : BufTy).Contents (Elt F)),
    nullary main_cst_0 (constant S_ .f32 0x3F800000#32),
    unary main_cst_0 main_v7 (broadcastInDim S16896x6144 ![] bcast_S_S16896x6144 : (⟨S_, .f32⟩ : BufTy).Contents (Elt F) → (⟨S16896x6144, .f32⟩ : BufTy).Contents (Elt F)),
    binary main_v7 main_v6 main_v8 (Host.divf : (⟨S16896x6144, .f32⟩ : BufTy).Contents (Elt F) → (⟨S16896x6144, .f32⟩ : BufTy).Contents (Elt F) → (⟨S16896x6144, .f32⟩ : BufTy).Contents (Elt F)),
    binary main_v2 main_v8 main_v9 (mulf : (⟨S16896x6144, .f32⟩ : BufTy).Contents (Elt F) → (⟨S16896x6144, .f32⟩ : BufTy).Contents (Elt F) → (⟨S16896x6144, .f32⟩ : BufTy).Contents (Elt F)),
    reshape main_arg2 main_v10 (rfl : (.f32 : EltTy) = .f32) shapeCasts_S1x4096x6144_S4096x6144,
    binary main_v0 main_v10 main_v11 ((fun l r => Host.dotGeneral dot_S16896x4096_S4096x6144_S16896x6144_1_0_0_1_n_n none l r) : (⟨S16896x4096, .f32⟩ : BufTy).Contents (Elt F) → (⟨S4096x6144, .f32⟩ : BufTy).Contents (Elt F) → (⟨S16896x6144, .f32⟩ : BufTy).Contents (Elt F)),
    binary main_v9 main_v11 main_v12 (mulf : (⟨S16896x6144, .f32⟩ : BufTy).Contents (Elt F) → (⟨S16896x6144, .f32⟩ : BufTy).Contents (Elt F) → (⟨S16896x6144, .f32⟩ : BufTy).Contents (Elt F)),
    unary main_v12 main_v13 ((truncf .bf16 · bitsLt_bf16_f32) : (⟨S16896x6144, .f32⟩ : BufTy).Contents (Elt F) → (⟨S16896x6144, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., binary_bufs_sub .., binary_bufs_sub .., unary_bufs_sub ..⟩

/-- A product by one of the two weights. -/
def product (H : FVec F S16896x4096 .bf16) (W : FVec F S1x4096x6144 .f32) : FVec F S16896x6144 .f32 :=
  Host.dotGeneral dot_S16896x4096_S4096x6144_S16896x6144_1_0_0_1_n_n none (extf .f32 H bitsLt_bf16_f32) (shapeCast _ W shapeCasts_S1x4096x6144_S4096x6144)

/-- A product times its logistic times the other. -/
def gated (a b : FVec F S16896x6144 .f32) : FVec F S16896x6144 .bf16 :=
  truncf .bf16 (mulf (mulf a (Host.divf (broadcastInDim S16896x6144 ![] bcast_S_S16896x6144 (constant S_ .f32 0x3F800000#32))
    (addf (broadcastInDim S16896x6144 ![] bcast_S_S16896x6144 (constant S_ .f32 0x3F800000#32)) (Host.exp (Host.negf a))))) b) bitsLt_bf16_f32

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = gated (product (m ((c.tc : Thread nD τ).loc main_arg0)) (m ((c.tc : Thread nD τ).loc main_arg1)))
            (product (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (by after_results_simp <;> rfl), (h c main_arg0).trans (by after_results_simp <;> rfl),
      (h c main_arg1).trans (by after_results_simp <;> rfl), (h c main_arg2).trans (by after_results_simp <;> rfl)⟩)
    (run_seq scopedRefs_eq scopedSems_eq defs main (fun _ => ops) main_eq (fun _ => ops_sub) m ρ)

/-- An element of a product, and of the result. -/
def entry (H : FVec Ideal S16896x4096 .bf16) (W : FVec Ideal S1x4096x6144 .f32) (R : Fin 16896) (K : Fin 6144) : EReal :=
  ∑ d : Fin 4096, H (ix2 R d) * W (ix3 0 d K)
theorem product_at (H : FVec Ideal S16896x4096 .bf16) (W : FVec Ideal S1x4096x6144 .f32) (R : Fin 16896) (K : Fin 6144) :
    product H W (ix2 R K) = entry H W R K := by
  pointwise [product]
  rfl
theorem gated_at (a b : FVec Ideal S16896x6144 .f32) (R : Fin 16896) (K : Fin 6144) :
    gated a b (ix2 R K) = a (ix2 R K) * Ideal.logistic (a (ix2 R K)) * b (ix2 R K) := by
  pointwise [gated]
  rfl
theorem out_at (H : FVec Ideal S16896x4096 .bf16) (W W' : FVec Ideal S1x4096x6144 .f32) (R : Fin 16896) (K : Fin 6144) :
    gated (product H W) (product H W') (ix2 R K) = entry H W R K * Ideal.logistic (entry H W R K) * entry H W' R K := by
  rw [gated_at, product_at, product_at]

end Cert.DenseRefIdeal.Tiles

end
-- ==== Proof.Dense.Tile.lean ====
/- The dense gated product: what each grid point leaves, over the extended reals, element by element, and the array the
   points make up. The two weights' blocks are rounded at a column block's first point and kept for its others. -/
module

public import proofs.«01_k».proof.Proof.Gen.DenseIdeal.Frame
public import proofs.«01_k».proof.Proof.Dense.Ref
public import proofs.«01_k».proof.Proof.Carry
public import Idealize.ShloMosaic.Lib.VecWindow
public import Idealize.ShloMosaic.Lib.Pipeline.ValueKit
public import Idealize.ShloMosaic.Lib.Pipeline.ReadBack
public import Idealize.ShloMosaic.Lib.Pipeline.Value
public import Idealize.ShloMosaic.Lib.Pipeline.Covers

@[expose] public section

set_option maxRecDepth 16384

noncomputable section

namespace Cert.DenseIdeal.Tiles

open Cert.DenseIdeal Cert.DenseIdeal.Gen Idealize Idealize.ShloMosaic Idealize.ShloMosaic.TcCoe Idealize.ShloMosaic.View Idealize.SL.Sem
open Idealize.ShloMosaic.Pipeline (Dat)
open Cert.DenseRefIdeal.Tiles (entry)

section Steps

variable {F : FTy → Type} [FloatOps F]
variable (m : (ℓ : Loc nD τ sig) → Buf (Elt F) ℓ)

/-- The two weights' blocks at a point, rounded, and the block of the result from the weights held. -/
def rounded (t : Fin cfg0.N) : Vec F S4096x512 .bf16 × Vec F S4096x512 .bf16 := (k0_pay1 (iblk m 0 1 t), k0_pay2 (iblk m 0 2 t))
def block (t : Fin cfg0.N) (s : Vec F S4096x512 .bf16 × Vec F S4096x512 .bf16) : Vec F S512x512 .bf16 := k0_pay3 (iblk m 0 0 t) s.1 s.2

abbrev prev (t : Fin cfg0.N) := outsAt0 m 0 (t.val - 1) (Nat.lt_of_le_of_lt (Nat.sub_le _ _) t.isLt)

theorem first (t : Fin cfg0.N) (h : t.val % 33 = 0) : outsAt0 m 0 t.val t.isLt = (block m t (rounded m t), rounded m t) := by
  refine (outsAt0_A m 0 t h h).trans (Prod.ext ?_ (Prod.ext ?_ ?_))
  all_goals dsimp only
  all_goals frame_out [read_unread_whole]
  all_goals rfl
theorem later (t : Fin cfg0.N) (h : ¬t.val % 33 = 0) : outsAt0 m 0 t.val t.isLt = (block m t (prev m t).2, (prev m t).2) := by
  refine (outsAt0_B m 0 t h h).trans (Prod.ext ?_ rfl)
  dsimp only
  frame_out [read_unread_whole]
  rfl

theorem idx0 : ∀ t : Fin cfg0.N, (cfg0.win 0).index t = ![t.val % 33, 0] := (by decide +kernel : ∀ t : Fin grid0.N, win0_0.index t = ![t.val % 33, 0])
theorem idx1 : ∀ t : Fin cfg0.N, (cfg0.win 1).index t = ![0, 0, t.val / 33] := (by decide +kernel : ∀ t : Fin grid0.N, win0_1.index t = ![0, 0, t.val / 33])
theorem idx2 : ∀ t : Fin cfg0.N, (cfg0.win 2).index t = ![0, 0, t.val / 33] := idx1
theorem idx3 : ∀ t : Fin cfg0.N, (cfg0.win 3).index t = ![t.val % 33, t.val / 33] := (by decide +kernel : ∀ t : Fin grid0.N, win0_3.index t = ![t.val % 33, t.val / 33])

theorem rows (t : Fin cfg0.N) (r : Fin 512) (d : Fin 4096) (R : Fin 16896) (hR : R.val = t.val % 33 * 512 + r.val) :
    iblk m 0 0 t (ix2 r d) = m (((0 : Dev nD) : Thread nD τ).loc main_arg0) (ix2 R d) := by
  rw [← V_main_arg0 m 0]
  blk_ext [iblk, idx0 t]
theorem weights1 (t : Fin cfg0.N) (d : Fin 4096) (k : Fin 512) (K : Fin 6144) (hK : K.val = t.val / 33 * 512 + k.val) :
    iblk m 0 1 t (ix3 0 d k) = m (((0 : Dev nD) : Thread nD τ).loc main_arg1) (ix3 0 d K) := by
  rw [← V_main_arg1 m 0]
  blk_ext [iblk, idx1 t]
theorem weights2 (t : Fin cfg0.N) (d : Fin 4096) (k : Fin 512) (K : Fin 6144) (hK : K.val = t.val / 33 * 512 + k.val) :
    iblk m 0 2 t (ix3 0 d k) = m (((0 : Dev nD) : Thread nD τ).loc main_arg2) (ix3 0 d K) := by
  rw [← V_main_arg2 m 0]
  blk_ext [iblk, idx2 t]

end Steps

theorem round_at (W : Vec Ideal S1x4096x512 .f32) (d : Fin 4096) (k : Fin 512) : k0_pay1 W (ix2 d k) = W (ix3 0 d k) := by
  pointwise [k0_pay1]
theorem block_at (X : Vec Ideal S512x4096 .bf16) (A B : Vec Ideal S4096x512 .bf16) (r k : Fin 512) :
    k0_pay3 X A B (ix2 r k)
      = (∑ d, X (ix2 r d) * A (ix2 d k)) * Ideal.logistic (∑ d, X (ix2 r d) * A (ix2 d k)) * ∑ d, X (ix2 r d) * B (ix2 d k) := by
  pointwise [k0_pay3]

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x6144.Idx) : EReal :=
  entry (arg m main_arg0) (arg m main_arg1) (i 0) (i 1) * Ideal.logistic (entry (arg m main_arg0) (arg m main_arg1) (i 0) (i 1))
    * entry (arg m main_arg0) (arg m main_arg2) (i 0) (i 1)

/-- The weights held are the arguments' columns of column block `j`. -/
def Columns (j : ℕ) (s : Vec Ideal S4096x512 .bf16 × Vec Ideal S4096x512 .bf16) : Prop :=
  ∀ (d : Fin 4096) (k : Fin 512) (K : Fin 6144), K.val = j * 512 + k.val →
    s.1 (ix2 d k) = arg m main_arg1 (ix3 0 d K) ∧ s.2 (ix2 d k) = arg m main_arg2 (ix3 0 d K)

theorem columns (t : Fin cfg0.N) : Columns m (t.val / 33) (rounded m t) := fun d k K hK =>
  ⟨(round_at (iblk m 0 1 t) d k).trans (weights1 m t d k K hK), (round_at (iblk m 0 2 t) d k).trans (weights2 m t d k K hK)⟩

/-- One element of the block a point leaves. -/
theorem point (t : Fin cfg0.N) (r k : Fin 512) (R : Fin 16896) (K : Fin 6144)
    (hR : R.val = t.val % 33 * 512 + r.val) (hK : K.val = t.val / 33 * 512 + k.val) :
    (outsAt0 m 0 t.val t.isLt).1 (ix2 r k) = result m (ix2 R K) := by
  obtain ⟨s, hs, he⟩ := Cert.Carry.carried (outsAt0 m 0) (rounded m) (block m) (first m) (later m) (Columns m) (columns m) t.val t.isLt
  rw [he]
  refine (block_at (iblk m 0 0 t) s.1 s.2 r k).trans (congrArg₂ (· * ·) (congrArg₂ (· * ·) ?_ (congrArg Ideal.logistic ?_)) ?_)
  · exact Cert.Carry.dots (fun d => rows m t r d R hR) fun d => (hs d k K hK).1
  · exact Cert.Carry.dots (fun d => rows m t r d R hR) fun d => (hs d k K hK).1
  · exact Cert.Carry.dots (fun d => rows m t r d R hR) fun d => (hs d k K hK).2

/-- Every block of the result is some point's. -/
theorem covers : (cfg0.win 3).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 12 := Nat.lt_of_lt_of_eq (β (1 : Fin 2)).isLt (by show (6144 + 512 - 1) / 512 = 12; rfl)
  refine ⟨⟨(β (1 : Fin 2)).val * 33 + (β (0 : Fin 2)).val, Nat.lt_of_lt_of_eq (by omega) N_0.symm⟩, fun a => ?_⟩
  rw [idx3]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 3 cfg0.N = result m := by
  refine (dats m 0 0).arrAt_eq_of_covers 3 _ covers fun t _ (y : S512x512.Idx) => ?_
  blk_simp
  rw [after0_3]
  have hy : y = ix2 (y 0) (y 1) := funext fun a => by fin_cases a <;> rfl
  have h0 : (y 0).val < 512 := (y 0).isLt
  have h1 : (y 1).val < 512 := (y 1).isLt
  have ht : t.val < 396 := Nat.lt_of_lt_of_eq t.isLt N_0
  have hR : t.val % 33 * 512 + (y 0).val < 16896 := by omega
  have hK : t.val / 33 * 512 + (y 1).val < 6144 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 6144) = ((cfg0.win 3).blk t).view.emb y)
  blk_ext [idx3 t]

end Cert.DenseIdeal.Tiles

end
-- ==== Proof.Dense.Claims.lean ====
/- The claims of the dense gated product: the reference's frame, and that over the extended reals kernel and reference leave
   the same array. -/
module

public import proofs.«01_k».proof.Defs
public import proofs.«01_k».proof.Proof.Dense.Tile
public import Idealize.ShloMosaic.Lib.Quiescent

@[expose] public section

set_option maxRecDepth 16384

noncomputable section

namespace Cert.Proof.Dense

open Idealize Idealize.ShloMosaic Idealize.ShloMosaic.TcCoe Idealize.SL.Sem Cert.DenseIdeal.Tiles

attribute [local instance] Cert.DenseIdeal.Gen.facts Cert.DenseRefIdeal.Gen.facts

/-- The reference runs to the end and keeps its arguments; it has no semaphores. -/
theorem frame_ref : Cert.quiescent_DenseRefIdeal := fun m ρ _ =>
  (θ_run Cert.DenseRefIdeal.defs _ _).mono (fun r h => ⟨fun c => (h c).2, sem_eq_zero_of_no_sems (by decide) r.2⟩)
    (Cert.DenseRefIdeal.Tiles.run m ρ)

/-- Over the extended reals the kernel's array is the reference's. -/
theorem algebraic : Cert.algebraic_DenseIdeal_DenseRefIdeal := by
  intro m g m' g' hp hagree
  refine ⟨fun c => (Cert.DenseIdeal.Gen.dats m 0 c).arrAt 3 Cert.DenseIdeal.cfg0.N,
    (θ_run Cert.DenseIdeal.defs _ _).mono (fun r h c => ⟨(h.1 c).1 3, h.2 c⟩)
      (θ_run_and (Cert.DenseIdeal.Gen.run_main m g) (Cert.DenseIdeal.Gen.unchanged m g)), ?_⟩
  refine (θ_run Cert.DenseRefIdeal.defs _ _).mono (fun _ h c => ⟨(h c).1.trans ?_, (h c).2⟩)
    (Cert.DenseRefIdeal.Tiles.run m' g')
  obtain rfl : c = 0 := Subsingleton.elim _ _
  obtain ⟨h0, h1, h2⟩ := hagree 0
  rw [h0, h1, h2]
  refine Eq.trans (funext fun y => ?_) (final m).symm
  have hy : y = ix2 (y 0) (y 1) := funext fun a => by fin_cases a <;> rfl
  exact (congrArg _ hy).trans (Cert.DenseRefIdeal.Tiles.out_at _ _ _ (y 0) (y 1))

end Cert.Proof.Dense

end
-- ==== Proof.Glu.Ref.lean ====
/- The reference of the projection to the convolution's two inputs as a list of host operations, run, and the value of its
   result over the extended reals. -/
module

public import proofs.«01_k».proof.Proof.Gen.GluRefIdeal
public import Idealize.ShloMosaic.Lib.StableHlo.Run
public import Idealize.ShloMosaic.Lib.Quiescent
public import Idealize.ShloMosaic.Lib.Pointwise

@[expose] public section

set_option maxRecDepth 8192

noncomputable section

namespace Cert.GluRefIdeal.Tiles

open Cert.GluRefIdeal Cert.GluRefIdeal.Gen Idealize Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg0 main_v0 ((extf .f32 · bitsLt_bf16_f32) : (⟨S16896x4096, .bf16⟩ : BufTy).Contents (Elt F) → (⟨S16896x4096, .f32⟩ : BufTy).Contents (Elt F)),
    unary main_arg1 main_v1 ((extractStridedSlice S1x4096x2048 ![0, 0, 1024] · slices_S2x4096x9216_S1x4096x2048_0_0_1024) : (⟨S2x4096x9216, .f32⟩ : BufTy).Contents (Elt F) → (⟨S1x4096x2048, .f32⟩ : BufTy).Contents (Elt F)),
    reshape main_v1 main_v2 (rfl : (.f32 : EltTy) = .f32) shapeCasts_S1x4096x2048_S4096x2048,
    binary main_v0 main_v2 main_v3 ((fun l r => Host.dotGeneral dot_S16896x4096_S4096x2048_S16896x2048_1_0_0_1_n_n none l r) : (⟨S16896x4096, .f32⟩ : BufTy).Contents (Elt F) → (⟨S4096x2048, .f32⟩ : BufTy).Contents (Elt F) → (⟨S16896x2048, .f32⟩ : BufTy).Contents (Elt F)),
    unary main_v3 main_v4 ((truncf .bf16 · bitsLt_bf16_f32) : (⟨S16896x2048, .f32⟩ : BufTy).Contents (Elt F) → (⟨S16896x2048, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., binary_bufs_sub .., unary_bufs_sub ..⟩

/-- The result, of the arguments. -/
def out (H : FVec F S16896x4096 .bf16) (W : FVec F S2x4096x9216 .f32) : FVec F S16896x2048 .bf16 :=
  truncf .bf16 (Host.dotGeneral dot_S16896x4096_S4096x2048_S16896x2048_1_0_0_1_n_n none (extf .f32 H bitsLt_bf16_f32)
    (shapeCast _ (extractStridedSlice S1x4096x2048 ![0, 0, 1024] W slices_S2x4096x9216_S1x4096x2048_0_0_1024) shapeCasts_S1x4096x2048_S4096x2048)) bitsLt_bf16_f32

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (by after_results_simp <;> rfl), (h c main_arg0).trans (by after_results_simp <;> rfl),
      (h c main_arg1).trans (by after_results_simp <;> rfl)⟩)
    (run_seq scopedRefs_eq scopedSems_eq defs main (fun _ => ops) main_eq (fun _ => ops_sub) m ρ)

/-- The weights' column of column `K` of the result: the projection's columns start at 1024. -/
def shifted (K : Fin 2048) : Fin 9216 := ⟨1024 + K.val, by omega⟩

/-- An element of the result. -/
def entry (H : FVec Ideal S16896x4096 .bf16) (W : FVec Ideal S2x4096x9216 .f32) (R : Fin 16896) (K : Fin 2048) : EReal :=
  ∑ d : Fin 4096, H (ix2 R d) * W (ix3 0 d (shifted K))
theorem out_at (H : FVec Ideal S16896x4096 .bf16) (W : FVec Ideal S2x4096x9216 .f32) (R : Fin 16896) (K : Fin 2048) :
    out H W (ix2 R K) = entry H W R K := by
  pointwise [out]
  rfl

end Cert.GluRefIdeal.Tiles

end
-- ==== Proof.Glu.Tile.lean ====
/- The projection to the convolution's two inputs: what each grid point leaves, over the extended reals, element by element,
   and the array the points make up. The weights' block is rounded at a column block's first point and kept for its others. -/
module

public import proofs.«01_k».proof.Proof.Gen.GluIdeal.Frame
public import proofs.«01_k».proof.Proof.Glu.Ref
public import proofs.«01_k».proof.Proof.Carry
public import Idealize.ShloMosaic.Lib.VecWindow
public import Idealize.ShloMosaic.Lib.Pipeline.ValueKit
public import Idealize.ShloMosaic.Lib.Pipeline.ReadBack
public import Idealize.ShloMosaic.Lib.Pipeline.Value
public import Idealize.ShloMosaic.Lib.Pipeline.Covers

@[expose] public section

set_option maxRecDepth 16384

noncomputable section

namespace Cert.GluIdeal.Tiles

open Cert.GluIdeal Cert.GluIdeal.Gen Idealize Idealize.ShloMosaic Idealize.ShloMosaic.TcCoe Idealize.ShloMosaic.View Idealize.SL.Sem
open Idealize.ShloMosaic.Pipeline (Dat)
open Cert.GluRefIdeal.Tiles (entry shifted)

section Steps

variable {F : FTy → Type} [FloatOps F]
variable (m : (ℓ : Loc nD τ sig) → Buf (Elt F) ℓ)

/-- The weights' block at a point, rounded, and the block of the result from the weights held. -/
def rounded (t : Fin cfg0.N) : Vec F S4096x1024 .bf16 := k0_pay1 (iblk m 0 1 t)
def block (t : Fin cfg0.N) (s : Vec F S4096x1024 .bf16) : Vec F S512x1024 .bf16 := k0_pay2 (iblk m 0 0 t) s

abbrev prev (t : Fin cfg0.N) := outsAt0 m 0 (t.val - 1) (Nat.lt_of_le_of_lt (Nat.sub_le _ _) t.isLt)

theorem first (t : Fin cfg0.N) (h : t.val % 33 = 0) : outsAt0 m 0 t.val t.isLt = (block m t (rounded m t), rounded m t) := by
  refine (outsAt0_A m 0 t h).trans (Prod.ext ?_ ?_)
  all_goals dsimp only
  all_goals frame_out [read_unread_whole]
  all_goals rfl
theorem later (t : Fin cfg0.N) (h : ¬t.val % 33 = 0) : outsAt0 m 0 t.val t.isLt = (block m t (prev m t).2, (prev m t).2) := by
  refine (outsAt0_B m 0 t h).trans (Prod.ext ?_ rfl)
  dsimp only
  frame_out [read_unread_whole]
  rfl

theorem idx0 : ∀ t : Fin cfg0.N, (cfg0.win 0).index t = ![t.val % 33, 0] := (by decide +kernel : ∀ t : Fin grid0.N, win0_0.index t = ![t.val % 33, 0])
theorem idx1 : ∀ t : Fin cfg0.N, (cfg0.win 1).index t = ![0, 0, t.val / 33 + 1] := (by decide +kernel : ∀ t : Fin grid0.N, win0_1.index t = ![0, 0, t.val / 33 + 1])
theorem idx2 : ∀ t : Fin cfg0.N, (cfg0.win 2).index t = ![t.val % 33, t.val / 33] := (by decide +kernel : ∀ t : Fin grid0.N, win0_2.index t = ![t.val % 33, t.val / 33])

theorem rows (t : Fin cfg0.N) (r : Fin 512) (d : Fin 4096) (R : Fin 16896) (hR : R.val = t.val % 33 * 512 + r.val) :
    iblk m 0 0 t (ix2 r d) = m (((0 : Dev nD) : Thread nD τ).loc main_arg0) (ix2 R d) := by
  rw [← V_main_arg0 m 0]
  blk_ext [iblk, idx0 t]
theorem weights (t : Fin cfg0.N) (d : Fin 4096) (k : Fin 1024) (K : Fin 9216) (hK : K.val = (t.val / 33 + 1) * 1024 + k.val) :
    iblk m 0 1 t (ix3 0 d k) = m (((0 : Dev nD) : Thread nD τ).loc main_arg1) (ix3 0 d K) := by
  rw [← V_main_arg1 m 0]
  blk_ext [iblk, idx1 t]

end Steps

theorem round_at (W : Vec Ideal S1x4096x1024 .f32) (d : Fin 4096) (k : Fin 1024) : k0_pay1 W (ix2 d k) = W (ix3 0 d k) := by
  pointwise [k0_pay1]
theorem block_at (X : Vec Ideal S512x4096 .bf16) (A : Vec Ideal S4096x1024 .bf16) (r : Fin 512) (k : Fin 1024) :
    k0_pay2 X A (ix2 r k) = ∑ d, X (ix2 r d) * A (ix2 d k) := by
  pointwise [k0_pay2]

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x2048.Idx) : EReal := entry (arg m main_arg0) (arg m main_arg1) (i 0) (i 1)

/-- The weights held are the argument's columns of column block `j`. -/
def Columns (j : ℕ) (s : Vec Ideal S4096x1024 .bf16) : Prop :=
  ∀ (d : Fin 4096) (k : Fin 1024) (K : Fin 2048), K.val = j * 1024 + k.val → s (ix2 d k) = arg m main_arg1 (ix3 0 d (shifted K))

theorem shifted_val (K : Fin 2048) : (shifted K).val = 1024 + K.val := rfl

theorem columns (t : Fin cfg0.N) : Columns m (t.val / 33) (rounded m t) := fun d k K hK =>
  (round_at (iblk m 0 1 t) d k).trans (weights m t d k (shifted K) (by rw [shifted_val]; omega))

/-- One element of the block a point leaves. -/
theorem point (t : Fin cfg0.N) (r : Fin 512) (k : Fin 1024) (R : Fin 16896) (K : Fin 2048)
    (hR : R.val = t.val % 33 * 512 + r.val) (hK : K.val = t.val / 33 * 1024 + k.val) :
    (outsAt0 m 0 t.val t.isLt).1 (ix2 r k) = result m (ix2 R K) := by
  obtain ⟨s, hs, he⟩ := Cert.Carry.carried (outsAt0 m 0) (rounded m) (block m) (first m) (later m) (Columns m) (columns m) t.val t.isLt
  rw [he]
  exact (block_at (iblk m 0 0 t) s r k).trans (Cert.Carry.dots (fun d => rows m t r d R hR) fun d => hs d k K hK)

/-- Every block of the result is some point's. -/
theorem covers : (cfg0.win 2).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 2 := Nat.lt_of_lt_of_eq (β (1 : Fin 2)).isLt (by show (2048 + 1024 - 1) / 1024 = 2; rfl)
  refine ⟨⟨(β (1 : Fin 2)).val * 33 + (β (0 : Fin 2)).val, Nat.lt_of_lt_of_eq (by omega) N_0.symm⟩, fun a => ?_⟩
  rw [idx2]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 2 cfg0.N = result m := by
  refine (dats m 0 0).arrAt_eq_of_covers 2 _ covers fun t _ (y : S512x1024.Idx) => ?_
  blk_simp
  rw [after0_2]
  have hy : y = ix2 (y 0) (y 1) := funext fun a => by fin_cases a <;> rfl
  have h0 : (y 0).val < 512 := (y 0).isLt
  have h1 : (y 1).val < 1024 := (y 1).isLt
  have ht : t.val < 66 := Nat.lt_of_lt_of_eq t.isLt N_0
  have hR : t.val % 33 * 512 + (y 0).val < 16896 := by omega
  have hK : t.val / 33 * 1024 + (y 1).val < 2048 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 2048) = ((cfg0.win 2).blk t).view.emb y)
  blk_ext [idx2 t]

end Cert.GluIdeal.Tiles

end
-- ==== Proof.Glu.Claims.lean ====
/- The claims of the projection to the convolution's inputs: the reference's frame, and that over the extended reals kernel and reference leave
   the same array. -/
module

public import proofs.«01_k».proof.Defs
public import proofs.«01_k».proof.Proof.Glu.Tile
public import Idealize.ShloMosaic.Lib.Quiescent

@[expose] public section

set_option maxRecDepth 16384

noncomputable section

namespace Cert.Proof.Glu

open Idealize Idealize.ShloMosaic Idealize.ShloMosaic.TcCoe Idealize.SL.Sem Cert.GluIdeal.Tiles

attribute [local instance] Cert.GluIdeal.Gen.facts Cert.GluRefIdeal.Gen.facts

/-- The reference runs to the end and keeps its arguments; it has no semaphores. -/
theorem frame_ref : Cert.quiescent_GluRefIdeal := fun m ρ _ =>
  (θ_run Cert.GluRefIdeal.defs _ _).mono (fun r h => ⟨fun c => (h c).2, sem_eq_zero_of_no_sems (by decide) r.2⟩)
    (Cert.GluRefIdeal.Tiles.run m ρ)

/-- Over the extended reals the kernel's array is the reference's. -/
theorem algebraic : Cert.algebraic_GluIdeal_GluRefIdeal := by
  intro m g m' g' hp hagree
  refine ⟨fun c => (Cert.GluIdeal.Gen.dats m 0 c).arrAt 2 Cert.GluIdeal.cfg0.N,
    (θ_run Cert.GluIdeal.defs _ _).mono (fun r h c => ⟨(h.1 c).1 2, h.2 c⟩)
      (θ_run_and (Cert.GluIdeal.Gen.run_main m g) (Cert.GluIdeal.Gen.unchanged m g)), ?_⟩
  refine (θ_run Cert.GluRefIdeal.defs _ _).mono (fun _ h c => ⟨(h c).1.trans ?_, (h c).2⟩)
    (Cert.GluRefIdeal.Tiles.run m' g')
  obtain rfl : c = 0 := Subsingleton.elim _ _
  obtain ⟨h0, h1⟩ := hagree 0
  rw [h0, h1]
  refine Eq.trans (funext fun y => ?_) (final m).symm
  have hy : y = ix2 (y 0) (y 1) := funext fun a => by fin_cases a <;> rfl
  exact (congrArg _ hy).trans (Cert.GluRefIdeal.Tiles.out_at _ _ (y 0) (y 1))

end Cert.Proof.Glu

end
-- ==== Proof.Rows.lean ====
/- One row of a block of eight, loaded at an offset: the gates of the projections that add to the rows. And the row of the
   condition that each of the layer's rows takes. -/
module

public import Idealize.ShloMosaic.Lib.VecWindow
public import Idealize.ShloMosaic.Lib.Pipeline.ValueKit
public import Idealize.ShloMosaic.Lib.Pipeline.ReadBack
public import Idealize.ShloMosaic.Lib.Pointwise

@[expose] public section

noncomputable section

namespace Cert.Rows

open Idealize Idealize.ShloMosaic

theorem row_at {F : FTy → Type} [FloatOps F] {W : ℕ} (X : Vec F ⟨2, ![8, W]⟩ .f32) (off : Fin 2 → ℕ)
    (h : ∀ a, off a + (⟨2, ![1, W]⟩ : Shape).size a ≤ (⟨2, ![8, W]⟩ : Shape).size a) (e : Fin 8) (k : Fin W) (he : off = ![e.val, 0]) :
    View.ld X (Rect.unit (s := ⟨2, ![8, W]⟩) off (⟨2, ![1, W]⟩ : Shape).size h) (ix2 0 k) = X (ix2 e k) := by
  subst he
  refine congrArg X (funext fun a => Fin.ext ?_)
  fin_cases a
  · show e.val + 1 * 0 = e.val
    omega
  · show 0 + 1 * k.val = k.val
    omega

/-- The row of the condition that row `R` takes its gate from: its batch's, or the context's. -/
def condition (R : Fin 16896) : Fin 8 := ⟨R.val / 8192, by omega⟩
theorem condition_val (R : Fin 16896) : (condition R).val = R.val / 8192 := rfl

end Cert.Rows

end
-- ==== Proof.Mix.Ref.lean ====
/- The reference of the projection of the merged branches, added to the rows, as a list of host operations, run, and the
   value of its result over the extended reals. -/
module

public import proofs.«01_k».proof.Proof.Gen.MixRefIdeal
public import proofs.«01_k».proof.Proof.Rows
public import Idealize.ShloMosaic.Lib.StableHlo.Run
public import Idealize.ShloMosaic.Lib.Quiescent
public import Idealize.ShloMosaic.Lib.Pointwise
public import Idealize.ShloMosaic.Lib.Pipeline.Value

@[expose] public section

set_option maxRecDepth 8192

noncomputable section

namespace Cert.MixRefIdeal.Tiles

open Cert.MixRefIdeal Cert.MixRefIdeal.Gen Idealize Idealize.ShloMosaic Idealize.ShloMosaic.TcCoe Idealize.SL.Sem Idealize.ShloMosaic.StableHlo
open Cert.Rows (condition)

variable {F : FTy → Type} [FloatOps F]

/-- The program's operations, in order. -/
abbrev ops : List (HloOp τ sig (Elt F)) :=
  [ binary main_arg2 main_arg3 main_v0 ((fun a b => concatenate S16896x4096 0 [⟨S16384x4096, a⟩, ⟨S512x4096, b⟩] concatenates_S16384x4096_S512x4096_S16896x4096_d0) : (⟨S16384x4096, .f32⟩ : BufTy).Contents (Elt F) → (⟨S512x4096, .f32⟩ : BufTy).Contents (Elt F) → (⟨S16896x4096, .f32⟩ : BufTy).Contents (Elt F)),
    unary main_arg1 main_v1 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v1 main_v2 (rfl : (.f32 : EltTy) = .f32) shapeCasts_S1x4096x4096_S4096x4096,
    unary main_arg4 main_v3 ((extractStridedSlice S8x4096 ![0, 8192] · slices_S8x24576_S8x4096_0_8192) : (⟨S8x24576, .f32⟩ : BufTy).Contents (Elt F) → (⟨S8x4096, .f32⟩ : BufTy).Contents (Elt F)),
    unary main_v3 main_v4 ((extractStridedSlice S3x4096 ![0, 0] · slices_S8x4096_S3x4096_0_0) : (⟨S8x4096, .f32⟩ : BufTy).Contents (Elt F) → (⟨S3x4096, .f32⟩ : BufTy).Contents (Elt F)),
    unary main_v4 main_v5 (broadcastInDim S3x8192x4096 ![0, 2] bcast_S3x4096_S3x8192x4096_0_2 : (⟨S3x4096, .f32⟩ : BufTy).Contents (Elt F) → (⟨S3x8192x4096, .f32⟩ : BufTy).Contents (Elt F)),
    reshape main_v5 main_v6 (rfl : (.f32 : EltTy) = .f32) shapeCasts_S3x8192x4096_S24576x4096,
    unary main_v6 main_v7 ((extractStridedSlice S16896x4096 ![0, 0] · slices_S24576x4096_S16896x4096_0_0) : (⟨S24576x4096, .f32⟩ : BufTy).Contents (Elt F) → (⟨S16896x4096, .f32⟩ : BufTy).Contents (Elt F)),
    unary main_arg0 main_v8 ((extf .f32 · bitsLt_bf16_f32) : (⟨S16896x4096, .bf16⟩ : BufTy).Contents (Elt F) → (⟨S16896x4096, .f32⟩ : BufTy).Contents (Elt F)),
    binary main_v8 main_v2 main_v9 ((fun l r => Host.dotGeneral dot_S16896x4096_S4096x4096_S16896x4096_1_0_0_1_n_n none l r) : (⟨S16896x4096, .f32⟩ : BufTy).Contents (Elt F) → (⟨S4096x4096, .f32⟩ : BufTy).Contents (Elt F) → (⟨S16896x4096, .f32⟩ : BufTy).Contents (Elt F)),
    binary main_v7 main_v9 main_v10 (mulf : (⟨S16896x4096, .f32⟩ : BufTy).Contents (Elt F) → (⟨S16896x4096, .f32⟩ : BufTy).Contents (Elt F) → (⟨S16896x4096, .f32⟩ : BufTy).Contents (Elt F)),
    binary main_v0 main_v10 main_v11 (addf : (⟨S16896x4096, .f32⟩ : BufTy).Contents (Elt F) → (⟨S16896x4096, .f32⟩ : BufTy).Contents (Elt F) → (⟨S16896x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., reshape_bufs_sub .., unary_bufs_sub .., unary_bufs_sub .., unary_bufs_sub .., reshape_bufs_sub .., unary_bufs_sub .., unary_bufs_sub .., binary_bufs_sub .., binary_bufs_sub .., binary_bufs_sub ..⟩

/-- The rows: the latent tokens and after them the context's. -/
def tokens (L : FVec F S16384x4096 .f32) (C : FVec F S512x4096 .f32) : FVec F S16896x4096 .f32 :=
  concatenate S16896x4096 0 [⟨S16384x4096, L⟩, ⟨S512x4096, C⟩] concatenates_S16384x4096_S512x4096_S16896x4096_d0

/-- Each row's gate. -/
def gates (G : FVec F S8x24576 .f32) : FVec F S16896x4096 .f32 :=
  extractStridedSlice S16896x4096 ![0, 0] (shapeCast S24576x4096 (broadcastInDim S3x8192x4096 ![0, 2] bcast_S3x4096_S3x8192x4096_0_2
    (extractStridedSlice S3x4096 ![0, 0] (extractStridedSlice S8x4096 ![0, 8192] G slices_S8x24576_S8x4096_0_8192) slices_S8x4096_S3x4096_0_0))
    shapeCasts_S3x8192x4096_S24576x4096) slices_S24576x4096_S16896x4096_0_0

/-- The product by the weights. -/
def product (Y : FVec F S16896x4096 .bf16) (W : FVec F S2x4096x4096 .f32) : FVec F S16896x4096 .f32 :=
  Host.dotGeneral dot_S16896x4096_S4096x4096_S16896x4096_1_0_0_1_n_n none (extf .f32 Y bitsLt_bf16_f32)
    (shapeCast S4096x4096 (extractStridedSlice S1x4096x4096 ![0, 0, 0] W slices_S2x4096x4096_S1x4096x4096_0_0_0) shapeCasts_S1x4096x4096_S4096x4096)

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = addf (tokens (m ((c.tc : Thread nD τ).loc main_arg2)) (m ((c.tc : Thread nD τ).loc main_arg3)))
            (mulf (gates (m ((c.tc : Thread nD τ).loc main_arg4))) (product (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v11).trans (by after_results_simp <;> rfl), (h c main_arg0).trans (by after_results_simp <;> rfl),
      (h c main_arg1).trans (by after_results_simp <;> rfl), (h c main_arg2).trans (by after_results_simp <;> rfl),
      (h c main_arg3).trans (by after_results_simp <;> rfl), (h c main_arg4).trans (by after_results_simp <;> rfl)⟩)
    (run_seq scopedRefs_eq scopedSems_eq defs main (fun _ => ops) main_eq (fun _ => ops_sub) m ρ)

/-- A column's place among the gates. -/
def shifted (K : Fin 4096) : Fin 24576 := ⟨8192 + K.val, by omega⟩

/-- An element of the rows. -/
def token (L : FVec Ideal S16384x4096 .f32) (C : FVec Ideal S512x4096 .f32) (R : Fin 16896) (K : Fin 4096) : EReal :=
  if h : R.val < 16384 then L (ix2 ⟨R.val, h⟩ K) else C (ix2 ⟨R.val - 16384, by omega⟩ K)

/-- An element of the product, and of the result. -/
def entry (Y : FVec Ideal S16896x4096 .bf16) (W : FVec Ideal S2x4096x4096 .f32) (R : Fin 16896) (K : Fin 4096) : EReal :=
  ∑ d : Fin 4096, Y (ix2 R d) * W (ix3 0 d K)

def element (L : FVec Ideal S16384x4096 .f32) (C : FVec Ideal S512x4096 .f32) (G : FVec Ideal S8x24576 .f32)
    (Y : FVec Ideal S16896x4096 .bf16) (W : FVec Ideal S2x4096x4096 .f32) (R : Fin 16896) (K : Fin 4096) : EReal :=
  token L C R K + G (ix2 (condition R) (shifted K)) * entry Y W R K

theorem tokens_at (L : FVec Ideal S16384x4096 .f32) (C : FVec Ideal S512x4096 .f32) (R : Fin 16896) (K : Fin 4096) :
    tokens L C (ix2 R K) = token L C R K := by
  unfold tokens token
  split
  · refine concatenate_pair_apply_left _ L C _ (ix2 R K) rfl (ix2 ⟨R.val, ‹_›⟩ K) fun b => ?_
    fin_cases b <;> rfl
  · refine concatenate_pair_apply_right _ L C _ (ix2 R K) rfl rfl (ix2 ⟨R.val - 16384, by omega⟩ K) (fun b hb => ?_) ?_
    · fin_cases b
      · exact absurd rfl hb
      · rfl
    · show R.val - 16384 + 16384 = R.val
      omega
theorem gates_at (G : FVec Ideal S8x24576 .f32) (R : Fin 16896) (K : Fin 4096) :
    gates G (ix2 R K) = G (ix2 (condition R) (shifted K)) := by
  pointwise [gates]
  rfl
theorem product_at (Y : FVec Ideal S16896x4096 .bf16) (W : FVec Ideal S2x4096x4096 .f32) (R : Fin 16896) (K : Fin 4096) :
    product Y W (ix2 R K) = entry Y W R K := by
  pointwise [product]
  rfl
theorem out_at (L : FVec Ideal S16384x4096 .f32) (C : FVec Ideal S512x4096 .f32) (G : FVec Ideal S8x24576 .f32)
    (Y : FVec Ideal S16896x4096 .bf16) (W : FVec Ideal S2x4096x4096 .f32) (R : Fin 16896) (K : Fin 4096) :
    addf (tokens L C) (mulf (gates G) (product Y W)) (ix2 R K)
      = element L C G Y W R K :=
  (congrArg₂ (· + ·) (tokens_at L C R K) (congrArg₂ (· * ·) (gates_at G R K) (product_at Y W R K)))

end Cert.MixRefIdeal.Tiles

end
-- ==== Proof.Mix.Tile.lean ====
/- The projection of the merged branches, added to the rows: what each grid point leaves, over the extended reals, element by
   element, and the array the points make up. The weights' block is rounded at a column block's first point and kept for its others. -/
module

public import proofs.«01_k».proof.Proof.Gen.MixIdeal.Frame
public import proofs.«01_k».proof.Proof.Mix.Ref
public import proofs.«01_k».proof.Proof.Carry
public import proofs.«01_k».proof.Proof.Rows
public import Idealize.ShloMosaic.Lib.VecWindow
public import Idealize.ShloMosaic.Lib.Pipeline.ValueKit
public import Idealize.ShloMosaic.Lib.Pipeline.ReadBack
public import Idealize.ShloMosaic.Lib.Pipeline.Value
public import Idealize.ShloMosaic.Lib.Pipeline.Covers

@[expose] public section

set_option maxRecDepth 16384

noncomputable section

namespace Cert.MixIdeal.Tiles

open Cert.MixIdeal Cert.MixIdeal.Gen Idealize Idealize.ShloMosaic Idealize.ShloMosaic.TcCoe Idealize.ShloMosaic.View Idealize.SL.Sem
open Idealize.ShloMosaic.Pipeline (Dat)
open Cert.MixRefIdeal.Tiles (shifted token element)
open Cert.Rows (condition condition_val)

section Steps

variable {F : FTy → Type} [FloatOps F]
variable (m : (ℓ : Loc nD τ sig) → Buf (Elt F) ℓ)

/-- The weights' block at a point, rounded; the row of the gates that its rows take; and the block of the result from the weights held. -/
def rounded (t : Fin cfg0.N) : Vec F S4096x1024 .bf16 := k0_pay1 (iblk m 0 1 t)
def gateRow (t : Fin cfg0.N) : Vec F S1x1024 .f32 :=
  View.ld (iblk m 0 4 t) (Rect.unit (s := S8x1024) (k0_off1 (grid0.coords t)) S1x1024.size (k0_off1_inb (grid0.coords t)))
def block (t : Fin cfg0.N) (s : Vec F S4096x1024 .bf16) : Vec F S512x1024 .f32 :=
  k0_pay2 (grid0.coords t) (iblk m 0 2 t) (iblk m 0 3 t) (gateRow m t) (iblk m 0 0 t) s

abbrev prev (t : Fin cfg0.N) := outsAt0 m 0 (t.val - 1) (Nat.lt_of_le_of_lt (Nat.sub_le _ _) t.isLt)

theorem first (t : Fin cfg0.N) (h : t.val % 33 = 0) : outsAt0 m 0 t.val t.isLt = (block m t (rounded m t), rounded m t) := by
  refine (outsAt0_A m 0 t h).trans (Prod.ext ?_ ?_)
  all_goals dsimp only
  all_goals frame_out [read_unread_whole]
  all_goals rfl
theorem later (t : Fin cfg0.N) (h : ¬t.val % 33 = 0) : outsAt0 m 0 t.val t.isLt = (block m t (prev m t).2, (prev m t).2) := by
  refine (outsAt0_B m 0 t h).trans (Prod.ext ?_ rfl)
  dsimp only
  frame_out [read_unread_whole]
  rfl

theorem idx0 : ∀ t : Fin cfg0.N, (cfg0.win 0).index t = ![t.val % 33, 0] := (by decide +kernel : ∀ t : Fin grid0.N, win0_0.index t = ![t.val % 33, 0])
theorem idx1 : ∀ t : Fin cfg0.N, (cfg0.win 1).index t = ![0, 0, t.val / 33] := (by decide +kernel : ∀ t : Fin grid0.N, win0_1.index t = ![0, 0, t.val / 33])
theorem idx2 : ∀ t : Fin cfg0.N, (cfg0.win 2).index t = ![min (t.val % 33) 31, t.val / 33] := (by decide +kernel : ∀ t : Fin grid0.N, win0_2.index t = ![min (t.val % 33) 31, t.val / 33])
theorem idx3 : ∀ t : Fin cfg0.N, (cfg0.win 3).index t = ![0, t.val / 33] := (by decide +kernel : ∀ t : Fin grid0.N, win0_3.index t = ![0, t.val / 33])
theorem idx4 : ∀ t : Fin cfg0.N, (cfg0.win 4).index t = ![0, t.val / 33 + 8] := (by decide +kernel : ∀ t : Fin grid0.N, win0_4.index t = ![0, t.val / 33 + 8])
theorem idx5 : ∀ t : Fin cfg0.N, (cfg0.win 5).index t = ![t.val % 33, t.val / 33] := (by decide +kernel : ∀ t : Fin grid0.N, win0_5.index t = ![t.val % 33, t.val / 33])

/-- The gates' row of a point, and whether its rows are latent ones. -/
theorem gate_off : ∀ t : Fin cfg0.N, k0_off1 (grid0.coords t) = ![t.val % 33 / 16, 0] :=
  (by decide +kernel : ∀ t : Fin grid0.N, k0_off1 (grid0.coords t) = ![t.val % 33 / 16, 0])
theorem latent : ∀ t : Fin cfg0.N, Scalar.cmpi .slt (BitVec.ofNat 32 (grid0.coords t 1).val) 32#32 = if t.val % 33 < 32 then 1#1 else 0#1 :=
  (by decide +kernel : ∀ t : Fin grid0.N, Scalar.cmpi .slt (BitVec.ofNat 32 (grid0.coords t 1).val) 32#32 = if t.val % 33 < 32 then 1#1 else 0#1)

theorem rows (t : Fin cfg0.N) (r : Fin 512) (d : Fin 4096) (R : Fin 16896) (hR : R.val = t.val % 33 * 512 + r.val) :
    iblk m 0 0 t (ix2 r d) = m (((0 : Dev nD) : Thread nD τ).loc main_arg0) (ix2 R d) := by
  rw [← V_main_arg0 m 0]
  blk_ext [iblk, idx0 t]
theorem weights (t : Fin cfg0.N) (d : Fin 4096) (k : Fin 1024) (K : Fin 4096) (hK : K.val = t.val / 33 * 1024 + k.val) :
    iblk m 0 1 t (ix3 0 d k) = m (((0 : Dev nD) : Thread nD τ).loc main_arg1) (ix3 0 d K) := by
  rw [← V_main_arg1 m 0]
  blk_ext [iblk, idx1 t]
theorem latents (t : Fin cfg0.N) (r : Fin 512) (k : Fin 1024) (R : Fin 16384) (K : Fin 4096)
    (hR : R.val = min (t.val % 33) 31 * 512 + r.val) (hK : K.val = t.val / 33 * 1024 + k.val) :
    iblk m 0 2 t (ix2 r k) = m (((0 : Dev nD) : Thread nD τ).loc main_arg2) (ix2 R K) := by
  rw [← V_main_arg2 m 0]
  blk_ext [iblk, idx2 t]
theorem contexts (t : Fin cfg0.N) (r : Fin 512) (k : Fin 1024) (K : Fin 4096) (hK : K.val = t.val / 33 * 1024 + k.val) :
    iblk m 0 3 t (ix2 r k) = m (((0 : Dev nD) : Thread nD τ).loc main_arg3) (ix2 r K) := by
  rw [← V_main_arg3 m 0]
  blk_ext [iblk, idx3 t]
theorem gateBlock (t : Fin cfg0.N) (e : Fin 8) (k : Fin 1024) (K : Fin 24576) (hK : K.val = (t.val / 33 + 8) * 1024 + k.val) :
    iblk m 0 4 t (ix2 e k) = m (((0 : Dev nD) : Thread nD τ).loc main_arg4) (ix2 e K) := by
  rw [← V_main_arg4 m 0]
  blk_ext [iblk, idx4 t]

theorem gate_at (t : Fin cfg0.N) (e : Fin 8) (he : e.val = t.val % 33 / 16) (k : Fin 1024) (K : Fin 24576) (hK : K.val = (t.val / 33 + 8) * 1024 + k.val) :
    gateRow m t (ix2 0 k) = m (((0 : Dev nD) : Thread nD τ).loc main_arg4) (ix2 e K) :=
  (Cert.Rows.row_at (iblk m 0 4 t) _ _ e k ((gate_off t).trans (by rw [he]))).trans (gateBlock m t e k K hK)

end Steps

theorem round_at (W : Vec Ideal S1x4096x1024 .f32) (d : Fin 4096) (k : Fin 1024) : k0_pay1 W (ix2 d k) = W (ix3 0 d k) := by
  pointwise [k0_pay1]
theorem block_at (i : grid0.Coords) (L C : Vec Ideal S512x1024 .f32) (g : Vec Ideal S1x1024 .f32) (X : Vec Ideal S512x4096 .bf16)
    (A : Vec Ideal S4096x1024 .bf16) (r : Fin 512) (k : Fin 1024) :
    k0_pay2 i L C g X A (ix2 r k)
      = Scalar.select (Scalar.cmpi .slt (BitVec.ofNat 32 (i 1).val) 32#32) L C (ix2 r k) + g (ix2 0 k) * ∑ d, X (ix2 r d) * A (ix2 d k) := by
  pointwise [k0_pay2]

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x4096.Idx) : EReal :=
  element (arg m main_arg2) (arg m main_arg3) (arg m main_arg4) (arg m main_arg0) (arg m main_arg1) (i 0) (i 1)

/-- The weights held are the argument's columns of column block `j`. -/
def Columns (j : ℕ) (s : Vec Ideal S4096x1024 .bf16) : Prop :=
  ∀ (d : Fin 4096) (k : Fin 1024) (K : Fin 4096), K.val = j * 1024 + k.val → s (ix2 d k) = arg m main_arg1 (ix3 0 d K)

theorem shifted_val (K : Fin 4096) : (shifted K).val = 8192 + K.val := rfl

theorem columns (t : Fin cfg0.N) : Columns m (t.val / 33) (rounded m t) := fun d k K hK =>
  (round_at (iblk m 0 1 t) d k).trans (weights m t d k K hK)

/-- The row that a point adds to: a latent one, or the context's at the last row block. -/
theorem added (t : Fin cfg0.N) (r : Fin 512) (k : Fin 1024) (R : Fin 16896) (K : Fin 4096)
    (hR : R.val = t.val % 33 * 512 + r.val) (hK : K.val = t.val / 33 * 1024 + k.val) :
    Scalar.select (Scalar.cmpi .slt (BitVec.ofNat 32 (grid0.coords t 1).val) 32#32) (iblk m 0 2 t) (iblk m 0 3 t) (ix2 r k)
      = token (arg m main_arg2) (arg m main_arg3) R K := by
  have hr := r.isLt
  unfold token
  rw [latent t]
  by_cases h : t.val % 33 < 32
  · rw [if_pos h, dif_pos (by omega : R.val < 16384)]
    exact latents m t r k ⟨R.val, by omega⟩ K (by rw [min_eq_left (by omega)]; exact hR) hK
  · rw [if_neg h, dif_neg (by omega : ¬R.val < 16384)]
    exact (contexts m t r k K hK).trans (congrArg (fun e => arg m main_arg3 (ix2 e K)) (Fin.ext (by show r.val = R.val - 16384; omega)))

/-- One element of the block a point leaves. -/
theorem point (t : Fin cfg0.N) (r : Fin 512) (k : Fin 1024) (R : Fin 16896) (K : Fin 4096)
    (hR : R.val = t.val % 33 * 512 + r.val) (hK : K.val = t.val / 33 * 1024 + k.val) :
    (outsAt0 m 0 t.val t.isLt).1 (ix2 r k) = result m (ix2 R K) := by
  obtain ⟨s, hs, he⟩ := Cert.Carry.carried (outsAt0 m 0) (rounded m) (block m) (first m) (later m) (Columns m) (columns m) t.val t.isLt
  rw [he]
  have hr := r.isLt
  refine (block_at (grid0.coords t) (iblk m 0 2 t) (iblk m 0 3 t) (gateRow m t) (iblk m 0 0 t) s r k).trans
    (congrArg₂ (· + ·) (added m t r k R K hR hK) (congrArg₂ (· * ·) ?_ ?_))
  · exact gate_at m t (condition R) (by rw [condition_val]; omega) k (shifted K) (by rw [shifted_val]; omega)
  · exact Cert.Carry.dots (fun d => rows m t r d R hR) fun d => hs d k K hK

/-- Every block of the result is some point's. -/
theorem covers : (cfg0.win 5).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 4 := Nat.lt_of_lt_of_eq (β (1 : Fin 2)).isLt (by show (4096 + 1024 - 1) / 1024 = 4; rfl)
  refine ⟨⟨(β (1 : Fin 2)).val * 33 + (β (0 : Fin 2)).val, Nat.lt_of_lt_of_eq (by omega) N_0.symm⟩, fun a => ?_⟩
  rw [idx5]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 5 cfg0.N = result m := by
  refine (dats m 0 0).arrAt_eq_of_covers 5 _ covers fun t _ (y : S512x1024.Idx) => ?_
  blk_simp
  rw [after0_5]
  have hy : y = ix2 (y 0) (y 1) := funext fun a => by fin_cases a <;> rfl
  have h0 : (y 0).val < 512 := (y 0).isLt
  have h1 : (y 1).val < 1024 := (y 1).isLt
  have ht : t.val < 132 := Nat.lt_of_lt_of_eq t.isLt N_0
  have hR : t.val % 33 * 512 + (y 0).val < 16896 := by omega
  have hK : t.val / 33 * 1024 + (y 1).val < 4096 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 4096) = ((cfg0.win 5).blk t).view.emb y)
  blk_ext [idx5 t]

end Cert.MixIdeal.Tiles

end
-- ==== Proof.Mix.Claims.lean ====
/- The claims of the projection of the merged branches, added to the rows: the reference's frame, and that over the extended reals kernel and reference leave
   the same array. -/
module

public import proofs.«01_k».proof.Defs
public import proofs.«01_k».proof.Proof.Mix.Tile
public import Idealize.ShloMosaic.Lib.Quiescent

@[expose] public section

set_option maxRecDepth 16384

noncomputable section

namespace Cert.Proof.Mix

open Idealize Idealize.ShloMosaic Idealize.ShloMosaic.TcCoe Idealize.SL.Sem Cert.MixIdeal.Tiles

attribute [local instance] Cert.MixIdeal.Gen.facts Cert.MixRefIdeal.Gen.facts

/-- The reference runs to the end and keeps its arguments; it has no semaphores. -/
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Tiles.run m ρ)

/-- Over the extended reals the kernel's array is the reference's. -/
theorem algebraic : Cert.algebraic_MixIdeal_MixRefIdeal := by
  intro m g m' g' hp hagree
  refine ⟨fun c => (Cert.MixIdeal.Gen.dats m 0 c).arrAt 5 Cert.MixIdeal.cfg0.N,
    (θ_run Cert.MixIdeal.defs _ _).mono (fun r h c => ⟨(h.1 c).1 5, h.2 c⟩)
      (θ_run_and (Cert.MixIdeal.Gen.run_main m g) (Cert.MixIdeal.Gen.unchanged m g)), ?_⟩
  refine (θ_run Cert.MixRefIdeal.defs _ _).mono (fun _ h c => ⟨(h c).1.trans ?_, (h c).2⟩)
    (Cert.MixRefIdeal.Tiles.run m' g')
  obtain rfl : c = 0 := Subsingleton.elim _ _
  obtain ⟨h0, h1, h2, h3, h4⟩ := hagree 0
  rw [h0, h1, h2, h3, h4]
  refine Eq.trans (funext fun y => ?_) (final m).symm
  have hy : y = ix2 (y 0) (y 1) := funext fun a => by fin_cases a <;> rfl
  exact (congrArg _ hy).trans (Cert.MixRefIdeal.Tiles.out_at _ _ _ _ _ (y 0) (y 1))

end Cert.Proof.Mix

end
-- ==== Proof.Ffn.Ref.lean ====
/- The reference of the second dense product, added to the rows, as a list of host operations, run, and the
   value of its result over the extended reals. -/
module

public import proofs.«01_k».proof.Proof.Gen.FfnRefIdeal
public import proofs.«01_k».proof.Proof.Rows
public import Idealize.ShloMosaic.Lib.StableHlo.Run
public import Idealize.ShloMosaic.Lib.Quiescent
public import Idealize.ShloMosaic.Lib.Pointwise

@[expose] public section

set_option maxRecDepth 8192

noncomputable section

namespace Cert.FfnRefIdeal.Tiles

open Cert.FfnRefIdeal Cert.FfnRefIdeal.Gen Idealize Idealize.ShloMosaic Idealize.ShloMosaic.TcCoe Idealize.SL.Sem Idealize.ShloMosaic.StableHlo
open Cert.Rows (condition)

variable {F : FTy → Type} [FloatOps F]

/-- The program's operations, in order. -/
abbrev ops : List (HloOp τ sig (Elt F)) :=
  [ reshape main_arg1 main_v0 (rfl : (.f32 : EltTy) = .f32) shapeCasts_S1x6144x4096_S6144x4096,
    unary main_arg3 main_v1 ((extractStridedSlice S8x4096 ![0, 20480] · slices_S8x24576_S8x4096_0_20480) : (⟨S8x24576, .f32⟩ : BufTy).Contents (Elt F) → (⟨S8x4096, .f32⟩ : BufTy).Contents (Elt F)),
    unary main_v1 main_v2 ((extractStridedSlice S3x4096 ![0, 0] · slices_S8x4096_S3x4096_0_0) : (⟨S8x4096, .f32⟩ : BufTy).Contents (Elt F) → (⟨S3x4096, .f32⟩ : BufTy).Contents (Elt F)),
    unary main_v2 main_v3 (broadcastInDim S3x8192x4096 ![0, 2] bcast_S3x4096_S3x8192x4096_0_2 : (⟨S3x4096, .f32⟩ : BufTy).Contents (Elt F) → (⟨S3x8192x4096, .f32⟩ : BufTy).Contents (Elt F)),
    reshape main_v3 main_v4 (rfl : (.f32 : EltTy) = .f32) shapeCasts_S3x8192x4096_S24576x4096,
    unary main_v4 main_v5 ((extractStridedSlice S16896x4096 ![0, 0] · slices_S24576x4096_S16896x4096_0_0) : (⟨S24576x4096, .f32⟩ : BufTy).Contents (Elt F) → (⟨S16896x4096, .f32⟩ : BufTy).Contents (Elt F)),
    unary main_arg0 main_v6 ((extf .f32 · bitsLt_bf16_f32) : (⟨S16896x6144, .bf16⟩ : BufTy).Contents (Elt F) → (⟨S16896x6144, .f32⟩ : BufTy).Contents (Elt F)),
    binary main_v6 main_v0 main_v7 ((fun l r => Host.dotGeneral dot_S16896x6144_S6144x4096_S16896x4096_1_0_0_1_n_n none l r) : (⟨S16896x6144, .f32⟩ : BufTy).Contents (Elt F) → (⟨S6144x4096, .f32⟩ : BufTy).Contents (Elt F) → (⟨S16896x4096, .f32⟩ : BufTy).Contents (Elt F)),
    binary main_v5 main_v7 main_v8 (mulf : (⟨S16896x4096, .f32⟩ : BufTy).Contents (Elt F) → (⟨S16896x4096, .f32⟩ : BufTy).Contents (Elt F) → (⟨S16896x4096, .f32⟩ : BufTy).Contents (Elt F)),
    binary main_arg2 main_v8 main_v9 (addf : (⟨S16896x4096, .f32⟩ : BufTy).Contents (Elt F) → (⟨S16896x4096, .f32⟩ : BufTy).Contents (Elt F) → (⟨S16896x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., unary_bufs_sub .., unary_bufs_sub .., reshape_bufs_sub .., unary_bufs_sub .., unary_bufs_sub .., binary_bufs_sub .., binary_bufs_sub .., binary_bufs_sub ..⟩

/-- Each row's gate. -/
def gates (G : FVec F S8x24576 .f32) : FVec F S16896x4096 .f32 :=
  extractStridedSlice S16896x4096 ![0, 0] (shapeCast S24576x4096 (broadcastInDim S3x8192x4096 ![0, 2] bcast_S3x4096_S3x8192x4096_0_2
    (extractStridedSlice S3x4096 ![0, 0] (extractStridedSlice S8x4096 ![0, 20480] G slices_S8x24576_S8x4096_0_20480) slices_S8x4096_S3x4096_0_0))
    shapeCasts_S3x8192x4096_S24576x4096) slices_S24576x4096_S16896x4096_0_0

/-- The product by the weights. -/
def product (H : FVec F S16896x6144 .bf16) (W : FVec F S1x6144x4096 .f32) : FVec F S16896x4096 .f32 :=
  Host.dotGeneral dot_S16896x6144_S6144x4096_S16896x4096_1_0_0_1_n_n none (extf .f32 H bitsLt_bf16_f32)
    (shapeCast S6144x4096 W shapeCasts_S1x6144x4096_S6144x4096)

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = addf (m ((c.tc : Thread nD τ).loc main_arg2)) (mulf (gates (m ((c.tc : Thread nD τ).loc main_arg3))) (product (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v9).trans (by after_results_simp <;> rfl), (h c main_arg0).trans (by after_results_simp <;> rfl),
      (h c main_arg1).trans (by after_results_simp <;> rfl), (h c main_arg2).trans (by after_results_simp <;> rfl),
      (h c main_arg3).trans (by after_results_simp <;> rfl)⟩)
    (run_seq scopedRefs_eq scopedSems_eq defs main (fun _ => ops) main_eq (fun _ => ops_sub) m ρ)

/-- A column's place among the gates. -/
def shifted (K : Fin 4096) : Fin 24576 := ⟨20480 + K.val, by omega⟩

/-- An element of the product, and of the result. -/
def entry (H : FVec Ideal S16896x6144 .bf16) (W : FVec Ideal S1x6144x4096 .f32) (R : Fin 16896) (K : Fin 4096) : EReal :=
  ∑ d : Fin 6144, H (ix2 R d) * W (ix3 0 d K)
def element (A : FVec Ideal S16896x4096 .f32) (G : FVec Ideal S8x24576 .f32) (H : FVec Ideal S16896x6144 .bf16)
    (W : FVec Ideal S1x6144x4096 .f32) (R : Fin 16896) (K : Fin 4096) : EReal :=
  A (ix2 R K) + G (ix2 (condition R) (shifted K)) * entry H W R K

theorem gates_at (G : FVec Ideal S8x24576 .f32) (R : Fin 16896) (K : Fin 4096) :
    gates G (ix2 R K) = G (ix2 (condition R) (shifted K)) := by
  pointwise [gates]
  rfl
theorem product_at (H : FVec Ideal S16896x6144 .bf16) (W : FVec Ideal S1x6144x4096 .f32) (R : Fin 16896) (K : Fin 4096) :
    product H W (ix2 R K) = entry H W R K := by
  pointwise [product]
  rfl
theorem out_at (A : FVec Ideal S16896x4096 .f32) (G : FVec Ideal S8x24576 .f32) (H : FVec Ideal S16896x6144 .bf16)
    (W : FVec Ideal S1x6144x4096 .f32) (R : Fin 16896) (K : Fin 4096) :
    addf A (mulf (gates G) (product H W)) (ix2 R K) = element A G H W R K :=
  congrArg (A (ix2 R K) + ·) (congrArg₂ (· * ·) (gates_at G R K) (product_at H W R K))

end Cert.FfnRefIdeal.Tiles

end
-- ==== Proof.Ffn.Tile.lean ====
/- The second dense product, added to the rows: what each grid point leaves, over the extended reals, element by
   element, and the array the points make up. The weights' block is rounded at a column block's first point and kept for its others. -/
module

public import proofs.«01_k».proof.Proof.Gen.FfnIdeal.Frame
public import proofs.«01_k».proof.Proof.Ffn.Ref
public import proofs.«01_k».proof.Proof.Carry
public import proofs.«01_k».proof.Proof.Rows
public import Idealize.ShloMosaic.Lib.VecWindow
public import Idealize.ShloMosaic.Lib.Pipeline.ValueKit
public import Idealize.ShloMosaic.Lib.Pipeline.ReadBack
public import Idealize.ShloMosaic.Lib.Pipeline.Value
public import Idealize.ShloMosaic.Lib.Pipeline.Covers

@[expose] public section

set_option maxRecDepth 16384

noncomputable section

namespace Cert.FfnIdeal.Tiles

open Cert.FfnIdeal Cert.FfnIdeal.Gen Idealize Idealize.ShloMosaic Idealize.ShloMosaic.TcCoe Idealize.ShloMosaic.View Idealize.SL.Sem
open Idealize.ShloMosaic.Pipeline (Dat)
open Cert.FfnRefIdeal.Tiles (shifted element)
open Cert.Rows (condition condition_val)

section Steps

variable {F : FTy → Type} [FloatOps F]
variable (m : (ℓ : Loc nD τ sig) → Buf (Elt F) ℓ)

/-- The weights' block at a point, rounded; the row of the gates that its rows take; and the block of the result from the weights held. -/
def rounded (t : Fin cfg0.N) : Vec F S6144x512 .bf16 := k0_pay1 (iblk m 0 1 t)
def gateRow (t : Fin cfg0.N) : Vec F S1x512 .f32 :=
  View.ld (iblk m 0 4 t) (Rect.unit (s := S8x512) (k0_off1 (grid0.coords t)) S1x512.size (k0_off1_inb (grid0.coords t)))
def block (t : Fin cfg0.N) (s : Vec F S6144x512 .bf16) : Vec F S512x512 .f32 :=
  k0_pay2 (grid0.coords t) (iblk m 0 2 t) (iblk m 0 3 t) (gateRow m t) (iblk m 0 0 t) s

abbrev prev (t : Fin cfg0.N) := outsAt0 m 0 (t.val - 1) (Nat.lt_of_le_of_lt (Nat.sub_le _ _) t.isLt)

theorem first (t : Fin cfg0.N) (h : t.val % 33 = 0) : outsAt0 m 0 t.val t.isLt = (block m t (rounded m t), rounded m t) := by
  refine (outsAt0_A m 0 t h).trans (Prod.ext ?_ ?_)
  all_goals dsimp only
  all_goals frame_out [read_unread_whole]
  all_goals rfl
theorem later (t : Fin cfg0.N) (h : ¬t.val % 33 = 0) : outsAt0 m 0 t.val t.isLt = (block m t (prev m t).2, (prev m t).2) := by
  refine (outsAt0_B m 0 t h).trans (Prod.ext ?_ rfl)
  dsimp only
  frame_out [read_unread_whole]
  rfl

theorem idx0 : ∀ t : Fin cfg0.N, (cfg0.win 0).index t = ![t.val % 33, 0] := (by decide +kernel : ∀ t : Fin grid0.N, win0_0.index t = ![t.val % 33, 0])
theorem idx1 : ∀ t : Fin cfg0.N, (cfg0.win 1).index t = ![0, 0, t.val / 33] := (by decide +kernel : ∀ t : Fin grid0.N, win0_1.index t = ![0, 0, t.val / 33])
theorem idx2 : ∀ t : Fin cfg0.N, (cfg0.win 2).index t = ![min (t.val % 33) 31, t.val / 33] := (by decide +kernel : ∀ t : Fin grid0.N, win0_2.index t = ![min (t.val % 33) 31, t.val / 33])
theorem idx3 : ∀ t : Fin cfg0.N, (cfg0.win 3).index t = ![32, t.val / 33] := (by decide +kernel : ∀ t : Fin grid0.N, win0_3.index t = ![32, t.val / 33])
theorem idx4 : ∀ t : Fin cfg0.N, (cfg0.win 4).index t = ![0, t.val / 33 + 40] := (by decide +kernel : ∀ t : Fin grid0.N, win0_4.index t = ![0, t.val / 33 + 40])
theorem idx5 : ∀ t : Fin cfg0.N, (cfg0.win 5).index t = ![t.val % 33, t.val / 33] := (by decide +kernel : ∀ t : Fin grid0.N, win0_5.index t = ![t.val % 33, t.val / 33])

/-- The gates' row of a point, and whether its rows are latent ones. -/
theorem gate_off : ∀ t : Fin cfg0.N, k0_off1 (grid0.coords t) = ![t.val % 33 / 16, 0] :=
  (by decide +kernel : ∀ t : Fin grid0.N, k0_off1 (grid0.coords t) = ![t.val % 33 / 16, 0])
theorem latent : ∀ t : Fin cfg0.N, Scalar.cmpi .slt (BitVec.ofNat 32 (grid0.coords t 1).val) 32#32 = if t.val % 33 < 32 then 1#1 else 0#1 :=
  (by decide +kernel : ∀ t : Fin grid0.N, Scalar.cmpi .slt (BitVec.ofNat 32 (grid0.coords t 1).val) 32#32 = if t.val % 33 < 32 then 1#1 else 0#1)

theorem rows (t : Fin cfg0.N) (r : Fin 512) (d : Fin 6144) (R : Fin 16896) (hR : R.val = t.val % 33 * 512 + r.val) :
    iblk m 0 0 t (ix2 r d) = m (((0 : Dev nD) : Thread nD τ).loc main_arg0) (ix2 R d) := by
  rw [← V_main_arg0 m 0]
  blk_ext [iblk, idx0 t]
theorem weights (t : Fin cfg0.N) (d : Fin 6144) (k : Fin 512) (K : Fin 4096) (hK : K.val = t.val / 33 * 512 + k.val) :
    iblk m 0 1 t (ix3 0 d k) = m (((0 : Dev nD) : Thread nD τ).loc main_arg1) (ix3 0 d K) := by
  rw [← V_main_arg1 m 0]
  blk_ext [iblk, idx1 t]
theorem latents (t : Fin cfg0.N) (r : Fin 512) (k : Fin 512) (R : Fin 16896) (K : Fin 4096)
    (hR : R.val = min (t.val % 33) 31 * 512 + r.val) (hK : K.val = t.val / 33 * 512 + k.val) :
    iblk m 0 2 t (ix2 r k) = m (((0 : Dev nD) : Thread nD τ).loc main_arg2) (ix2 R K) := by
  rw [← V_main_arg2 m 0]
  blk_ext [iblk, idx2 t]
theorem contexts (t : Fin cfg0.N) (r : Fin 512) (k : Fin 512) (R : Fin 16896) (K : Fin 4096)
    (hR : R.val = 32 * 512 + r.val) (hK : K.val = t.val / 33 * 512 + k.val) :
    iblk m 0 3 t (ix2 r k) = m (((0 : Dev nD) : Thread nD τ).loc main_arg2) (ix2 R K) := by
  rw [← V_main_arg2 m 0]
  blk_ext [iblk, idx3 t]
theorem gateBlock (t : Fin cfg0.N) (e : Fin 8) (k : Fin 512) (K : Fin 24576) (hK : K.val = (t.val / 33 + 40) * 512 + k.val) :
    iblk m 0 4 t (ix2 e k) = m (((0 : Dev nD) : Thread nD τ).loc main_arg3) (ix2 e K) := by
  rw [← V_main_arg3 m 0]
  blk_ext [iblk, idx4 t]

theorem gate_at (t : Fin cfg0.N) (e : Fin 8) (he : e.val = t.val % 33 / 16) (k : Fin 512) (K : Fin 24576) (hK : K.val = (t.val / 33 + 40) * 512 + k.val) :
    gateRow m t (ix2 0 k) = m (((0 : Dev nD) : Thread nD τ).loc main_arg3) (ix2 e K) :=
  (Cert.Rows.row_at (iblk m 0 4 t) _ _ e k ((gate_off t).trans (by rw [he]))).trans (gateBlock m t e k K hK)

end Steps

theorem round_at (W : Vec Ideal S1x6144x512 .f32) (d : Fin 6144) (k : Fin 512) : k0_pay1 W (ix2 d k) = W (ix3 0 d k) := by
  pointwise [k0_pay1]
theorem block_at (i : grid0.Coords) (L C : Vec Ideal S512x512 .f32) (g : Vec Ideal S1x512 .f32) (X : Vec Ideal S512x6144 .bf16)
    (A : Vec Ideal S6144x512 .bf16) (r : Fin 512) (k : Fin 512) :
    k0_pay2 i L C g X A (ix2 r k)
      = Scalar.select (Scalar.cmpi .slt (BitVec.ofNat 32 (i 1).val) 32#32) L C (ix2 r k) + g (ix2 0 k) * ∑ d, X (ix2 r d) * A (ix2 d k) := by
  pointwise [k0_pay2]

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x4096.Idx) : EReal :=
  element (arg m main_arg2) (arg m main_arg3) (arg m main_arg0) (arg m main_arg1) (i 0) (i 1)

/-- The weights held are the argument's columns of column block `j`. -/
def Columns (j : ℕ) (s : Vec Ideal S6144x512 .bf16) : Prop :=
  ∀ (d : Fin 6144) (k : Fin 512) (K : Fin 4096), K.val = j * 512 + k.val → s (ix2 d k) = arg m main_arg1 (ix3 0 d K)

theorem shifted_val (K : Fin 4096) : (shifted K).val = 20480 + K.val := rfl

theorem columns (t : Fin cfg0.N) : Columns m (t.val / 33) (rounded m t) := fun d k K hK =>
  (round_at (iblk m 0 1 t) d k).trans (weights m t d k K hK)

/-- The row that a point adds to: a latent one's, or at the last row block the context's. -/
theorem added (t : Fin cfg0.N) (r : Fin 512) (k : Fin 512) (R : Fin 16896) (K : Fin 4096)
    (hR : R.val = t.val % 33 * 512 + r.val) (hK : K.val = t.val / 33 * 512 + k.val) :
    Scalar.select (Scalar.cmpi .slt (BitVec.ofNat 32 (grid0.coords t 1).val) 32#32) (iblk m 0 2 t) (iblk m 0 3 t) (ix2 r k)
      = arg m main_arg2 (ix2 R K) := by
  have hr := r.isLt
  rw [latent t]
  by_cases h : t.val % 33 < 32
  · rw [if_pos h]
    exact latents m t r k R K (by omega) hK
  · rw [if_neg h]
    exact contexts m t r k R K (by omega) hK

/-- One element of the block a point leaves. -/
theorem point (t : Fin cfg0.N) (r : Fin 512) (k : Fin 512) (R : Fin 16896) (K : Fin 4096)
    (hR : R.val = t.val % 33 * 512 + r.val) (hK : K.val = t.val / 33 * 512 + k.val) :
    (outsAt0 m 0 t.val t.isLt).1 (ix2 r k) = result m (ix2 R K) := by
  obtain ⟨s, hs, he⟩ := Cert.Carry.carried (outsAt0 m 0) (rounded m) (block m) (first m) (later m) (Columns m) (columns m) t.val t.isLt
  rw [he]
  have hr := r.isLt
  refine (block_at (grid0.coords t) (iblk m 0 2 t) (iblk m 0 3 t) (gateRow m t) (iblk m 0 0 t) s r k).trans
    (congrArg₂ (· + ·) (added m t r k R K hR hK) (congrArg₂ (· * ·) ?_ ?_))
  · exact gate_at m t (condition R) (by rw [condition_val]; omega) k (shifted K) (by rw [shifted_val]; omega)
  · exact Cert.Carry.dots (fun d => rows m t r d R hR) fun d => hs d k K hK

/-- Every block of the result is some point's. -/
theorem covers : (cfg0.win 5).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 8 := Nat.lt_of_lt_of_eq (β (1 : Fin 2)).isLt (by show (4096 + 512 - 1) / 512 = 8; rfl)
  refine ⟨⟨(β (1 : Fin 2)).val * 33 + (β (0 : Fin 2)).val, Nat.lt_of_lt_of_eq (by omega) N_0.symm⟩, fun a => ?_⟩
  rw [idx5]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 5 cfg0.N = result m := by
  refine (dats m 0 0).arrAt_eq_of_covers 5 _ covers fun t _ (y : S512x512.Idx) => ?_
  blk_simp
  rw [after0_5]
  have hy : y = ix2 (y 0) (y 1) := funext fun a => by fin_cases a <;> rfl
  have h0 : (y 0).val < 512 := (y 0).isLt
  have h1 : (y 1).val < 512 := (y 1).isLt
  have ht : t.val < 264 := Nat.lt_of_lt_of_eq t.isLt N_0
  have hR : t.val % 33 * 512 + (y 0).val < 16896 := by omega
  have hK : t.val / 33 * 512 + (y 1).val < 4096 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 4096) = ((cfg0.win 5).blk t).view.emb y)
  blk_ext [idx5 t]

end Cert.FfnIdeal.Tiles

end
-- ==== Proof.Ffn.Claims.lean ====
/- The claims of the second dense product, added to the rows: the reference's frame, and that over the extended reals kernel and reference leave
   the same array. -/
module

public import proofs.«01_k».proof.Defs
public import proofs.«01_k».proof.Proof.Ffn.Tile
public import Idealize.ShloMosaic.Lib.Quiescent

@[expose] public section

set_option maxRecDepth 16384

noncomputable section

namespace Cert.Proof.Ffn

open Idealize Idealize.ShloMosaic Idealize.ShloMosaic.TcCoe Idealize.SL.Sem Cert.FfnIdeal.Tiles

attribute [local instance] Cert.FfnIdeal.Gen.facts Cert.FfnRefIdeal.Gen.facts

/-- The reference runs to the end and keeps its arguments; it has no semaphores. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Tiles.run m ρ)

/-- Over the extended reals the kernel's array is the reference's. -/
theorem algebraic : Cert.algebraic_FfnIdeal_FfnRefIdeal := by
  intro m g m' g' hp hagree
  refine ⟨fun c => (Cert.FfnIdeal.Gen.dats m 0 c).arrAt 5 Cert.FfnIdeal.cfg0.N,
    (θ_run Cert.FfnIdeal.defs _ _).mono (fun r h c => ⟨(h.1 c).1 5, h.2 c⟩)
      (θ_run_and (Cert.FfnIdeal.Gen.run_main m g) (Cert.FfnIdeal.Gen.unchanged m g)), ?_⟩
  refine (θ_run Cert.FfnRefIdeal.defs _ _).mono (fun _ h c => ⟨(h c).1.trans ?_, (h c).2⟩)
    (Cert.FfnRefIdeal.Tiles.run m' g')
  obtain rfl : c = 0 := Subsingleton.elim _ _
  obtain ⟨h0, h1, h2, h3⟩ := hagree 0
  rw [h0, h1, h2, h3]
  refine Eq.trans (funext fun y => ?_) (final m).symm
  have hy : y = ix2 (y 0) (y 1) := funext fun a => by fin_cases a <;> rfl
  exact (congrArg _ hy).trans (Cert.FfnRefIdeal.Tiles.out_at _ _ _ _ (y 0) (y 1))

end Cert.Proof.Ffn

end
-- ==== Proof.Rope.RefRun.lean ====
/- The reference of the projection to queries, keys and values as a list of host operations, and its run. -/
module

public import proofs.«01_k».proof.Proof.Gen.RopeRefIdeal
public import Idealize.ShloMosaic.Lib.StableHlo.Run
public import Idealize.ShloMosaic.Lib.StableHlo.RunRead
public import Idealize.ShloMosaic.Lib.Quiescent
public import Idealize.ShloMosaic.Lib.Pointwise
public import Idealize.ShloMosaic.Lib.Pipeline.Value

@[expose] public section

set_option maxRecDepth 8192

noncomputable section

namespace Cert.RopeRefIdeal.Tiles

open Cert.RopeRefIdeal Cert.RopeRefIdeal.Gen Idealize Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg0 main_v0 ((extf .f32 · bitsLt_bf16_f32) : (⟨S16896x4096, .bf16⟩ : BufTy).Contents (Elt F) → (⟨S16896x4096, .f32⟩ : BufTy).Contents (Elt F)),
    unary main_arg1 main_v1 ((extractStridedSlice S1x4096x6144 ![0, 0, 3072] · slices_S2x4096x9216_S1x4096x6144_0_0_3072) : (⟨S2x4096x9216, .f32⟩ : BufTy).Contents (Elt F) → (⟨S1x4096x6144, .f32⟩ : BufTy).Contents (Elt F)),
    reshape main_v1 main_v2 (rfl : (.f32 : EltTy) = .f32) shapeCasts_S1x4096x6144_S4096x6144,
    binary main_v0 main_v2 main_v3 ((fun l r => Host.dotGeneral dot_S16896x4096_S4096x6144_S16896x6144_1_0_0_1_n_n none l r) : (⟨S16896x4096, .f32⟩ : BufTy).Contents (Elt F) → (⟨S4096x6144, .f32⟩ : BufTy).Contents (Elt F) → (⟨S16896x6144, .f32⟩ : BufTy).Contents (Elt F)),
    unary main_v3 main_v4 ((extractStridedSlice S16384x4096 ![0, 0] · slices_S16896x6144_S16384x4096_0_0) : (⟨S16896x6144, .f32⟩ : BufTy).Contents (Elt F) → (⟨S16384x4096, .f32⟩ : BufTy).Contents (Elt F)),
    reshape main_v4 main_v5 (rfl : (.f32 : EltTy) = .f32) shapeCasts_S16384x4096_S2x8192x32x2x2x32,
    unary main_v5 main_v6 ((extractStridedSlice S2x8192x32x2x1x32 ![0, 0, 0, 0, 0, 0] · slices_S2x8192x32x2x2x32_S2x8192x32x2x1x32_0_0_0_0_0_0) : (⟨S2x8192x32x2x2x32, .f32⟩ : BufTy).Contents (Elt F) → (⟨S2x8192x32x2x1x32, .f32⟩ : BufTy).Contents (Elt F)),
    reshape main_v6 main_v7 (rfl : (.f32 : EltTy) = .f32) shapeCasts_S2x8192x32x2x1x32_S2x8192x32x2x32,
    unary main_v5 main_v8 ((extractStridedSlice S2x8192x32x2x1x32 ![0, 0, 0, 0, 1, 0] · slices_S2x8192x32x2x2x32_S2x8192x32x2x1x32_0_0_0_0_1_0) : (⟨S2x8192x32x2x2x32, .f32⟩ : BufTy).Contents (Elt F) → (⟨S2x8192x32x2x1x32, .f32⟩ : BufTy).Contents (Elt F)),
    reshape main_v8 main_v9 (rfl : (.f32 : EltTy) = .f32) shapeCasts_S2x8192x32x2x1x32_S2x8192x32x2x32,
    unary main_arg2 main_v10 (broadcastInDim S1x8192x1x2x32 ![1, 3, 4] bcast_S8192x2x32_S1x8192x1x2x32_1_3_4 : (⟨S8192x2x32, .f32⟩ : BufTy).Contents (Elt F) → (⟨S1x8192x1x2x32, .f32⟩ : BufTy).Contents (Elt F)),
    unary main_arg3 main_v11 (broadcastInDim S1x8192x1x2x32 ![1, 3, 4] bcast_S8192x2x32_S1x8192x1x2x32_1_3_4 : (⟨S8192x2x32, .f32⟩ : BufTy).Contents (Elt F) → (⟨S1x8192x1x2x32, .f32⟩ : BufTy).Contents (Elt F)),
    unary main_v10 main_v12 (broadcastInDim S2x8192x32x2x32 ![0, 1, 2, 3, 4] bcast_S1x8192x1x2x32_S2x8192x32x2x32_0_1_2_3_4 : (⟨S1x8192x1x2x32, .f32⟩ : BufTy).Contents (Elt F) → (⟨S2x8192x32x2x32, .f32⟩ : BufTy).Contents (Elt F)),
    binary main_v7 main_v12 main_v13 (mulf : (⟨S2x8192x32x2x32, .f32⟩ : BufTy).Contents (Elt F) → (⟨S2x8192x32x2x32, .f32⟩ : BufTy).Contents (Elt F) → (⟨S2x8192x32x2x32, .f32⟩ : BufTy).Contents (Elt F)),
    unary main_v11 main_v14 (broadcastInDim S2x8192x32x2x32 ![0, 1, 2, 3, 4] bcast_S1x8192x1x2x32_S2x8192x32x2x32_0_1_2_3_4 : (⟨S1x8192x1x2x32, .f32⟩ : BufTy).Contents (Elt F) → (⟨S2x8192x32x2x32, .f32⟩ : BufTy).Contents (Elt F)),
    binary main_v9 main_v14 main_v15 (mulf : (⟨S2x8192x32x2x32, .f32⟩ : BufTy).Contents (Elt F) → (⟨S2x8192x32x2x32, .f32⟩ : BufTy).Contents (Elt F) → (⟨S2x8192x32x2x32, .f32⟩ : BufTy).Contents (Elt F)),
    binary main_v13 main_v15 main_v16 (subf : (⟨S2x8192x32x2x32, .f32⟩ : BufTy).Contents (Elt F) → (⟨S2x8192x32x2x32, .f32⟩ : BufTy).Contents (Elt F) → (⟨S2x8192x32x2x32, .f32⟩ : BufTy).Contents (Elt F)),
    unary main_v10 main_v17 (broadcastInDim S2x8192x32x2x32 ![0, 1, 2, 3, 4] bcast_S1x8192x1x2x32_S2x8192x32x2x32_0_1_2_3_4 : (⟨S1x8192x1x2x32, .f32⟩ : BufTy).Contents (Elt F) → (⟨S2x8192x32x2x32, .f32⟩ : BufTy).Contents (Elt F)),
    binary main_v9 main_v17 main_v18 (mulf : (⟨S2x8192x32x2x32, .f32⟩ : BufTy).Contents (Elt F) → (⟨S2x8192x32x2x32, .f32⟩ : BufTy).Contents (Elt F) → (⟨S2x8192x32x2x32, .f32⟩ : BufTy).Contents (Elt F)),
    unary main_v11 main_v19 (broadcastInDim S2x8192x32x2x32 ![0, 1, 2, 3, 4] bcast_S1x8192x1x2x32_S2x8192x32x2x32_0_1_2_3_4 : (⟨S1x8192x1x2x32, .f32⟩ : BufTy).Contents (Elt F) → (⟨S2x8192x32x2x32, .f32⟩ : BufTy).Contents (Elt F)),
    binary main_v7 main_v19 main_v20 (mulf : (⟨S2x8192x32x2x32, .f32⟩ : BufTy).Contents (Elt F) → (⟨S2x8192x32x2x32, .f32⟩ : BufTy).Contents (Elt F) → (⟨S2x8192x32x2x32, .f32⟩ : BufTy).Contents (Elt F)),
    binary main_v18 main_v20 main_v21 (addf : (⟨S2x8192x32x2x32, .f32⟩ : BufTy).Contents (Elt F) → (⟨S2x8192x32x2x32, .f32⟩ : BufTy).Contents (Elt F) → (⟨S2x8192x32x2x32, .f32⟩ : BufTy).Contents (Elt F)),
    unary main_v16 main_v22 (broadcastInDim S2x8192x32x2x1x32 ![0, 1, 2, 3, 5] bcast_S2x8192x32x2x32_S2x8192x32x2x1x32_0_1_2_3_5 : (⟨S2x8192x32x2x32, .f32⟩ : BufTy).Contents (Elt F) → (⟨S2x8192x32x2x1x32, .f32⟩ : BufTy).Contents (Elt F)),
    unary main_v21 main_v23 (broadcastInDim S2x8192x32x2x1x32 ![0, 1, 2, 3, 5] bcast_S2x8192x32x2x32_S2x8192x32x2x1x32_0_1_2_3_5 : (⟨S2x8192x32x2x32, .f32⟩ : BufTy).Contents (Elt F) → (⟨S2x8192x32x2x1x32, .f32⟩ : BufTy).Contents (Elt F)),
    binary main_v22 main_v23 main_v24 ((fun a b => concatenate S2x8192x32x2x2x32 4 [⟨S2x8192x32x2x1x32, a⟩, ⟨S2x8192x32x2x1x32, b⟩] concatenates_S2x8192x32x2x1x32_S2x8192x32x2x1x32_S2x8192x32x2x2x32_d4) : (⟨S2x8192x32x2x1x32, .f32⟩ : BufTy).Contents (Elt F) → (⟨S2x8192x32x2x1x32, .f32⟩ : BufTy).Contents (Elt F) → (⟨S2x8192x32x2x2x32, .f32⟩ : BufTy).Contents (Elt F)),
    reshape main_v24 main_v25 (rfl : (.f32 : EltTy) = .f32) shapeCasts_S2x8192x32x2x2x32_S16384x4096,
    unary main_v3 main_v26 ((extractStridedSlice S512x4096 ![16384, 0] · slices_S16896x6144_S512x4096_16384_0) : (⟨S16896x6144, .f32⟩ : BufTy).Contents (Elt F) → (⟨S512x4096, .f32⟩ : BufTy).Contents (Elt F)),
    binary main_v25 main_v26 main_v27 ((fun a b => concatenate S16896x4096 0 [⟨S16384x4096, a⟩, ⟨S512x4096, b⟩] concatenates_S16384x4096_S512x4096_S16896x4096_d0) : (⟨S16384x4096, .f32⟩ : BufTy).Contents (Elt F) → (⟨S512x4096, .f32⟩ : BufTy).Contents (Elt F) → (⟨S16896x4096, .f32⟩ : BufTy).Contents (Elt F)),
    unary main_v27 main_v28 ((extractStridedSlice S16896x2048 ![0, 0] · slices_S16896x4096_S16896x2048_0_0) : (⟨S16896x4096, .f32⟩ : BufTy).Contents (Elt F) → (⟨S16896x2048, .f32⟩ : BufTy).Contents (Elt F)),
    nullary main_cst (constant S_ .f32 0x3E0293EE#32),
    unary main_cst main_v29 (broadcastInDim S16896x2048 ![] bcast_S_S16896x2048 : (⟨S_, .f32⟩ : BufTy).Contents (Elt F) → (⟨S16896x2048, .f32⟩ : BufTy).Contents (Elt F)),
    binary main_v28 main_v29 main_v30 (mulf : (⟨S16896x2048, .f32⟩ : BufTy).Contents (Elt F) → (⟨S16896x2048, .f32⟩ : BufTy).Contents (Elt F) → (⟨S16896x2048, .f32⟩ : BufTy).Contents (Elt F)),
    unary main_v27 main_v31 ((extractStridedSlice S16896x2048 ![0, 2048] · slices_S16896x4096_S16896x2048_0_2048) : (⟨S16896x4096, .f32⟩ : BufTy).Contents (Elt F) → (⟨S16896x2048, .f32⟩ : BufTy).Contents (Elt F)),
    unary main_v3 main_v32 ((extractStridedSlice S16896x2048 ![0, 4096] · slices_S16896x6144_S16896x2048_0_4096) : (⟨S16896x6144, .f32⟩ : BufTy).Contents (Elt F) → (⟨S16896x2048, .f32⟩ : BufTy).Contents (Elt F)),
    nary ![main_v30, main_v31, main_v32] main_v33 (fun u => (concatenate S16896x6144 1 [⟨S16896x2048, (u 0 : (⟨S16896x2048, .f32⟩ : BufTy).Contents (Elt F))⟩, ⟨S16896x2048, (u 1 : (⟨S16896x2048, .f32⟩ : BufTy).Contents (Elt F))⟩, ⟨S16896x2048, (u 2 : (⟨S16896x2048, .f32⟩ : BufTy).Contents (Elt F))⟩] concatenates_S16896x2048_S16896x2048_S16896x2048_S16896x6144_d1 : (⟨S16896x6144, .f32⟩ : BufTy).Contents (Elt F))),
    unary main_v33 main_v34 ((truncf .bf16 · bitsLt_bf16_f32) : (⟨S16896x6144, .f32⟩ : BufTy).Contents (Elt F) → (⟨S16896x6144, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., binary_bufs_sub .., unary_bufs_sub .., reshape_bufs_sub .., unary_bufs_sub .., reshape_bufs_sub .., unary_bufs_sub .., reshape_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., reshape_bufs_sub .., unary_bufs_sub .., binary_bufs_sub .., unary_bufs_sub .., nullary_bufs_sub .., unary_bufs_sub .., binary_bufs_sub .., unary_bufs_sub .., unary_bufs_sub .., nary_bufs_sub .., unary_bufs_sub ..⟩

/-- The product by the weights' columns of queries, keys and values. -/
def product (H : FVec F S16896x4096 .bf16) (W : FVec F S2x4096x9216 .f32) : FVec F S16896x6144 .f32 :=
  Host.dotGeneral dot_S16896x4096_S4096x6144_S16896x6144_1_0_0_1_n_n none (extf .f32 H bitsLt_bf16_f32)
    (shapeCast S4096x6144 (extractStridedSlice S1x4096x6144 ![0, 0, 3072] W slices_S2x4096x9216_S1x4096x6144_0_0_3072) shapeCasts_S1x4096x6144_S4096x6144)

/-- The latent rows' queries and keys by batch, position, head, axis, half and frequency; one half of them; and a table
    of the positions' angles for each. -/
def parts (Y : FVec F S16896x6144 .f32) : FVec F S2x8192x32x2x2x32 .f32 :=
  shapeCast S2x8192x32x2x2x32 (extractStridedSlice S16384x4096 ![0, 0] Y slices_S16896x6144_S16384x4096_0_0) shapeCasts_S16384x4096_S2x8192x32x2x2x32
def half1 (Y : FVec F S16896x6144 .f32) : FVec F S2x8192x32x2x32 .f32 :=
  shapeCast S2x8192x32x2x32 (extractStridedSlice S2x8192x32x2x1x32 ![0, 0, 0, 0, 0, 0] (parts Y) slices_S2x8192x32x2x2x32_S2x8192x32x2x1x32_0_0_0_0_0_0)
    shapeCasts_S2x8192x32x2x1x32_S2x8192x32x2x32
def half2 (Y : FVec F S16896x6144 .f32) : FVec F S2x8192x32x2x32 .f32 :=
  shapeCast S2x8192x32x2x32 (extractStridedSlice S2x8192x32x2x1x32 ![0, 0, 0, 0, 1, 0] (parts Y) slices_S2x8192x32x2x2x32_S2x8192x32x2x1x32_0_0_0_0_1_0)
    shapeCasts_S2x8192x32x2x1x32_S2x8192x32x2x32
def each (T : FVec F S8192x2x32 .f32) : FVec F S2x8192x32x2x32 .f32 :=
  broadcastInDim S2x8192x32x2x32 ![0, 1, 2, 3, 4] bcast_S1x8192x1x2x32_S2x8192x32x2x32_0_1_2_3_4
    (broadcastInDim S1x8192x1x2x32 ![1, 3, 4] bcast_S8192x2x32_S1x8192x1x2x32_1_3_4 T)

/-- The two halves turned, laid side by side, and as rows again. -/
def side (a : FVec F S2x8192x32x2x32 .f32) : FVec F S2x8192x32x2x1x32 .f32 :=
  broadcastInDim S2x8192x32x2x1x32 ![0, 1, 2, 3, 5] bcast_S2x8192x32x2x32_S2x8192x32x2x1x32_0_1_2_3_5 a
def stacked (a b : FVec F S2x8192x32x2x1x32 .f32) : FVec F S2x8192x32x2x2x32 .f32 :=
  concatenate S2x8192x32x2x2x32 4 [⟨S2x8192x32x2x1x32, a⟩, ⟨S2x8192x32x2x1x32, b⟩] concatenates_S2x8192x32x2x1x32_S2x8192x32x2x1x32_S2x8192x32x2x2x32_d4
def turned (Y : FVec F S16896x6144 .f32) (C S : FVec F S8192x2x32 .f32) : FVec F S16384x4096 .f32 :=
  shapeCast S16384x4096 (stacked (side (subf (mulf (half1 Y) (each C)) (mulf (half2 Y) (each S)))) (side (addf (mulf (half2 Y) (each C)) (mulf (half1 Y) (each S)))))
    shapeCasts_S2x8192x32x2x2x32_S16384x4096

/-- The queries and keys: the latent rows' turned, the context's as they are. -/
def heads (Y : FVec F S16896x6144 .f32) (C S : FVec F S8192x2x32 .f32) : FVec F S16896x4096 .f32 :=
  concatenate S16896x4096 0 [⟨S16384x4096, turned Y C S⟩, ⟨S512x4096, extractStridedSlice S512x4096 ![16384, 0] Y slices_S16896x6144_S512x4096_16384_0⟩]
    concatenates_S16384x4096_S512x4096_S16896x4096_d0
def queries (A : FVec F S16896x4096 .f32) : FVec F S16896x2048 .f32 :=
  mulf (extractStridedSlice S16896x2048 ![0, 0] A slices_S16896x4096_S16896x2048_0_0) (broadcastInDim S16896x2048 ![] bcast_S_S16896x2048 (constant S_ .f32 0x3E0293EE#32))

/-- The result: queries scaled, keys, values. -/
def joined (A : FVec F S16896x4096 .f32) (Y : FVec F S16896x6144 .f32) : FVec F S16896x6144 .bf16 :=
  truncf .bf16 (concatenate S16896x6144 1 [⟨S16896x2048, queries A⟩, ⟨S16896x2048, extractStridedSlice S16896x2048 ![0, 2048] A slices_S16896x4096_S16896x2048_0_2048⟩,
    ⟨S16896x2048, extractStridedSlice S16896x2048 ![0, 4096] Y slices_S16896x6144_S16896x2048_0_4096⟩] concatenates_S16896x2048_S16896x2048_S16896x2048_S16896x6144_d1) bitsLt_bf16_f32

section Reads

/-! What the buffers hold in the course of the run. -/

variable (m : (ℓ : Loc nD τ sig) → Buf (Elt F) ℓ) (c : Dev nD)

/-- The product of the arguments; and a buffer after the first `n` operations. -/
abbrev rowsOf : FVec F S16896x6144 .f32 := product (m ((c.tc : Thread nD τ).loc main_arg0)) (m ((c.tc : Thread nD τ).loc main_arg1))
abbrev held (n : ℕ) (r : Ref sig .tc) := upto (ops : List (HloOp τ sig (Elt F))) (fun b => m (c, b)) n (Proc.devRef .tc r)

theorem firsts : held m c 24 main_v22 = side (subf (mulf (half1 (rowsOf m c)) (each (m ((c.tc : Thread nD τ).loc main_arg2)))) (mulf (half2 (rowsOf m c)) (each (m ((c.tc : Thread nD τ).loc main_arg3))))) := by
  after_reads_simp
  rfl
theorem seconds : held m c 24 main_v23 = side (addf (mulf (half2 (rowsOf m c)) (each (m ((c.tc : Thread nD τ).loc main_arg2)))) (mulf (half1 (rowsOf m c)) (each (m ((c.tc : Thread nD τ).loc main_arg3))))) := by
  after_reads_simp
  rfl
theorem latents : held m c 27 main_v25 = turned (rowsOf m c) (m ((c.tc : Thread nD τ).loc main_arg2)) (m ((c.tc : Thread nD τ).loc main_arg3)) := by
  after_reads_simp
  exact congrArg₂ (fun a b => shapeCast S16384x4096 (stacked a b) shapeCasts_S2x8192x32x2x2x32_S16384x4096) (firsts m c) (seconds m c)
theorem contexts : held m c 27 main_v26 = extractStridedSlice S512x4096 ![16384, 0] (rowsOf m c) slices_S16896x6144_S512x4096_16384_0 := by
  after_reads_simp
  rfl

/-- Latent and context rows of queries and keys. -/
def both (a : FVec F S16384x4096 .f32) (b : FVec F S512x4096 .f32) : FVec F S16896x4096 .f32 :=
  concatenate S16896x4096 0 [⟨S16384x4096, a⟩, ⟨S512x4096, b⟩] concatenates_S16384x4096_S512x4096_S16896x4096_d0

theorem scaledQueries : held m c 34 main_v30 = queries (heads (rowsOf m c) (m ((c.tc : Thread nD τ).loc main_arg2)) (m ((c.tc : Thread nD τ).loc main_arg3))) := by
  after_reads_simp
  exact congrArg₂ (fun a b => queries (both a b)) (latents m c) (contexts m c)
theorem keys : held m c 34 main_v31 = extractStridedSlice S16896x2048 ![0, 2048] (heads (rowsOf m c) (m ((c.tc : Thread nD τ).loc main_arg2)) (m ((c.tc : Thread nD τ).loc main_arg3))) slices_S16896x4096_S16896x2048_0_2048 := by
  after_reads_simp
  exact congrArg₂ (fun a b => extractStridedSlice S16896x2048 ![0, 2048] (both a b) slices_S16896x4096_S16896x2048_0_2048) (latents m c) (contexts m c)
theorem values : held m c 34 main_v32 = extractStridedSlice S16896x2048 ![0, 4096] (rowsOf m c) slices_S16896x6144_S16896x2048_0_4096 := by
  after_reads_simp
  rfl

/-- The three side by side. -/
def three (a b d : FVec F S16896x2048 .f32) : FVec F S16896x6144 .bf16 :=
  truncf .bf16 (concatenate S16896x6144 1 [⟨S16896x2048, a⟩, ⟨S16896x2048, b⟩, ⟨S16896x2048, d⟩] concatenates_S16896x2048_S16896x2048_S16896x2048_S16896x6144_d1) bitsLt_bf16_f32

theorem out : after (ops : List (HloOp τ sig (Elt F))) (fun b => m (c, b)) (Proc.devRef .tc main_v34) = joined (heads (rowsOf m c) (m ((c.tc : Thread nD τ).loc main_arg2)) (m ((c.tc : Thread nD τ).loc main_arg3))) (rowsOf m c) := by
  after_reads_simp
  have e : three (held m c 34 main_v30) (held m c 34 main_v31) (held m c 34 main_v32) = _ :=
    congr (congrArg₂ three (scaledQueries m c) (keys m c)) (values m c)
  exact e

end Reads

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = joined (heads (rowsOf m c) (m ((c.tc : Thread nD τ).loc main_arg2)) (m ((c.tc : Thread nD τ).loc main_arg3))) (rowsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (out m c), (h c main_arg0).trans (by after_reads_simp),
      (h c main_arg1).trans (by after_reads_simp), (h c main_arg2).trans (by after_reads_simp), (h c main_arg3).trans (by after_reads_simp)⟩)
    (run_seq scopedRefs_eq scopedSems_eq defs main (fun _ => ops) main_eq (fun _ => ops_sub) m ρ)

end Cert.RopeRefIdeal.Tiles

end
-- ==== Proof.Rope.Ref.lean ====
/- The value of the reference of the projection to queries, keys and values over the extended reals. -/
module

public import proofs.«01_k».proof.Proof.Rope.RefRun

@[expose] public section

set_option maxRecDepth 8192

noncomputable section

namespace Cert.RopeRefIdeal.Tiles

open Cert.RopeRefIdeal Cert.RopeRefIdeal.Gen Idealize Idealize.ShloMosaic Idealize.ShloMosaic.TcCoe Idealize.SL.Sem Idealize.ShloMosaic.StableHlo

/-- An element of the product: row `R`, column `K` of the queries, keys and values. -/
def weightCol (K : Fin 6144) : Fin 9216 := ⟨3072 + K.val, by omega⟩
def entry (H : FVec Ideal S16896x4096 .bf16) (W : FVec Ideal S2x4096x9216 .f32) (R : Fin 16896) (K : Fin 6144) : EReal :=
  ∑ d : Fin 4096, H (ix2 R d) * W (ix3 0 d (weightCol K))
theorem product_at (H : FVec Ideal S16896x4096 .bf16) (W : FVec Ideal S2x4096x9216 .f32) (R : Fin 16896) (K : Fin 6144) :
    product H W (ix2 R K) = entry H W R K := by
  pointwise [product]
  rfl

theorem half1_at (Y : FVec Ideal S16896x6144 .f32) (b : Fin 2) (p : Fin 8192) (h : Fin 32) (a : Fin 2) (f : Fin 32)
    (R : Fin 16896) (K : Fin 6144) (hR : R.val = b.val * 8192 + p.val) (hK : K.val = h.val * 128 + a.val * 64 + f.val) :
    half1 Y (ix5 b p h a f) = Y (ix2 R K) := by
  pointwise [half1, parts]
  exact congrArg₂ (fun r k => Y (ix2 r k)) (Fin.ext hR.symm) (Fin.ext hK.symm)
theorem half2_at (Y : FVec Ideal S16896x6144 .f32) (b : Fin 2) (p : Fin 8192) (h : Fin 32) (a : Fin 2) (f : Fin 32)
    (R : Fin 16896) (K : Fin 6144) (hR : R.val = b.val * 8192 + p.val) (hK : K.val = h.val * 128 + a.val * 64 + 32 + f.val) :
    half2 Y (ix5 b p h a f) = Y (ix2 R K) := by
  pointwise [half2, parts]
  exact congrArg₂ (fun r k => Y (ix2 r k)) (Fin.ext hR.symm) (Fin.ext hK.symm)
theorem each_at (T : FVec Ideal S8192x2x32 .f32) (b : Fin 2) (p : Fin 8192) (h : Fin 32) (a : Fin 2) (f : Fin 32) :
    each T (ix5 b p h a f) = T (ix3 p a f) := by
  pointwise [each]
theorem side_at (A : FVec Ideal S2x8192x32x2x32 .f32) (b : Fin 2) (p : Fin 8192) (h : Fin 32) (a : Fin 2) (z : Fin 1) (f : Fin 32) :
    side A (ix6 b p h a z f) = A (ix5 b p h a f) := by
  pointwise [side]

/-- The angle's table at a row and a column, and the column's pair, one half after or before it. -/
def angle (T : FVec Ideal S8192x2x32 .f32) (R : Fin 16896) (K : Fin 6144) : EReal :=
  T (ix3 ⟨R.val % 8192, by omega⟩ ⟨K.val / 64 % 2, by omega⟩ ⟨K.val % 32, by omega⟩)
def after (K : Fin 6144) : Fin 6144 := ⟨(K.val + 32) % 6144, by omega⟩
def before (K : Fin 6144) : Fin 6144 := ⟨(K.val + 6112) % 6144, by omega⟩

/-- The rows `y` turned; the scale; and an element of the result. -/
def turn (y : Fin 16896 → Fin 6144 → EReal) (C S : FVec Ideal S8192x2x32 .f32) (R : Fin 16896) (K : Fin 6144) : EReal :=
  if K.val % 64 < 32 then y R K * angle C R K - y R (after K) * angle S R K else y R K * angle C R K + y R (before K) * angle S R K
def head (y : Fin 16896 → Fin 6144 → EReal) (C S : FVec Ideal S8192x2x32 .f32) (R : Fin 16896) (K : Fin 6144) : EReal :=
  if R.val < 16384 then turn y C S R K else y R K
def scale : EReal := Ideal.ofBits FTy.f32 1040356334#32
def element (y : Fin 16896 → Fin 6144 → EReal) (C S : FVec Ideal S8192x2x32 .f32) (R : Fin 16896) (K : Fin 6144) : EReal :=
  if K.val < 2048 then head y C S R K * scale else if K.val < 4096 then head y C S R K else y R K

theorem turned_at (Y : FVec Ideal S16896x6144 .f32) (C S : FVec Ideal S8192x2x32 .f32) (r : Fin 16384) (k : Fin 4096)
    (R : Fin 16896) (K : Fin 6144) (hR : R.val = r.val) (hK : K.val = k.val) :
    turned Y C S (ix2 r k) = turn (fun R K => Y (ix2 R K)) C S R K := by
  have hr := r.isLt
  have hk := k.isLt
  have hp : K.val % 64 < 32 ↔ k.val / 32 % 2 < 1 := by omega
  have ha : k.val / 32 % 2 < 1 → (after K).val = k.val + 32 := fun h => (Nat.mod_eq_of_lt (by omega)).trans (by omega)
  have hb : ¬k.val / 32 % 2 < 1 → (before K).val = k.val - 32 := fun h => by show (K.val + 6112) % 6144 = k.val - 32; omega
  have hc : ∀ T : FVec Ideal S8192x2x32 .f32, T (ix3 ⟨r.val % 8192, by omega⟩ ⟨k.val / 64 % 2, by omega⟩ ⟨k.val % 32, by omega⟩) = angle T R K := fun T => by
    unfold angle
    simp only [hR, hK]
  have hrow : R.val = r.val / 8192 * 8192 + r.val % 8192 := by omega
  unfold turned
  pointwise [stacked]
  split
  · rename_i h
    refine Eq.trans ?_ (if_pos (hp.mpr h)).symm
    refine (side_at _ _ _ _ _ _ _).trans (congrArg₂ (· - ·) (congrArg₂ (· * ·) (half1_at Y _ _ _ _ _ R K hrow ?_) ((each_at C _ _ _ _ _).trans (hc C)))
      (congrArg₂ (· * ·) (half2_at Y _ _ _ _ _ R (after K) hrow ?_) ((each_at S _ _ _ _ _).trans (hc S))))
    · show K.val = k.val / 128 * 128 + k.val / 64 % 2 * 64 + k.val % 32
      clear hc ha hb
      omega
    · show (after K).val = k.val / 128 * 128 + k.val / 64 % 2 * 64 + 32 + k.val % 32
      have := ha h
      clear hc ha hb
      omega
  · rename_i h
    refine Eq.trans ?_ (if_neg fun hh => h (hp.mp hh)).symm
    refine (side_at _ _ _ _ _ _ _).trans (congrArg₂ (· + ·) (congrArg₂ (· * ·) (half2_at Y _ _ _ _ _ R K hrow ?_) ((each_at C _ _ _ _ _).trans (hc C)))
      (congrArg₂ (· * ·) (half1_at Y _ _ _ _ _ R (before K) hrow ?_) ((each_at S _ _ _ _ _).trans (hc S))))
    · show K.val = k.val / 128 * 128 + k.val / 64 % 2 * 64 + 32 + k.val % 32
      clear hc ha hb
      have h' : k.val / 32 % 2 = 1 := by have := Nat.mod_lt (k.val / 32) (show 0 < 2 by decide); exact Nat.le_antisymm (Nat.le_of_lt_succ this) (Nat.le_of_not_lt h)
      omega
    · show (before K).val = k.val / 128 * 128 + k.val / 64 % 2 * 64 + k.val % 32
      have := hb h
      have h' : k.val / 32 % 2 = 1 := by have := Nat.mod_lt (k.val / 32) (show 0 < 2 by decide); exact Nat.le_antisymm (Nat.le_of_lt_succ this) (Nat.le_of_not_lt h)
      clear hc ha hb
      omega

theorem heads_at (Y : FVec Ideal S16896x6144 .f32) (C S : FVec Ideal S8192x2x32 .f32) (R : Fin 16896) (k : Fin 4096)
    (K : Fin 6144) (hK : K.val = k.val) :
    heads Y C S (ix2 R k) = head (fun R K => Y (ix2 R K)) C S R K := by
  unfold heads head
  split
  · refine (concatenate_pair_apply_left (t := S16896x4096) (s₁ := S16384x4096) _ (turned Y C S) _ _ (ix2 R k) rfl (ix2 ⟨R.val, ‹_›⟩ k) fun b => ?_).trans (turned_at Y C S _ k R K rfl hK)
    fin_cases b <;> rfl
  · refine (concatenate_pair_apply_right (t := S16896x4096) (s₂ := S512x4096) _ (turned Y C S) _ _ (ix2 R k) rfl rfl (ix2 ⟨R.val - 16384, by omega⟩ k) (fun b hb => ?_) ?_).trans ?_
    · fin_cases b
      · exact absurd rfl hb
      · rfl
    · show R.val - 16384 + 16384 = R.val
      omega
    · refine congrArg Y (funext fun a => Fin.ext ?_)
      fin_cases a
      · show 16384 + (R.val - 16384) = R.val
        omega
      · show 0 + k.val = K.val
        omega

theorem queries_at (A : FVec Ideal S16896x4096 .f32) (R : Fin 16896) (K : Fin 2048) (k : Fin 4096) (hk : k.val = K.val) :
    queries A (ix2 R K) = (fun a => a * scale) (A (ix2 R k)) := by
  pointwise [queries]
  exact congrArg (fun k => A (ix2 R k) * scale) (Fin.ext hk.symm)

/-- The result's columns: queries, keys, values. -/
abbrev columns (A : FVec Ideal S16896x4096 .f32) (Y : FVec Ideal S16896x6144 .f32) : List ((s : Shape) × (s.Idx → Ideal .f32)) :=
  [⟨S16896x2048, queries A⟩, ⟨S16896x2048, extractStridedSlice S16896x2048 ![0, 2048] A slices_S16896x4096_S16896x2048_0_2048⟩,
    ⟨S16896x2048, extractStridedSlice S16896x2048 ![0, 4096] Y slices_S16896x6144_S16896x2048_0_4096⟩]

theorem joined_at (A : FVec Ideal S16896x4096 .f32) (Y : FVec Ideal S16896x6144 .f32) (R : Fin 16896) (K : Fin 6144) (k : Fin 4096)
    (hk : K.val < 4096 → k.val = K.val) :
    joined A Y (ix2 R K) = (fun a y => if K.val < 2048 then a * scale else if K.val < 4096 then a else y) (A (ix2 R k)) (Y (ix2 R K)) := by
  have hK := K.isLt
  beta_reduce
  split
  · refine (concatenate_apply_piece (t := S16896x6144) (1 : Fin 2) (columns A Y) concatenates_S16896x2048_S16896x2048_S16896x2048_S16896x6144_d1 (ix2 R K) 0 (by show 0 < 3; omega) S16896x2048 _ rfl rfl 0 rfl (ix2 R ⟨K.val, ‹_›⟩) (fun b hb => ?_) ?_).trans
      (queries_at A R ⟨K.val, ‹_›⟩ k (hk (by omega)))
    · fin_cases b
      · rfl
      · exact absurd rfl hb
    · exact Nat.zero_add _
  · split
    · refine (concatenate_apply_piece (t := S16896x6144) (1 : Fin 2) (columns A Y) concatenates_S16896x2048_S16896x2048_S16896x2048_S16896x6144_d1 (ix2 R K) 1 (by show 1 < 3; omega) S16896x2048 _ rfl rfl 2048 rfl (ix2 R ⟨K.val - 2048, by omega⟩) (fun b hb => ?_) ?_).trans ?_
      · fin_cases b
        · rfl
        · exact absurd rfl hb
      · show 2048 + (K.val - 2048) = K.val
        omega
      · refine congrArg A (funext fun a => Fin.ext ?_)
        have := hk ‹_›
        fin_cases a
        · show 0 + R.val = R.val
          omega
        · show 2048 + (K.val - 2048) = k.val
          omega
    · refine (concatenate_apply_piece (t := S16896x6144) (1 : Fin 2) (columns A Y) concatenates_S16896x2048_S16896x2048_S16896x2048_S16896x6144_d1 (ix2 R K) 2 (by show 2 < 3; omega) S16896x2048 _ rfl rfl 4096 rfl (ix2 R ⟨K.val - 4096, by omega⟩) (fun b hb => ?_) ?_).trans ?_
      · fin_cases b
        · rfl
        · exact absurd rfl hb
      · show 4096 + (K.val - 4096) = K.val
        omega
      · refine congrArg Y (funext fun a => Fin.ext ?_)
        fin_cases a
        · show 0 + R.val = R.val
          omega
        · show 4096 + (K.val - 4096) = K.val
          omega

/-- An element of the reference's result. -/
theorem out_at (H : FVec Ideal S16896x4096 .bf16) (W : FVec Ideal S2x4096x9216 .f32) (C S : FVec Ideal S8192x2x32 .f32)
    (R : Fin 16896) (K : Fin 6144) :
    joined (heads (product H W) C S) (product H W) (ix2 R K) = element (entry H W) C S R K := by
  have e : (fun R K => product H W (ix2 R K)) = entry H W := funext fun R => funext fun K => product_at H W R K
  refine (joined_at _ _ R K ⟨K.val % 4096, Nat.mod_lt _ (by omega)⟩ fun h => Nat.mod_eq_of_lt h).trans ?_
  beta_reduce
  unfold element
  rw [product_at]
  have hh : K.val < 4096 → heads (product H W) C S (ix2 R ⟨K.val % 4096, Nat.mod_lt _ (by omega)⟩) = head (entry H W) C S R K := fun h => by
    rw [heads_at (product H W) C S R _ K (Nat.mod_eq_of_lt h).symm, e]
  split
  · rw [hh (by omega)]
  · split
    · rw [hh ‹_›]
    · rfl

end Cert.RopeRefIdeal.Tiles

end
-- ==== Proof.Rope.Tables.lean ====
/- The three tables of the projection to queries, keys and values: what the launch finds in them, of the cosines and sines. -/
module

public import proofs.«01_k».proof.Proof.Gen.RopeIdeal.Frame
public import proofs.«01_k».proof.Proof.Rope.Ref
public import Idealize.ShloMosaic.Lib.VecWindow

@[expose] public section

set_option maxRecDepth 16384

noncomputable section

namespace Cert.RopeIdeal.Tiles

open Cert.RopeIdeal Cert.RopeIdeal.Gen Idealize Idealize.ShloMosaic Idealize.ShloMosaic.TcCoe Idealize.SL.Sem Idealize.ShloMosaic.StableHlo
open Cert.RopeRefIdeal.Tiles (scale)

section Tables

variable {F : FTy → Type} [FloatOps F]
variable (m : (ℓ : Loc nD τ sig) → Buf (Elt F) ℓ)

/-- One half of a table of angles; the quarters of a row; the rows of queries, keys and the context. -/
def half0 (T : FVec F S8192x2x32 .f32) : FVec F S8192x32 .f32 :=
  shapeCast S8192x32 (extractStridedSlice S8192x1x32 ![0, 0, 0] T slices_S8192x2x32_S8192x1x32_0_0_0) shapeCasts_S8192x1x32_S8192x32
def half1 (T : FVec F S8192x2x32 .f32) : FVec F S8192x32 .f32 :=
  shapeCast S8192x32 (extractStridedSlice S8192x1x32 ![0, 1, 0] T slices_S8192x2x32_S8192x1x32_0_1_0) shapeCasts_S8192x1x32_S8192x32
def nothing : FVec F S8192x32 .f32 := broadcastInDim S8192x32 ![] bcast_S_S8192x32 (constant S_ .f32 0x00000000#32)
def quarters (a b c d : FVec F S8192x32 .f32) : FVec F S8192x128 .f32 :=
  concatenate S8192x128 1 [⟨S8192x32, a⟩, ⟨S8192x32, b⟩, ⟨S8192x32, c⟩, ⟨S8192x32, d⟩] concatenates_S8192x32_S8192x32_S8192x32_S8192x32_S8192x128_d1
def scaled (q : FVec F S8192x128 .f32) : FVec F S8192x128 .f32 :=
  mulf q (broadcastInDim S8192x128 ![] bcast_S_S8192x128 (constant S_ .f32 0x3E0293EE#32))
def filled (w : BitVec 32) : FVec F S512x128 .f32 := broadcastInDim S512x128 ![] bcast_S_S512x128 (constant S_ .f32 w)
def table (q : FVec F S8192x128 .f32) (z o : FVec F S512x128 .f32) : FVec F S17408x128 .f32 :=
  concatenate S17408x128 0 [⟨S8192x128, scaled q⟩, ⟨S8192x128, q⟩, ⟨S512x128, z⟩, ⟨S512x128, o⟩] concatenates_S8192x128_S8192x128_S512x128_S512x128_S17408x128_d0

/-- The quarters of the three tables. -/
def cosines (T : FVec F S8192x2x32 .f32) : FVec F S8192x128 .f32 := quarters (half0 T) (half0 T) (half1 T) (half1 T)
def ups (T : FVec F S8192x2x32 .f32) : FVec F S8192x128 .f32 := quarters nothing (half0 T) nothing (half1 T)
def downs (T : FVec F S8192x2x32 .f32) : FVec F S8192x128 .f32 := quarters (Host.negf (half0 T)) nothing (Host.negf (half1 T)) nothing

theorem V_cosines : V m 0 main_v29 = table (cosines (m (((0 : Dev nD) : Thread nD τ).loc main_arg2))) (addf (filled 0#32) (filled 0x3E0293EE#32)) (addf (filled 0#32) (filled 0x3F800000#32)) := by
  unfold V hostOps0
  after_results
  rfl
theorem V_ups : V m 0 main_v32 = table (ups (m (((0 : Dev nD) : Thread nD τ).loc main_arg3))) (filled 0#32) (filled 0#32) := by
  unfold V hostOps0
  after_results
  rfl
theorem V_downs : V m 0 main_v35 = table (downs (m (((0 : Dev nD) : Thread nD τ).loc main_arg3))) (filled 0#32) (filled 0#32) := by
  unfold V hostOps0
  after_results
  rfl

end Tables

theorem half0_at (T : FVec Ideal S8192x2x32 .f32) (p : Fin 8192) (f : Fin 32) : half0 T (ix2 p f) = T (ix3 p 0 f) := by
  pointwise [half0]
theorem half1_at (T : FVec Ideal S8192x2x32 .f32) (p : Fin 8192) (f : Fin 32) : half1 T (ix2 p f) = T (ix3 p 1 f) := by
  pointwise [half1]
theorem nothing_at (i : S8192x32.Idx) : (nothing (F := Ideal)) i = (0 : EReal) := Ideal.ofBits_zero .f32
theorem scaled_at (q : FVec Ideal S8192x128 .f32) (i : S8192x128.Idx) : scaled q i = (fun x => x * scale) (q i) := rfl
theorem filled_at (w : BitVec 32) (i : S512x128.Idx) : (filled (F := Ideal) w) i = Ideal.ofBits .f32 w := rfl

/-- The pieces of a row of a table, and of a table. -/
abbrev pieces (a b c d : FVec Ideal S8192x32 .f32) : List ((s : Shape) × (s.Idx → Ideal .f32)) :=
  [⟨S8192x32, a⟩, ⟨S8192x32, b⟩, ⟨S8192x32, c⟩, ⟨S8192x32, d⟩]
abbrev parts (q : FVec Ideal S8192x128 .f32) (z o : FVec Ideal S512x128 .f32) : List ((s : Shape) × (s.Idx → Ideal .f32)) :=
  [⟨S8192x128, scaled q⟩, ⟨S8192x128, q⟩, ⟨S512x128, z⟩, ⟨S512x128, o⟩]

/-- Quarter `k` of a row. -/
theorem quarter_at (a b c d x : FVec Ideal S8192x32 .f32) (k : ℕ) (hk : k < 4) (hx : (pieces a b c d)[k] = ⟨S8192x32, x⟩)
    (hpre : ((((pieces a b c d).take k).map (·.1)).map fun s => if h : s.rank = S8192x128.rank then s.size ((1 : Fin S8192x128.rank).cast h.symm) else 0).sum = 32 * k)
    (p : Fin 8192) (e : Fin 128) (f : Fin 32) (he : e.val = 32 * k + f.val) : quarters a b c d (ix2 p e) = x (ix2 p f) := by
  refine concatenate_apply_piece (t := S8192x128) (1 : Fin 2) (pieces a b c d) concatenates_S8192x32_S8192x32_S8192x32_S8192x32_S8192x128_d1 (ix2 p e)
    k hk S8192x32 x hx rfl (32 * k) hpre (ix2 p f) (fun b hb => ?_) he.symm
  fin_cases b
  · rfl
  · exact absurd rfl hb
theorem quarters_at (a b c d : FVec Ideal S8192x32 .f32) (p : Fin 8192) (e : Fin 128) (f : Fin 32) (hf : f.val = e.val % 32) :
    quarters a b c d (ix2 p e) = (if e.val < 32 then a else if e.val < 64 then b else if e.val < 96 then c else d) (ix2 p f) := by
  have := e.isLt
  split
  · exact quarter_at a b c d a 0 (by decide) rfl rfl p e f (by omega)
  · split
    · exact quarter_at a b c d b 1 (by decide) rfl rfl p e f (by omega)
    · split
      · exact quarter_at a b c d c 2 (by decide) rfl rfl p e f (by omega)
      · exact quarter_at a b c d d 3 (by decide) rfl rfl p e f (by omega)

/-- The rows of the three tables. -/
theorem cosines_at (T : FVec Ideal S8192x2x32 .f32) (p : Fin 8192) (e : Fin 128) (a : Fin 2) (f : Fin 32) (ha : a.val = e.val / 64)
    (hf : f.val = e.val % 32) : cosines T (ix2 p e) = T (ix3 p a f) := by
  refine (quarters_at _ _ _ _ p e f hf).trans ?_
  by_cases h : e.val < 64
  · obtain rfl : a = 0 := Fin.ext (ha.trans (Nat.div_eq_of_lt h))
    rw [← half0_at T p f]
    split
    · rfl
    · rfl
  · obtain rfl : a = 1 := Fin.ext (ha.trans (by have := e.isLt; show e.val / 64 = 1; omega))
    rw [← half1_at T p f, if_neg (by omega), if_neg h]
    split <;> rfl
theorem ups_at (T : FVec Ideal S8192x2x32 .f32) (p : Fin 8192) (e : Fin 128) (a : Fin 2) (f : Fin 32) (ha : a.val = e.val / 64)
    (hf : f.val = e.val % 32) : ups T (ix2 p e) = if e.val % 64 < 32 then (0 : EReal) else T (ix3 p a f) := by
  have hl := e.isLt
  refine (quarters_at _ _ _ _ p e f hf).trans ?_
  by_cases h : e.val < 64
  · obtain rfl : a = 0 := Fin.ext (ha.trans (Nat.div_eq_of_lt h))
    by_cases h' : e.val < 32
    · rw [if_pos h', if_pos (by omega)]
      exact nothing_at _
    · rw [if_neg h', if_pos h, if_neg (by omega)]
      exact half0_at T p f
  · obtain rfl : a = 1 := Fin.ext (ha.trans (by show e.val / 64 = 1; omega))
    rw [if_neg (by omega), if_neg h]
    by_cases h' : e.val < 96
    · rw [if_pos h', if_pos (by omega)]
      exact nothing_at _
    · rw [if_neg h', if_neg (by omega)]
      exact half1_at T p f
theorem downs_at (T : FVec Ideal S8192x2x32 .f32) (p : Fin 8192) (e : Fin 128) (a : Fin 2) (f : Fin 32) (ha : a.val = e.val / 64)
    (hf : f.val = e.val % 32) : downs T (ix2 p e) = if e.val % 64 < 32 then (fun x : EReal => -x) (T (ix3 p a f)) else (0 : EReal) := by
  have hl := e.isLt
  refine (quarters_at _ _ _ _ p e f hf).trans ?_
  by_cases h : e.val < 64
  · obtain rfl : a = 0 := Fin.ext (ha.trans (Nat.div_eq_of_lt h))
    by_cases h' : e.val < 32
    · rw [if_pos h', if_pos (by omega)]
      exact congrArg (fun x : EReal => -x) (half0_at T p f)
    · rw [if_neg h', if_pos h, if_neg (by omega)]
      exact nothing_at _
  · obtain rfl : a = 1 := Fin.ext (ha.trans (by show e.val / 64 = 1; omega))
    rw [if_neg (by omega), if_neg h]
    by_cases h' : e.val < 96
    · rw [if_pos h', if_pos (by omega)]
      exact congrArg (fun x : EReal => -x) (half1_at T p f)
    · rw [if_neg h', if_neg (by omega)]
      exact nothing_at _

/-- A table's rows: those of the queries, of the keys, and of the context's queries and keys. -/
theorem table_queries (q : FVec Ideal S8192x128 .f32) (z o : FVec Ideal S512x128 .f32) (T : Fin 17408) (e : Fin 128) (p : Fin 8192) (hp : T.val = p.val) :
    table q z o (ix2 T e) = (fun x => x * scale) (q (ix2 p e)) := by
  refine concatenate_apply_piece (t := S17408x128) (0 : Fin 2) (parts q z o) concatenates_S8192x128_S8192x128_S512x128_S512x128_S17408x128_d0 (ix2 T e)
    0 (by show 0 < 4; omega) S8192x128 (scaled q) rfl rfl 0 rfl (ix2 p e) (fun b hb => ?_) ((Nat.zero_add _).trans hp.symm)
  fin_cases b
  · exact absurd rfl hb
  · rfl
theorem table_keys (q : FVec Ideal S8192x128 .f32) (z o : FVec Ideal S512x128 .f32) (T : Fin 17408) (e : Fin 128) (p : Fin 8192) (hp : T.val = 8192 + p.val) :
    table q z o (ix2 T e) = q (ix2 p e) := by
  refine concatenate_apply_piece (t := S17408x128) (0 : Fin 2) (parts q z o) concatenates_S8192x128_S8192x128_S512x128_S512x128_S17408x128_d0 (ix2 T e)
    1 (by show 1 < 4; omega) S8192x128 q rfl rfl 8192 rfl (ix2 p e) (fun b hb => ?_) hp.symm
  fin_cases b
  · exact absurd rfl hb
  · rfl
theorem table_contextQueries (q : FVec Ideal S8192x128 .f32) (z o : FVec Ideal S512x128 .f32) (T : Fin 17408) (e : Fin 128) (r : Fin 512) (hr : T.val = 16384 + r.val) :
    table q z o (ix2 T e) = z (ix2 r e) := by
  refine concatenate_apply_piece (t := S17408x128) (0 : Fin 2) (parts q z o) concatenates_S8192x128_S8192x128_S512x128_S512x128_S17408x128_d0 (ix2 T e)
    2 (by show 2 < 4; omega) S512x128 z rfl rfl 16384 rfl (ix2 r e) (fun b hb => ?_) hr.symm
  fin_cases b
  · exact absurd rfl hb
  · rfl
theorem table_contextKeys (q : FVec Ideal S8192x128 .f32) (z o : FVec Ideal S512x128 .f32) (T : Fin 17408) (e : Fin 128) (r : Fin 512) (hr : T.val = 16896 + r.val) :
    table q z o (ix2 T e) = o (ix2 r e) := by
  refine concatenate_apply_piece (t := S17408x128) (0 : Fin 2) (parts q z o) concatenates_S8192x128_S8192x128_S512x128_S512x128_S17408x128_d0 (ix2 T e)
    3 (by show 3 < 4; omega) S512x128 o rfl rfl 16896 rfl (ix2 r e) (fun b hb => ?_) hr.symm
  fin_cases b
  · exact absurd rfl hb
  · rfl

/-- The scale is a real number that isn't negative. -/
theorem scale_real : ∃ z : ℝ, 0 ≤ z ∧ scale = (z : EReal) := by
  refine ⟨8557550 / 67108864, by norm_num, ?_⟩
  simp [scale, Ideal.ofBits, Ideal.ieee, -EReal.coe_mul]
  norm_num

end Cert.RopeIdeal.Tiles

end
-- ==== Proof.Rope.Tile.lean ====
/- The projection to queries, keys and values with its turn: what each grid point leaves, over the extended reals, element by
   element, and the array the points make up. The weights' block is rounded at a column block's first point and kept for its others. -/
module

public import proofs.«01_k».proof.Proof.Rope.Tables
public import proofs.«01_k».proof.Proof.Carry
public import Idealize.ShloMosaic.Lib.Pipeline.ValueKit
public import Idealize.ShloMosaic.Lib.Pipeline.ReadBack
public import Idealize.ShloMosaic.Lib.Pipeline.Value
public import Idealize.ShloMosaic.Lib.Pipeline.Covers

@[expose] public section

set_option maxRecDepth 16384

noncomputable section

namespace Cert.RopeIdeal.Tiles

open Cert.RopeIdeal Cert.RopeIdeal.Gen Idealize Idealize.ShloMosaic Idealize.ShloMosaic.TcCoe Idealize.ShloMosaic.View Idealize.SL.Sem
open Idealize.ShloMosaic.Pipeline (Dat)
open Cert.RopeRefIdeal.Tiles (weightCol entry angle after before turn head scale element)

section Steps

variable {F : FTy → Type} [FloatOps F]
variable (m : (ℓ : Loc nD τ sig) → Buf (Elt F) ℓ)

/-- The weights' block at a point, rounded. -/
def rounded (t : Fin cfg0.N) : Vec F S4096x1024 .bf16 := k0_pay1 (iblk m 0 1 t)

/-- 128 columns of a block's product, from column `off`, turned by the tables' rows. -/
def piece (off : Fin 2 → ℕ) (h : S512x1024.Slices off S512x128) (P : FVec F S512x1024 .f32) (c u d : FVec F S512x128 .f32) : FVec F S512x128 .bf16 :=
  truncf .bf16 (addf (addf (mulf (extractStridedSlice S512x128 off P h) c)
    (mulf (dynamicRotate 1 32#32 none (extractStridedSlice S512x128 off P h) rotates_S512x128_d1) u))
    (mulf (dynamicRotate 1 96#32 none (extractStridedSlice S512x128 off P h) rotates_S512x128_d1) d)) bitsLt_bf16_f32

/-- The eight stores of a turned block, of the product and the tables' blocks. -/
def stores (P : FVec F S512x1024 .f32) (c u d : FVec F S512x128 .f32) : List (Piece (Elt F) S512x1024 .bf16) :=
  [⟨Rect.unit (s := S512x1024) ![0, 896] S512x128.size inb_S512x1024_S512x128_0_896, piece ![0, 896] slices_S512x1024_o0_896_S512x128 P c u d⟩,
    ⟨Rect.unit (s := S512x1024) ![0, 768] S512x128.size inb_S512x1024_S512x128_0_768, piece ![0, 768] slices_S512x1024_o0_768_S512x128 P c u d⟩,
    ⟨Rect.unit (s := S512x1024) ![0, 640] S512x128.size inb_S512x1024_S512x128_0_640, piece ![0, 640] slices_S512x1024_o0_640_S512x128 P c u d⟩,
    ⟨Rect.unit (s := S512x1024) ![0, 512] S512x128.size inb_S512x1024_S512x128_0_512, piece ![0, 512] slices_S512x1024_o0_512_S512x128 P c u d⟩,
    ⟨Rect.unit (s := S512x1024) ![0, 384] S512x128.size inb_S512x1024_S512x128_0_384, piece ![0, 384] slices_S512x1024_o0_384_S512x128 P c u d⟩,
    ⟨Rect.unit (s := S512x1024) ![0, 256] S512x128.size inb_S512x1024_S512x128_0_256, piece ![0, 256] slices_S512x1024_o0_256_S512x128 P c u d⟩,
    ⟨Rect.unit (s := S512x1024) ![0, 128] S512x128.size inb_S512x1024_S512x128_0_128, piece ![0, 128] slices_S512x1024_o0_128_S512x128 P c u d⟩,
    ⟨Rect.unit (s := S512x1024) ![0, 0] S512x128.size inb_S512x1024_S512x128_0_0, piece ![0, 0] slices_S512x1024_o0_0_S512x128 P c u d⟩]

/-- The block of the result from the weights held: turned in the columns of queries and keys, the product in those of values. -/
def spunBlock (t : Fin cfg0.N) (s : Vec F S4096x1024 .bf16) : Vec F S512x1024 .bf16 :=
  canon (stores (k0_pay5 (iblk m 0 0 t) s) (k0_pay6 (iblk m 0 2 t)) (k0_pay7 (iblk m 0 3 t)) (k0_pay8 (iblk m 0 4 t)))
def block (t : Fin cfg0.N) (s : Vec F S4096x1024 .bf16) : Vec F S512x1024 .bf16 :=
  if t.val < 132 then spunBlock m t s else k0_pay4 (iblk m 0 0 t) s

abbrev prev (t : Fin cfg0.N) := outsAt0 m 0 (t.val - 1) (Nat.lt_of_le_of_lt (Nat.sub_le _ _) t.isLt)

theorem first (t : Fin cfg0.N) (h : t.val % 33 = 0) : outsAt0 m 0 t.val t.isLt = (block m t (rounded m t), rounded m t) := by
  unfold block
  split
  · rename_i hc
    refine (outsAt0_A m 0 t h hc (by omega)).trans (Prod.ext ?_ ?_)
    all_goals dsimp only
    all_goals frame_out [read_unread_whole]
    all_goals rfl
  · rename_i hc
    refine (outsAt0_C m 0 t h hc (by omega)).trans (Prod.ext ?_ ?_)
    all_goals dsimp only
    all_goals frame_out [read_unread_whole]
    all_goals rfl
theorem later (t : Fin cfg0.N) (h : ¬t.val % 33 = 0) : outsAt0 m 0 t.val t.isLt = (block m t (prev m t).2, (prev m t).2) := by
  unfold block
  split
  · rename_i hc
    refine (outsAt0_B m 0 t h hc (by omega)).trans (Prod.ext ?_ ?_)
    · dsimp only
      frame_out [read_unread_whole]
      rfl
    · rfl
  · rename_i hc
    refine (outsAt0_D m 0 t h hc (by omega)).trans (Prod.ext ?_ ?_)
    dsimp only
    frame_out [read_unread_whole]
    rfl

/-- The tables' row block at a point. -/
def place (t : ℕ) : ℕ := if t % 33 < 32 then (if t / 33 < 2 then 0 else 16) + t % 33 % 16 else if t / 33 < 2 then 32 else 33
theorem idx0 : ∀ t : Fin cfg0.N, (cfg0.win 0).index t = ![t.val % 33, 0] := (by decide +kernel : ∀ t : Fin grid0.N, win0_0.index t = ![t.val % 33, 0])
theorem idx1 : ∀ t : Fin cfg0.N, (cfg0.win 1).index t = ![0, 0, t.val / 33 + 3] := (by decide +kernel : ∀ t : Fin grid0.N, win0_1.index t = ![0, 0, t.val / 33 + 3])
theorem idx2 : ∀ t : Fin cfg0.N, t.val < 132 → (cfg0.win 2).index t = ![place t.val, 0] := (by decide +kernel : ∀ t : Fin grid0.N, t.val < 132 → win0_2.index t = ![place t.val, 0])
theorem idx3 : ∀ t : Fin cfg0.N, t.val < 132 → (cfg0.win 3).index t = ![place t.val, 0] := (by decide +kernel : ∀ t : Fin grid0.N, t.val < 132 → win0_3.index t = ![place t.val, 0])
theorem idx4 : ∀ t : Fin cfg0.N, t.val < 132 → (cfg0.win 4).index t = ![place t.val, 0] := (by decide +kernel : ∀ t : Fin grid0.N, t.val < 132 → win0_4.index t = ![place t.val, 0])
theorem idx5 : ∀ t : Fin cfg0.N, (cfg0.win 5).index t = ![t.val % 33, t.val / 33] := (by decide +kernel : ∀ t : Fin grid0.N, win0_5.index t = ![t.val % 33, t.val / 33])

theorem rows (t : Fin cfg0.N) (r : Fin 512) (d : Fin 4096) (R : Fin 16896) (hR : R.val = t.val % 33 * 512 + r.val) :
    iblk m 0 0 t (ix2 r d) = m (((0 : Dev nD) : Thread nD τ).loc main_arg0) (ix2 R d) := by
  rw [← V_main_arg0 m 0]
  blk_ext [iblk, idx0 t]
theorem weights (t : Fin cfg0.N) (d : Fin 4096) (k : Fin 1024) (K : Fin 6144) (hK : K.val = t.val / 33 * 1024 + k.val) :
    iblk m 0 1 t (ix3 0 d k) = m (((0 : Dev nD) : Thread nD τ).loc main_arg1) (ix3 0 d (weightCol K)) := by
  have hw : (weightCol K).val = (t.val / 33 + 3) * 1024 + k.val := by show 3072 + K.val = _; omega
  rw [← V_main_arg1 m 0]
  blk_ext [iblk, idx1 t]
theorem cosineRow (t : Fin cfg0.N) (ht : t.val < 132) (r : Fin 512) (e : Fin 128) (T : Fin 17408) (hT : T.val = place t.val * 512 + r.val) :
    iblk m 0 2 t (ix2 r e) = V m 0 main_v29 (ix2 T e) := by
  blk_ext [iblk, idx2 t ht]
theorem upRow (t : Fin cfg0.N) (ht : t.val < 132) (r : Fin 512) (e : Fin 128) (T : Fin 17408) (hT : T.val = place t.val * 512 + r.val) :
    iblk m 0 3 t (ix2 r e) = V m 0 main_v32 (ix2 T e) := by
  blk_ext [iblk, idx3 t ht]
theorem downRow (t : Fin cfg0.N) (ht : t.val < 132) (r : Fin 512) (e : Fin 128) (T : Fin 17408) (hT : T.val = place t.val * 512 + r.val) :
    iblk m 0 4 t (ix2 r e) = V m 0 main_v35 (ix2 T e) := by
  blk_ext [iblk, idx4 t ht]

end Steps

theorem round_at (W : Vec Ideal S1x4096x1024 .f32) (d : Fin 4096) (k : Fin 1024) : k0_pay1 W (ix2 d k) = W (ix3 0 d k) := by
  pointwise [k0_pay1]
/-- The sum of a row's and a column's products. -/
def products (X : Vec Ideal S512x4096 .bf16) (A : Vec Ideal S4096x1024 .bf16) (r : Fin 512) (k : Fin 1024) : EReal :=
  ∑ d, X (ix2 r d) * A (ix2 d k)
theorem plain_at (X : Vec Ideal S512x4096 .bf16) (A : Vec Ideal S4096x1024 .bf16) (r : Fin 512) (k : Fin 1024) :
    k0_pay4 X A (ix2 r k) = products X A r k := by
  pointwise [k0_pay4]
  rfl
theorem product_at (X : Vec Ideal S512x4096 .bf16) (A : Vec Ideal S4096x1024 .bf16) (r : Fin 512) (k : Fin 1024) :
    k0_pay5 X A (ix2 r k) = products X A r k := by
  pointwise [k0_pay5]
  rfl

/-- A column's place among its 128; and the columns 32 before and after it there, going round. -/
def inner (k : Fin 1024) : Fin 128 := ⟨k.val % 128, Nat.mod_lt _ (by decide)⟩
def back (k : Fin 1024) : Fin 1024 := ⟨k.val / 128 * 128 + (k.val % 128 + 96) % 128, by omega⟩
def ahead (k : Fin 1024) : Fin 1024 := ⟨k.val / 128 * 128 + (k.val % 128 + 32) % 128, by omega⟩
/-- A turned block's element. -/
def spun (P : FVec Ideal S512x1024 .f32) (c u d : FVec Ideal S512x128 .f32) (i : S512x1024.Idx) : EReal :=
  P (ix2 (i 0) (i 1)) * c (ix2 (i 0) (inner (i 1))) + P (ix2 (i 0) (back (i 1))) * u (ix2 (i 0) (inner (i 1)))
    + P (ix2 (i 0) (ahead (i 1))) * d (ix2 (i 0) (inner (i 1)))

theorem piece_at (o : ℕ) (h : S512x1024.Slices ![0, o] S512x128) (P : FVec Ideal S512x1024 .f32) (c u d : FVec Ideal S512x128 .f32)
    (r : Fin 512) (e : Fin 128) (k : Fin 1024) (ho : o % 128 = 0) (hk : k.val = o + e.val) :
    piece ![0, o] h P c u d (ix2 r e) = spun P c u d (ix2 r k) := by
  have he := e.isLt
  have h0 : inner k = e := Fin.ext (by show k.val % 128 = e.val; omega)
  have h1 : (back k).val = o + (e.val + 96) % 128 := by show k.val / 128 * 128 + (k.val % 128 + 96) % 128 = _; omega
  have h2 : (ahead k).val = o + (e.val + 32) % 128 := by show k.val / 128 * 128 + (k.val % 128 + 32) % 128 = _; omega
  show _ = P (ix2 r k) * c (ix2 r (inner k)) + P (ix2 r (back k)) * u (ix2 r (inner k)) + P (ix2 r (ahead k)) * d (ix2 r (inner k))
  rw [h0]
  have slice_at : ∀ (f : Fin 128) (K : Fin 1024), K.val = o + f.val → extractStridedSlice S512x128 ![0, o] P h (ix2 r f) = P (ix2 r K) := fun f K hK => by
    refine congrArg P (funext fun a => Fin.ext ?_)
    fin_cases a
    · exact Nat.zero_add _
    · exact hK.symm
  refine congrArg₂ (· + ·) (congrArg₂ (· + ·) (congrArg (· * c (ix2 r e)) (slice_at e k hk)) (congrArg (· * u (ix2 r e)) ?_)) (congrArg (· * d (ix2 r e)) ?_)
  · refine Eq.trans ?_ (slice_at ⟨(e.val + 96) % 128, Nat.mod_lt _ (by decide)⟩ (back k) h1)
    refine (Pointwise.dynamicRotate_apply _ _ _ _ _ _).trans (congrArg (extractStridedSlice S512x128 ![0, o] P h) (funext fun a => Fin.ext ?_))
    fin_cases a
    · rfl
    · show (e.val + 128 - (32 + 0) % 128) % 128 = (e.val + 96) % 128
      omega
  · refine Eq.trans ?_ (slice_at ⟨(e.val + 32) % 128, Nat.mod_lt _ (by decide)⟩ (ahead k) h2)
    refine (Pointwise.dynamicRotate_apply _ _ _ _ _ _).trans (congrArg (extractStridedSlice S512x128 ![0, o] P h) (funext fun a => Fin.ext ?_))
    fin_cases a
    · rfl
    · show (e.val + 128 - (96 + 0) % 128) % 128 = (e.val + 32) % 128
      omega

/-- A store's elements are the turned block's, at its rectangle's indices. -/
theorem store_at (o : ℕ) (inb : ∀ a, (![0, o] : Fin 2 → Nat) a + S512x128.size a ≤ S512x1024.size a) (h : S512x1024.Slices ![0, o] S512x128)
    (ho : o % 128 = 0) (P : FVec Ideal S512x1024 .f32) (c u d : FVec Ideal S512x128 .f32) (x : S512x128.Idx) :
    piece ![0, o] h P c u d x = spun P c u d ((Rect.unit (s := S512x1024) ![0, o] S512x128.size inb).emb x) := by
  have hx : x = ix2 (x 0) (x 1) := funext fun a => by fin_cases a <;> rfl
  have h1 : o + 128 ≤ 1024 := inb 1
  have h2 : (x 1).val < 128 := (x 1).isLt
  refine (congrArg (piece ![0, o] h P c u d) hx).trans ((piece_at o h P c u d (x 0) (x 1) ⟨o + (x 1).val, by omega⟩ ho rfl).trans ?_)
  refine congrArg (spun P c u d) (funext fun a => Fin.ext ?_)
  fin_cases a
  · show (x 0).val = 0 + 1 * (x 0).val
    omega
  · show o + (x 1).val = o + 1 * (x 1).val
    omega

theorem canon_at (P : FVec Ideal S512x1024 .f32) (c u d : FVec Ideal S512x128 .f32) (i : S512x1024.Idx) :
    canon (stores P c u d) i = spun P c u d i := by
  refine canon_apply_of_pieces (spun P c u d) (stores P c u d) ?_ i (View.cover_of_tiledL (stores P c u d) S512x128.size (by sl_kernel_rfl) i)
  simp only [stores, List.forall_mem_cons, List.not_mem_nil, false_implies, implies_true, and_true]
  refine ⟨?_, ?_, ?_, ?_, ?_, ?_, ?_, ?_⟩ <;> exact store_at _ _ _ (by decide) P c u d

/-- What a row's table elements make of the products: the turn, scaled by a real number that isn't negative, or not; and a row left as it is. -/
theorem latent_low (y y' y'' a s : EReal) : y * (fun x => x * scale) a + y' * (fun x => x * scale) 0 + y'' * (fun x => x * scale) (-s) = (y * a - y'' * s) * scale := by
  obtain ⟨z, hz, hs⟩ := scale_real
  rw [hs]
  beta_reduce
  rw [zero_mul, mul_zero, add_zero, ← mul_assoc, ← mul_assoc, mul_neg, sub_eq_add_neg,
    EReal.right_distrib_of_nonneg_of_ne_top (EReal.coe_nonneg.mpr hz) (EReal.coe_ne_top z)]
theorem latent_high (y y' y'' a s : EReal) : y * (fun x => x * scale) a + y' * (fun x => x * scale) s + y'' * (fun x => x * scale) 0 = (y * a + y' * s) * scale := by
  obtain ⟨z, hz, hs⟩ := scale_real
  rw [hs]
  beta_reduce
  rw [zero_mul, mul_zero, add_zero, ← mul_assoc, ← mul_assoc,
    EReal.right_distrib_of_nonneg_of_ne_top (EReal.coe_nonneg.mpr hz) (EReal.coe_ne_top z)]
theorem key_low (y y' y'' a s : EReal) : y * a + y' * 0 + y'' * -s = y * a - y'' * s := by
  rw [mul_zero, add_zero, mul_neg, sub_eq_add_neg]
theorem key_high (y y' y'' a s : EReal) : y * a + y' * s + y'' * 0 = y * a + y' * s := by
  rw [mul_zero, add_zero]
theorem kept (y y' y'' c : EReal) : y * (0 + c) + y' * 0 + y'' * 0 = y * c := by
  rw [mul_zero, mul_zero, add_zero, add_zero, zero_add]

/-- The tables' rows at a column: the angle there, the sign and the half it takes part in. -/
theorem cosines_angle (C : FVec Ideal S8192x2x32 .f32) (R : Fin 16896) (K : Fin 6144) (k : Fin 1024) (hk : k.val % 128 = K.val % 128) :
    cosines C (ix2 ⟨R.val % 8192, Nat.mod_lt _ (by decide)⟩ (inner k)) = angle C R K :=
  cosines_at C _ (inner k) ⟨K.val / 64 % 2, Nat.mod_lt _ (by decide)⟩ ⟨K.val % 32, Nat.mod_lt _ (by decide)⟩
    (by show K.val / 64 % 2 = k.val % 128 / 64; omega) (by show K.val % 32 = k.val % 128 % 32; omega)
theorem ups_angle (S : FVec Ideal S8192x2x32 .f32) (R : Fin 16896) (K : Fin 6144) (k : Fin 1024) (hk : k.val % 128 = K.val % 128) :
    ups S (ix2 ⟨R.val % 8192, Nat.mod_lt _ (by decide)⟩ (inner k)) = if K.val % 64 < 32 then (0 : EReal) else angle S R K := by
  refine (ups_at S _ (inner k) ⟨K.val / 64 % 2, Nat.mod_lt _ (by decide)⟩ ⟨K.val % 32, Nat.mod_lt _ (by decide)⟩
    (by show K.val / 64 % 2 = k.val % 128 / 64; omega) (by show K.val % 32 = k.val % 128 % 32; omega)).trans ?_
  rw [show (inner k).val % 64 = K.val % 64 from by show k.val % 128 % 64 = K.val % 64; omega]
  rfl
theorem downs_angle (S : FVec Ideal S8192x2x32 .f32) (R : Fin 16896) (K : Fin 6144) (k : Fin 1024) (hk : k.val % 128 = K.val % 128) :
    downs S (ix2 ⟨R.val % 8192, Nat.mod_lt _ (by decide)⟩ (inner k)) = if K.val % 64 < 32 then (fun x : EReal => -x) (angle S R K) else (0 : EReal) := by
  refine (downs_at S _ (inner k) ⟨K.val / 64 % 2, Nat.mod_lt _ (by decide)⟩ ⟨K.val % 32, Nat.mod_lt _ (by decide)⟩
    (by show K.val / 64 % 2 = k.val % 128 / 64; omega) (by show K.val % 32 = k.val % 128 % 32; omega)).trans ?_
  rw [show (inner k).val % 64 = K.val % 64 from by show k.val % 128 % 64 = K.val % 64; omega]
  rfl

variable (m : (ℓ : Loc nD τ sig) → Buf (Elt Ideal) ℓ)

/-- Argument `l`, as launched. -/
abbrev arg (l : Ref sig .tc) : Buf (Elt Ideal) (((0 : Dev nD) : Thread nD τ).loc l) := m _

/-- The result array, of the arguments' buffers. -/
def result (i : S16896x6144.Idx) : EReal :=
  element (entry (arg m main_arg0) (arg m main_arg1)) (arg m main_arg2) (arg m main_arg3) (i 0) (i 1)

/-- The weights held are the argument's columns of column block `j`. -/
def Columns (j : ℕ) (s : Vec Ideal S4096x1024 .bf16) : Prop :=
  ∀ (d : Fin 4096) (k : Fin 1024) (K : Fin 6144), K.val = j * 1024 + k.val → s (ix2 d k) = arg m main_arg1 (ix3 0 d (weightCol K))

theorem columns (t : Fin cfg0.N) : Columns m (t.val / 33) (rounded m t) := fun d k K hK =>
  (round_at (iblk m 0 1 t) d k).trans (weights m t d k K hK)

/-- The product of a point's rows and the weights held. -/
theorem entry_at (t : Fin cfg0.N) (s : Vec Ideal S4096x1024 .bf16) (hs : Columns m (t.val / 33) s) (r : Fin 512) (k : Fin 1024) (R : Fin 16896) (K : Fin 6144)
    (hR : R.val = t.val % 33 * 512 + r.val) (hK : K.val = t.val / 33 * 1024 + k.val) :
    products (iblk m 0 0 t) s r k = entry (arg m main_arg0) (arg m main_arg1) R K :=
  Cert.Carry.dots (fun d => rows m t r d R hR) fun d => hs d k K hK

/-- The tables' elements at a point. -/
theorem cell (w : Vec Ideal S512x128 .f32) (i : S512x128.Idx) : shapeCast S512x128 w shapeCasts_S512x128_S512x128 i = w i :=
  congrFun (shapeCast_self w _) i

section Turned

variable (t : Fin cfg0.N) (ht : t.val < 132) (r : Fin 512) (k : Fin 1024) (R : Fin 16896) (K : Fin 6144)
  (hR : R.val = t.val % 33 * 512 + r.val) (hK : K.val = t.val / 33 * 1024 + k.val)

include ht

/-- The tables' elements that a point's element takes, given where its row is in them. -/
theorem cosine_at (T : Fin 17408) (hT : T.val = place t.val * 512 + r.val) :
    k0_pay6 (iblk m 0 2 t) (ix2 r (inner k)) = table (cosines (arg m main_arg2)) (addf (filled 0#32) (filled 0x3E0293EE#32)) (addf (filled 0#32) (filled 0x3F800000#32)) (ix2 T (inner k)) :=
  (cell _ _).trans ((cosineRow m t ht r (inner k) T hT).trans (congrFun (V_cosines m) _))
theorem up_at (T : Fin 17408) (hT : T.val = place t.val * 512 + r.val) :
    k0_pay7 (iblk m 0 3 t) (ix2 r (inner k)) = table (ups (arg m main_arg3)) (filled 0#32) (filled 0#32) (ix2 T (inner k)) :=
  (cell _ _).trans ((upRow m t ht r (inner k) T hT).trans (congrFun (V_ups m) _))
theorem down_at (T : Fin 17408) (hT : T.val = place t.val * 512 + r.val) :
    k0_pay8 (iblk m 0 4 t) (ix2 r (inner k)) = table (downs (arg m main_arg3)) (filled 0#32) (filled 0#32) (ix2 T (inner k)) :=
  (cell _ _).trans ((downRow m t ht r (inner k) T hT).trans (congrFun (V_downs m) _))

include hR hK

/-- The element turned, of the products there and 32 columns before and after, and of the tables' elements. -/
theorem turned_at (y y' y'' : EReal)
    (hb : ¬K.val % 64 < 32 → y' = entry (arg m main_arg0) (arg m main_arg1) R (before K))
    (ha : K.val % 64 < 32 → y'' = entry (arg m main_arg0) (arg m main_arg1) R (after K))
    (hy : y = entry (arg m main_arg0) (arg m main_arg1) R K) :
    y * k0_pay6 (iblk m 0 2 t) (ix2 r (inner k)) + y' * k0_pay7 (iblk m 0 3 t) (ix2 r (inner k)) + y'' * k0_pay8 (iblk m 0 4 t) (ix2 r (inner k))
      = result m (ix2 R K) := by
  have hr := r.isLt
  have hk := k.isLt
  have hR' := R.isLt
  have hkK : k.val % 128 = K.val % 128 := by omega
  have hc := cosines_angle (arg m main_arg2) R K k hkK
  have hu := ups_angle (arg m main_arg3) R K k hkK
  have hd := downs_angle (arg m main_arg3) R K k hkK
  have hrow : t.val % 33 < 32 ↔ R.val < 16384 := by omega
  have hcol : t.val / 33 < 2 ↔ K.val < 2048 := by omega
  have hheads : K.val < 4096 := by omega
  show _ = element _ _ _ R K
  unfold element head turn
  by_cases h : R.val < 16384
  · have hm : place t.val * 512 + r.val = (if K.val < 2048 then 0 else 8192) + R.val % 8192 := by
      unfold place
      rw [if_pos (hrow.mpr h)]
      clear hc hu hd
      by_cases h2 : K.val < 2048
      · rw [if_pos h2, if_pos (hcol.mpr h2)]; omega
      · rw [if_neg h2, if_neg fun x => h2 (hcol.mp x)]; omega
    by_cases h2 : K.val < 2048
    · rw [if_pos h2] at hm
      rw [if_pos h2, if_pos h, cosine_at m t ht r k ⟨R.val % 8192, by omega⟩ (by rw [hm]; exact (Nat.zero_add _).symm), up_at m t ht r k ⟨R.val % 8192, by omega⟩ (by rw [hm]; exact (Nat.zero_add _).symm),
        down_at m t ht r k ⟨R.val % 8192, by omega⟩ (by rw [hm]; exact (Nat.zero_add _).symm),
        table_queries _ _ _ _ _ ⟨R.val % 8192, Nat.mod_lt _ (by decide)⟩ rfl, table_queries _ _ _ _ _ ⟨R.val % 8192, Nat.mod_lt _ (by decide)⟩ rfl,
        table_queries _ _ _ _ _ ⟨R.val % 8192, Nat.mod_lt _ (by decide)⟩ rfl, hc, hu, hd]
      by_cases hp : K.val % 64 < 32
      · rw [if_pos hp, if_pos hp, if_pos hp, ha hp, hy]
        exact latent_low _ _ _ _ _
      · rw [if_neg hp, if_neg hp, if_neg hp, hb hp, hy]
        exact latent_high _ _ _ _ _
    · rw [if_neg h2] at hm
      rw [if_neg h2, if_pos hheads, if_pos h, cosine_at m t ht r k ⟨8192 + R.val % 8192, by omega⟩ hm.symm, up_at m t ht r k ⟨8192 + R.val % 8192, by omega⟩ hm.symm,
        down_at m t ht r k ⟨8192 + R.val % 8192, by omega⟩ hm.symm,
        table_keys _ _ _ _ _ ⟨R.val % 8192, Nat.mod_lt _ (by decide)⟩ rfl, table_keys _ _ _ _ _ ⟨R.val % 8192, Nat.mod_lt _ (by decide)⟩ rfl,
        table_keys _ _ _ _ _ ⟨R.val % 8192, Nat.mod_lt _ (by decide)⟩ rfl, hc, hu, hd]
      by_cases hp : K.val % 64 < 32
      · rw [if_pos hp, if_pos hp, if_pos hp, ha hp, hy]
        exact key_low _ _ _ _ _
      · rw [if_neg hp, if_neg hp, if_neg hp, hb hp, hy]
        exact key_high _ _ _ _ _
  · have hm : place t.val * 512 + r.val = (if K.val < 2048 then 16384 else 16896) + r.val := by
      unfold place
      rw [if_neg fun x => h (hrow.mp x)]
      clear hc hu hd
      by_cases h2 : K.val < 2048
      · rw [if_pos h2, if_pos (hcol.mpr h2)]
      · rw [if_neg h2, if_neg fun x => h2 (hcol.mp x)]
    have hz : Ideal.ofBits .f32 0#32 = (0 : EReal) := Ideal.ofBits_zero .f32
    by_cases h2 : K.val < 2048
    · rw [if_pos h2] at hm
      rw [if_pos h2, if_neg h, cosine_at m t ht r k ⟨16384 + r.val, by omega⟩ hm.symm, up_at m t ht r k ⟨16384 + r.val, by omega⟩ hm.symm,
        down_at m t ht r k ⟨16384 + r.val, by omega⟩ hm.symm,
        table_contextQueries _ _ _ _ _ r rfl, table_contextQueries _ _ _ _ _ r rfl, table_contextQueries _ _ _ _ _ r rfl, filled_at, hz, hy]
      exact (congrArg (fun z => entry (arg m main_arg0) (arg m main_arg1) R K * (z + scale) + y' * 0 + y'' * 0) hz).trans (kept _ _ _ _)
    · rw [if_neg h2] at hm
      rw [if_neg h2, if_pos hheads, if_neg h, cosine_at m t ht r k ⟨16896 + r.val, by omega⟩ hm.symm, up_at m t ht r k ⟨16896 + r.val, by omega⟩ hm.symm,
        down_at m t ht r k ⟨16896 + r.val, by omega⟩ hm.symm,
        table_contextKeys _ _ _ _ _ r rfl, table_contextKeys _ _ _ _ _ r rfl, table_contextKeys _ _ _ _ _ r rfl, filled_at, hz, hy]
      exact (congrArg₂ (fun z o => entry (arg m main_arg0) (arg m main_arg1) R K * (z + o) + y' * 0 + y'' * 0) hz Ideal.ofBits_one_f32).trans ((kept _ _ _ _).trans (mul_one _))

end Turned

/-- One element of the block a point leaves. -/
theorem point (t : Fin cfg0.N) (r : Fin 512) (k : Fin 1024) (R : Fin 16896) (K : Fin 6144)
    (hR : R.val = t.val % 33 * 512 + r.val) (hK : K.val = t.val / 33 * 1024 + k.val) :
    (outsAt0 m 0 t.val t.isLt).1 (ix2 r k) = result m (ix2 R K) := by
  have hk := k.isLt
  have hK' := K.isLt
  have hN : t.val / 33 * 1024 + k.val < 6144 := hK ▸ hK'
  have hb : ¬K.val % 64 < 32 → (before K).val = t.val / 33 * 1024 + (back k).val := fun h => by
    show (K.val + 6112) % 6144 = t.val / 33 * 1024 + (k.val / 128 * 128 + (k.val % 128 + 96) % 128)
    omega
  have ha : K.val % 64 < 32 → (after K).val = t.val / 33 * 1024 + (ahead k).val := fun h => by
    show (K.val + 32) % 6144 = t.val / 33 * 1024 + (k.val / 128 * 128 + (k.val % 128 + 32) % 128)
    omega
  obtain ⟨s, hs, he⟩ := Cert.Carry.carried (outsAt0 m 0) (rounded m) (block m) (first m) (later m) (Columns m) (columns m) t.val t.isLt
  rw [he]
  clear he
  unfold block
  by_cases ht : t.val < 132
  · refine (congrFun (if_pos ht) _).trans ((canon_at _ _ _ _ (ix2 r k)).trans (turned_at m t ht r k R K hR hK _ _ _ (fun h => ?_) (fun h => ?_) ?_))
    · exact (product_at _ s r (back k)).trans (entry_at m t s hs r (back k) R (before K) hR (hb h))
    · exact (product_at _ s r (ahead k)).trans (entry_at m t s hs r (ahead k) R (after K) hR (ha h))
    · exact (product_at _ s r k).trans (entry_at m t s hs r k R K hR hK)
  · refine (congrFun (if_neg ht) _).trans ((plain_at _ s r k).trans ((entry_at m t s hs r k R K hR hK).trans ?_))
    show _ = element _ _ _ R K
    unfold element
    rw [if_neg (by omega), if_neg (by omega)]

/-- Every block of the result is some point's. -/
theorem covers : (cfg0.win 5).Covers := by
  refine Pipeline.Window.covers_of_index_surj _ rfl (fun a => by fin_cases a <;> exact Nat.zero_lt_succ _) fun β => ?_
  have h0 : (β (0 : Fin 2)).val < 33 := Nat.lt_of_lt_of_eq (β (0 : Fin 2)).isLt (by show (16896 + 512 - 1) / 512 = 33; rfl)
  have h1 : (β (1 : Fin 2)).val < 6 := Nat.lt_of_lt_of_eq (β (1 : Fin 2)).isLt (by show (6144 + 1024 - 1) / 1024 = 6; rfl)
  refine ⟨⟨(β (1 : Fin 2)).val * 33 + (β (0 : Fin 2)).val, Nat.lt_of_lt_of_eq (by omega) N_0.symm⟩, fun a => ?_⟩
  rw [idx5]
  fin_cases a
  · show ((β (1 : Fin 2)).val * 33 + (β (0 : Fin 2)).val) % 33 = (β (0 : Fin 2)).val
    omega
  · show ((β (1 : Fin 2)).val * 33 + (β (0 : Fin 2)).val) / 33 = (β (1 : Fin 2)).val
    omega

/-- The result array after the run. -/
theorem final : (dats m 0 0).arrAt 5 cfg0.N = result m := by
  refine (dats m 0 0).arrAt_eq_of_covers 5 _ covers fun t _ (y : S512x1024.Idx) => ?_
  blk_simp
  rw [after0_5]
  have hy : y = ix2 (y 0) (y 1) := funext fun a => by fin_cases a <;> rfl
  have h0 : (y 0).val < 512 := (y 0).isLt
  have h1 : (y 1).val < 1024 := (y 1).isLt
  have ht : t.val < 198 := Nat.lt_of_lt_of_eq t.isLt N_0
  have hR : t.val % 33 * 512 + (y 0).val < 16896 := by omega
  have hK : t.val / 33 * 1024 + (y 1).val < 6144 := by omega
  refine ((congrArg (outsAt0 m 0 t.val t.isLt).1 hy).trans (point m t (y 0) (y 1) ⟨_, hR⟩ ⟨_, hK⟩ rfl rfl)).trans ?_
  refine congrArg (result m) (?_ : ix2 (⟨_, hR⟩ : Fin 16896) (⟨_, hK⟩ : Fin 6144) = ((cfg0.win 5).blk t).view.emb y)
  blk_ext [idx5 t]

end Cert.RopeIdeal.Tiles

end
-- ==== Proof.Rope.Claims.lean ====
/- The claims of the projection to queries, keys and values with its turn: the reference's frame, and that over the extended reals kernel and reference leave
   the same array. -/
module

public import proofs.«01_k».proof.Defs
public import proofs.«01_k».proof.Proof.Rope.Tile
public import Idealize.ShloMosaic.Lib.Quiescent

@[expose] public section

set_option maxRecDepth 16384

noncomputable section

namespace Cert.Proof.Rope

open Idealize Idealize.ShloMosaic Idealize.ShloMosaic.TcCoe Idealize.SL.Sem Cert.RopeIdeal.Tiles

attribute [local instance] Cert.RopeIdeal.Gen.facts Cert.RopeRefIdeal.Gen.facts

/-- The reference runs to the end and keeps its arguments; it has no semaphores. -/
theorem frame_ref : Cert.quiescent_RopeRefIdeal := fun m ρ _ =>
  (θ_run Cert.RopeRefIdeal.defs _ _).mono (fun r h => ⟨fun c => (h c).2, sem_eq_zero_of_no_sems (by decide) r.2⟩)
    (Cert.RopeRefIdeal.Tiles.run m ρ)

/-- Over the extended reals the kernel's array is the reference's. -/
theorem algebraic : Cert.algebraic_RopeIdeal_RopeRefIdeal := by
  intro m g m' g' hp hagree
  refine ⟨fun c => (Cert.RopeIdeal.Gen.dats m 0 c).arrAt 5 Cert.RopeIdeal.cfg0.N,
    (θ_run Cert.RopeIdeal.defs _ _).mono (fun r h c => ⟨(h.1 c).1 5, h.2 c⟩)
      (θ_run_and (Cert.RopeIdeal.Gen.run_main m g) (Cert.RopeIdeal.Gen.unchanged m g)), ?_⟩
  refine (θ_run Cert.RopeRefIdeal.defs _ _).mono (fun _ h c => ⟨(h c).1.trans ?_, (h c).2⟩)
    (Cert.RopeRefIdeal.Tiles.run m' g')
  obtain rfl : c = 0 := Subsingleton.elim _ _
  obtain ⟨h0, h1, h2, h3⟩ := hagree 0
  unfold Cert.RopeRefIdeal.Tiles.rowsOf
  rw [h0, h1, h2, h3]
  refine Eq.trans (funext fun y => ?_) (final m).symm
  have hy : y = ix2 (y 0) (y 1) := funext fun a => by fin_cases a <;> rfl
  exact (congrArg _ hy).trans (Cert.RopeRefIdeal.Tiles.out_at _ _ _ _ (y 0) (y 1))

end Cert.Proof.Rope

end
-- ==== Proof.lean ====
/- The claims of the differential attention, of the experts' products, of the merge of the branches and of the products by
   the layer's own weights: that each kernel and its reference run to the end, keep their arguments and leave every semaphore at zero, and that over the extended reals both leave the same
   result, the attention on arguments whose queries, keys, values and map vectors are real numbers, the experts' products
   on a table whose words are experts' numbers. The mathematics is in the modules under `Proof/`; here its theorems are
   put together. -/
module

public import proofs.«01_k».proof.Defs
public import proofs.«01_k».proof.Proof.Array
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Swiglu.Claims
public import proofs.«01_k».proof.Proof.Down.Claims
public import proofs.«01_k».proof.Proof.Gen.Merge.Frame
public import proofs.«01_k».proof.Proof.Merge.Claims
public import proofs.«01_k».proof.Proof.Gen.Dense.Frame
public import proofs.«01_k».proof.Proof.Dense.Claims
public import proofs.«01_k».proof.Proof.Gen.Glu.Frame
public import proofs.«01_k».proof.Proof.Glu.Claims
public import proofs.«01_k».proof.Proof.Gen.Mix.Frame
public import proofs.«01_k».proof.Proof.Mix.Claims
public import proofs.«01_k».proof.Proof.Gen.Ffn.Frame
public import proofs.«01_k».proof.Proof.Ffn.Claims
public import proofs.«01_k».proof.Proof.Gen.Rope.Frame
public import proofs.«01_k».proof.Proof.Rope.Claims
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs to the end and keeps its arguments; it has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result is the reference's: the kernel's array is the reference's term over the arguments, which agree. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  obtain ⟨hA, hL⟩ := Attn.pre_real m c hpre
  refine (Attn.Ref.res_eq m' c).trans (Eq.trans ?_ (Attn.final m c hA hL).symm)
  rw [(hagree c).1, (hagree c).2.1, (hagree c).2.2]

theorem claim : Cert.Claim := ⟨Cert.Kernel.Gen.facts, Cert.KernelIdeal.Gen.facts, Cert.ReferenceIdeal.Gen.facts,
  Cert.Swiglu.Gen.facts, Cert.SwigluIdeal.Gen.facts, Cert.SwigluRefIdeal.Gen.facts,
  Cert.Down.Gen.facts, Cert.DownIdeal.Gen.facts, Cert.DownRefIdeal.Gen.facts,
  Cert.Merge.Gen.facts, Cert.MergeIdeal.Gen.facts, Cert.MergeRefIdeal.Gen.facts,
  Cert.Dense.Gen.facts, Cert.DenseIdeal.Gen.facts, Cert.DenseRefIdeal.Gen.facts,
  Cert.Glu.Gen.facts, Cert.GluIdeal.Gen.facts, Cert.GluRefIdeal.Gen.facts,
  Cert.Mix.Gen.facts, Cert.MixIdeal.Gen.facts, Cert.MixRefIdeal.Gen.facts,
  Cert.Ffn.Gen.facts, Cert.FfnIdeal.Gen.facts, Cert.FfnRefIdeal.Gen.facts,
  Cert.Rope.Gen.facts, Cert.RopeIdeal.Gen.facts, Cert.RopeRefIdeal.Gen.facts,
  Cert.Pre_finite.Gen.facts, Cert.Pre_experts2.Gen.facts, Cert.Pre_experts3.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  Swiglu.frame_bits, Swiglu.frame_ideal, Swiglu.frame_ref, Swiglu.frame_ref_experts2,
  Down.frame_bits, Down.frame_ideal, Down.frame_ref, Down.frame_ref_experts3,
  fun m ρ _ => Cert.Merge.Gen.frame m ρ, fun m ρ _ => Cert.MergeIdeal.Gen.frame m ρ, Merge.frame_ref,
  fun m ρ _ => Cert.Dense.Gen.frame m ρ, fun m ρ _ => Cert.DenseIdeal.Gen.frame m ρ, Dense.frame_ref,
  fun m ρ _ => Cert.Glu.Gen.frame m ρ, fun m ρ _ => Cert.GluIdeal.Gen.frame m ρ, Glu.frame_ref,
  fun m ρ _ => Cert.Mix.Gen.frame m ρ, fun m ρ _ => Cert.MixIdeal.Gen.frame m ρ, Mix.frame_ref,
  fun m ρ _ => Cert.Ffn.Gen.frame m ρ, fun m ρ _ => Cert.FfnIdeal.Gen.frame m ρ, Ffn.frame_ref,
  fun m ρ _ => Cert.Rope.Gen.frame m ρ, fun m ρ _ => Cert.RopeIdeal.Gen.frame m ρ, Rope.frame_ref,
  trivial, algebraic, trivial, Swiglu.algebraic, trivial, Down.algebraic, trivial, Merge.algebraic,
  trivial, Dense.algebraic, trivial, Glu.algebraic, trivial, Mix.algebraic, trivial, Ffn.algebraic,
  trivial, Rope.algebraic⟩

end Cert.Proof

end
